-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Hidden (m : (ℓ : Loc Cert.Hidden.nD Cert.Hidden.τ Cert.Hidden.sig) → Buf (Elt Bits) ℓ) : Prop :=
  True

def Pre_HiddenIdeal (m : (ℓ : Loc Cert.HiddenIdeal.nD Cert.HiddenIdeal.τ Cert.HiddenIdeal.sig) → Buf (Elt Ideal) ℓ) : Prop :=
  True

def Pre_HiddenReferenceIdeal (m : (ℓ : Loc Cert.HiddenReferenceIdeal.nD Cert.HiddenReferenceIdeal.τ Cert.HiddenReferenceIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteIdeal_finite [hPre_finite : Cert.Pre_finite.Facts] (m : (ℓ : Loc Cert.RouteIdeal.nD Cert.RouteIdeal.τ Cert.RouteIdeal.sig) → Buf (Elt Ideal) ℓ) : Prop :=
  ∀ c : Dev Cert.RouteIdeal.nD,
    (Cert.Pre_finite.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2)) (m ((c.tc : Thread Cert.RouteIdeal.nD Cert.RouteIdeal.τ).loc Cert.RouteIdeal.main_arg3))) = (fun _ => 1#1)

def Pre_RouteReferenceIdeal (m : (ℓ : Loc Cert.RouteReferenceIdeal.nD Cert.RouteReferenceIdeal.τ Cert.RouteReferenceIdeal.sig) → Buf (Elt Ideal) ℓ) : Prop :=
  True

def Pre_RouteReferenceIdeal_finite [hPre_finite : Cert.Pre_finite.Facts] (m : (ℓ : Loc Cert.RouteReferenceIdeal.nD Cert.RouteReferenceIdeal.τ Cert.RouteReferenceIdeal.sig) → Buf (Elt Ideal) ℓ) : Prop :=
  ∀ c : Dev Cert.RouteReferenceIdeal.nD,
    (Cert.Pre_finite.fn (F := Ideal) (m ((c.tc : Thread Cert.RouteReferenceIdeal.nD Cert.RouteReferenceIdeal.τ).loc Cert.RouteReferenceIdeal.main_arg0)) (m ((c.tc : Thread Cert.RouteReferenceIdeal.nD Cert.RouteReferenceIdeal.τ).loc Cert.RouteReferenceIdeal.main_arg1)) (m ((c.tc : Thread Cert.RouteReferenceIdeal.nD Cert.RouteReferenceIdeal.τ).loc Cert.RouteReferenceIdeal.main_arg2)) (m ((c.tc : Thread Cert.RouteReferenceIdeal.nD Cert.RouteReferenceIdeal.τ).loc Cert.RouteReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Hidden [hHidden : Cert.Hidden.Facts] : Prop :=
  ∀ (m : (ℓ : Loc Cert.Hidden.nD Cert.Hidden.τ Cert.Hidden.sig) → Buf (Elt Bits) ℓ) (g : Dev Cert.Hidden.nD → PrngReg), Pre_Hidden m →
    θ_run (Cert.Hidden.defs (F := Bits)) (onTc (τ := Cert.Hidden.τ) (Cert.Hidden.main (F := Bits))) ⟨m, fun _ => 0, g⟩ (fun r => (∀ c : Dev Cert.Hidden.nD,
      r.2.mem ((c.tc : Thread Cert.Hidden.nD Cert.Hidden.τ).loc Cert.Hidden.main_arg0) = m ((c.tc : Thread Cert.Hidden.nD Cert.Hidden.τ).loc Cert.Hidden.main_arg0)
      ∧ r.2.mem ((c.tc : Thread Cert.Hidden.nD Cert.Hidden.τ).loc Cert.Hidden.main_arg1) = m ((c.tc : Thread Cert.Hidden.nD Cert.Hidden.τ).loc Cert.Hidden.main_arg1)
      ∧ r.2.mem ((c.tc : Thread Cert.Hidden.nD Cert.Hidden.τ).loc Cert.Hidden.main_arg2) = m ((c.tc : Thread Cert.Hidden.nD Cert.Hidden.τ).loc Cert.Hidden.main_arg2))
      ∧ r.2.sem = fun _ => 0)

def quiescent_HiddenIdeal [hHiddenIdeal : Cert.HiddenIdeal.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
      ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2))
      ∧ r.2.sem = fun _ => 0)

def quiescent_HiddenReferenceIdeal [hHiddenReferenceIdeal : Cert.HiddenReferenceIdeal.Facts] : Prop :=
  ∀ (m : (ℓ : Loc Cert.HiddenReferenceIdeal.nD Cert.HiddenReferenceIdeal.τ Cert.HiddenReferenceIdeal.sig) → Buf (Elt Ideal) ℓ) (g : Dev Cert.HiddenReferenceIdeal.nD → PrngReg), Pre_HiddenReferenceIdeal m →
    θ_run (Cert.HiddenReferenceIdeal.defs (F := Ideal)) (onTc (τ := Cert.HiddenReferenceIdeal.τ) (Cert.HiddenReferenceIdeal.main (F := Ideal))) ⟨m, fun _ => 0, g⟩ (fun r => (∀ c : Dev Cert.HiddenReferenceIdeal.nD,
      r.2.mem ((c.tc : Thread Cert.HiddenReferenceIdeal.nD Cert.HiddenReferenceIdeal.τ).loc Cert.HiddenReferenceIdeal.main_arg0) = m ((c.tc : Thread Cert.HiddenReferenceIdeal.nD Cert.HiddenReferenceIdeal.τ).loc Cert.HiddenReferenceIdeal.main_arg0)
      ∧ r.2.mem ((c.tc : Thread Cert.HiddenReferenceIdeal.nD Cert.HiddenReferenceIdeal.τ).loc Cert.HiddenReferenceIdeal.main_arg1) = m ((c.tc : Thread Cert.HiddenReferenceIdeal.nD Cert.HiddenReferenceIdeal.τ).loc Cert.HiddenReferenceIdeal.main_arg1)
      ∧ r.2.mem ((c.tc : Thread Cert.HiddenReferenceIdeal.nD Cert.HiddenReferenceIdeal.τ).loc Cert.HiddenReferenceIdeal.main_arg2) = m ((c.tc : Thread Cert.HiddenReferenceIdeal.nD Cert.HiddenReferenceIdeal.τ).loc Cert.HiddenReferenceIdeal.main_arg2))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2)
      ∧ r.2.mem ((c.tc : Thread Cert.Route.nD Cert.Route.τ).loc Cert.Route.main_arg3) = m ((c.tc : Thread Cert.Route.nD Cert.Route.τ).loc Cert.Route.main_arg3))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3))
      ∧ r.2.sem = fun _ => 0)

def quiescent_RouteIdeal_pre_finite [hRouteIdeal : Cert.RouteIdeal.Facts] [hPre_finite : Cert.Pre_finite.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal_finite m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3))
      ∧ r.2.sem = fun _ => 0)

def quiescent_RouteReferenceIdeal [hRouteReferenceIdeal : Cert.RouteReferenceIdeal.Facts] : Prop :=
  ∀ (m : (ℓ : Loc Cert.RouteReferenceIdeal.nD Cert.RouteReferenceIdeal.τ Cert.RouteReferenceIdeal.sig) → Buf (Elt Ideal) ℓ) (g : Dev Cert.RouteReferenceIdeal.nD → PrngReg), Pre_RouteReferenceIdeal m →
    θ_run (Cert.RouteReferenceIdeal.defs (F := Ideal)) (onTc (τ := Cert.RouteReferenceIdeal.τ) (Cert.RouteReferenceIdeal.main (F := Ideal))) ⟨m, fun _ => 0, g⟩ (fun r => (∀ c : Dev Cert.RouteReferenceIdeal.nD,
      r.2.mem ((c.tc : Thread Cert.RouteReferenceIdeal.nD Cert.RouteReferenceIdeal.τ).loc Cert.RouteReferenceIdeal.main_arg0) = m ((c.tc : Thread Cert.RouteReferenceIdeal.nD Cert.RouteReferenceIdeal.τ).loc Cert.RouteReferenceIdeal.main_arg0)
      ∧ r.2.mem ((c.tc : Thread Cert.RouteReferenceIdeal.nD Cert.RouteReferenceIdeal.τ).loc Cert.RouteReferenceIdeal.main_arg1) = m ((c.tc : Thread Cert.RouteReferenceIdeal.nD Cert.RouteReferenceIdeal.τ).loc Cert.RouteReferenceIdeal.main_arg1)
      ∧ r.2.mem ((c.tc : Thread Cert.RouteReferenceIdeal.nD Cert.RouteReferenceIdeal.τ).loc Cert.RouteReferenceIdeal.main_arg2) = m ((c.tc : Thread Cert.RouteReferenceIdeal.nD Cert.RouteReferenceIdeal.τ).loc Cert.RouteReferenceIdeal.main_arg2)
      ∧ r.2.mem ((c.tc : Thread Cert.RouteReferenceIdeal.nD Cert.RouteReferenceIdeal.τ).loc Cert.RouteReferenceIdeal.main_arg3) = m ((c.tc : Thread Cert.RouteReferenceIdeal.nD Cert.RouteReferenceIdeal.τ).loc Cert.RouteReferenceIdeal.main_arg3))
      ∧ r.2.sem = fun _ => 0)

def quiescent_RouteReferenceIdeal_pre_finite [hRouteReferenceIdeal : Cert.RouteReferenceIdeal.Facts] [hPre_finite : Cert.Pre_finite.Facts] : Prop :=
  ∀ (m : (ℓ : Loc Cert.RouteReferenceIdeal.nD Cert.RouteReferenceIdeal.τ Cert.RouteReferenceIdeal.sig) → Buf (Elt Ideal) ℓ) (g : Dev Cert.RouteReferenceIdeal.nD → PrngReg), Pre_RouteReferenceIdeal_finite m →
    θ_run (Cert.RouteReferenceIdeal.defs (F := Ideal)) (onTc (τ := Cert.RouteReferenceIdeal.τ) (Cert.RouteReferenceIdeal.main (F := Ideal))) ⟨m, fun _ => 0, g⟩ (fun r => (∀ c : Dev Cert.RouteReferenceIdeal.nD,
      r.2.mem ((c.tc : Thread Cert.RouteReferenceIdeal.nD Cert.RouteReferenceIdeal.τ).loc Cert.RouteReferenceIdeal.main_arg0) = m ((c.tc : Thread Cert.RouteReferenceIdeal.nD Cert.RouteReferenceIdeal.τ).loc Cert.RouteReferenceIdeal.main_arg0)
      ∧ r.2.mem ((c.tc : Thread Cert.RouteReferenceIdeal.nD Cert.RouteReferenceIdeal.τ).loc Cert.RouteReferenceIdeal.main_arg1) = m ((c.tc : Thread Cert.RouteReferenceIdeal.nD Cert.RouteReferenceIdeal.τ).loc Cert.RouteReferenceIdeal.main_arg1)
      ∧ r.2.mem ((c.tc : Thread Cert.RouteReferenceIdeal.nD Cert.RouteReferenceIdeal.τ).loc Cert.RouteReferenceIdeal.main_arg2) = m ((c.tc : Thread Cert.RouteReferenceIdeal.nD Cert.RouteReferenceIdeal.τ).loc Cert.RouteReferenceIdeal.main_arg2)
      ∧ r.2.mem ((c.tc : Thread Cert.RouteReferenceIdeal.nD Cert.RouteReferenceIdeal.τ).loc Cert.RouteReferenceIdeal.main_arg3) = m ((c.tc : Thread Cert.RouteReferenceIdeal.nD Cert.RouteReferenceIdeal.τ).loc Cert.RouteReferenceIdeal.main_arg3))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Hidden_HiddenIdeal : Prop :=
  True

def algebraic_HiddenIdeal_HiddenReferenceIdeal [hHiddenIdeal : Cert.HiddenIdeal.Facts] [hHiddenReferenceIdeal : Cert.HiddenReferenceIdeal.Facts] : Prop :=
  ∀ (m : (ℓ : Loc Cert.HiddenIdeal.nD Cert.HiddenIdeal.τ Cert.HiddenIdeal.sig) → Buf (Elt Ideal) ℓ) (g : Dev Cert.HiddenIdeal.nD → PrngReg)
    (m' : (ℓ : Loc Cert.HiddenReferenceIdeal.nD Cert.HiddenReferenceIdeal.τ Cert.HiddenReferenceIdeal.sig) → Buf (Elt Ideal) ℓ) (g' : Dev Cert.HiddenReferenceIdeal.nD → PrngReg), Pre_HiddenIdeal m →
    (∀ c : Dev Cert.HiddenIdeal.nD,
      m' ((c.tc : Thread Cert.HiddenReferenceIdeal.nD Cert.HiddenReferenceIdeal.τ).loc Cert.HiddenReferenceIdeal.main_arg0) = m ((c.tc : Thread Cert.HiddenIdeal.nD Cert.HiddenIdeal.τ).loc Cert.HiddenIdeal.main_arg0)
      ∧ m' ((c.tc : Thread Cert.HiddenReferenceIdeal.nD Cert.HiddenReferenceIdeal.τ).loc Cert.HiddenReferenceIdeal.main_arg1) = m ((c.tc : Thread Cert.HiddenIdeal.nD Cert.HiddenIdeal.τ).loc Cert.HiddenIdeal.main_arg1)
      ∧ m' ((c.tc : Thread Cert.HiddenReferenceIdeal.nD Cert.HiddenReferenceIdeal.τ).loc Cert.HiddenReferenceIdeal.main_arg2) = m ((c.tc : Thread Cert.HiddenIdeal.nD Cert.HiddenIdeal.τ).loc Cert.HiddenIdeal.main_arg2)) →
    ∃ (v0 : (c : Dev Cert.HiddenIdeal.nD) → Buf (Elt Ideal) ((c.tc : Thread Cert.HiddenIdeal.nD Cert.HiddenIdeal.τ).loc Cert.HiddenIdeal.main_v3)),
      θ_run (Cert.HiddenIdeal.defs (F := Ideal)) (onTc (τ := Cert.HiddenIdeal.τ) (Cert.HiddenIdeal.main (F := Ideal))) ⟨m, fun _ => 0, g⟩ (fun r => ∀ c : Dev Cert.HiddenIdeal.nD,
          r.2.mem ((c.tc : Thread Cert.HiddenIdeal.nD Cert.HiddenIdeal.τ).loc Cert.HiddenIdeal.main_v3) = v0 c
          ∧ r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
          ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
          ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2))
      ∧ θ_run (Cert.HiddenReferenceIdeal.defs (F := Ideal)) (onTc (τ := Cert.HiddenReferenceIdeal.τ) (Cert.HiddenReferenceIdeal.main (F := Ideal))) ⟨m', fun _ => 0, g'⟩ (fun r => ∀ c : Dev Cert.HiddenReferenceIdeal.nD,
          r.2.mem ((c.tc : Thread Cert.HiddenReferenceIdeal.nD Cert.HiddenReferenceIdeal.τ).loc Cert.HiddenReferenceIdeal.main_v3) = v0 c
          ∧ r.2.mem ((c.tc : Thread Cert.HiddenReferenceIdeal.nD Cert.HiddenReferenceIdeal.τ).loc Cert.HiddenReferenceIdeal.main_arg0) = m' ((c.tc : Thread Cert.HiddenReferenceIdeal.nD Cert.HiddenReferenceIdeal.τ).loc Cert.HiddenReferenceIdeal.main_arg0)
          ∧ r.2.mem ((c.tc : Thread Cert.HiddenReferenceIdeal.nD Cert.HiddenReferenceIdeal.τ).loc Cert.HiddenReferenceIdeal.main_arg1) = m' ((c.tc : Thread Cert.HiddenReferenceIdeal.nD Cert.HiddenReferenceIdeal.τ).loc Cert.HiddenReferenceIdeal.main_arg1)
          ∧ r.2.mem ((c.tc : Thread Cert.HiddenReferenceIdeal.nD Cert.HiddenReferenceIdeal.τ).loc Cert.HiddenReferenceIdeal.main_arg2) = m' ((c.tc : Thread Cert.HiddenReferenceIdeal.nD Cert.HiddenReferenceIdeal.τ).loc Cert.HiddenReferenceIdeal.main_arg2))

def preserves_Route_RouteIdeal : Prop :=
  True

def algebraic_RouteIdeal_RouteReferenceIdeal_pre_finite [hRouteIdeal : Cert.RouteIdeal.Facts] [hRouteReferenceIdeal : Cert.RouteReferenceIdeal.Facts] [hPre_finite : Cert.Pre_finite.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteReferenceIdeal.nD Cert.RouteReferenceIdeal.τ Cert.RouteReferenceIdeal.sig) → Buf (Elt Ideal) ℓ) (g' : Dev Cert.RouteReferenceIdeal.nD → PrngReg), Pre_RouteIdeal_finite m →
    (∀ c : Dev Cert.RouteIdeal.nD,
      m' ((c.tc : Thread Cert.RouteReferenceIdeal.nD Cert.RouteReferenceIdeal.τ).loc Cert.RouteReferenceIdeal.main_arg0) = m ((c.tc : Thread Cert.RouteIdeal.nD Cert.RouteIdeal.τ).loc Cert.RouteIdeal.main_arg0)
      ∧ m' ((c.tc : Thread Cert.RouteReferenceIdeal.nD Cert.RouteReferenceIdeal.τ).loc Cert.RouteReferenceIdeal.main_arg1) = m ((c.tc : Thread Cert.RouteIdeal.nD Cert.RouteIdeal.τ).loc Cert.RouteIdeal.main_arg1)
      ∧ m' ((c.tc : Thread Cert.RouteReferenceIdeal.nD Cert.RouteReferenceIdeal.τ).loc Cert.RouteReferenceIdeal.main_arg2) = m ((c.tc : Thread Cert.RouteIdeal.nD Cert.RouteIdeal.τ).loc Cert.RouteIdeal.main_arg2)
      ∧ m' ((c.tc : Thread Cert.RouteReferenceIdeal.nD Cert.RouteReferenceIdeal.τ).loc Cert.RouteReferenceIdeal.main_arg3) = m ((c.tc : Thread Cert.RouteIdeal.nD Cert.RouteIdeal.τ).loc Cert.RouteIdeal.main_arg3)) →
    ∃ (v0 : (c : Dev Cert.RouteIdeal.nD) → Buf (Elt Ideal) ((c.tc : Thread Cert.RouteIdeal.nD Cert.RouteIdeal.τ).loc Cert.RouteIdeal.main_v4_0)) (v1 : (c : Dev Cert.RouteIdeal.nD) → Buf (Elt Ideal) ((c.tc : Thread Cert.RouteIdeal.nD Cert.RouteIdeal.τ).loc Cert.RouteIdeal.main_v4_1)) (v2 : (c : Dev Cert.RouteIdeal.nD) → Buf (Elt Ideal) ((c.tc : Thread Cert.RouteIdeal.nD Cert.RouteIdeal.τ).loc Cert.RouteIdeal.main_v4_2)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v4_0) = v0 c
          ∧ r.2.mem ((c.tc : Thread Cert.RouteIdeal.nD Cert.RouteIdeal.τ).loc Cert.RouteIdeal.main_v4_1) = v1 c
          ∧ r.2.mem ((c.tc : Thread Cert.RouteIdeal.nD Cert.RouteIdeal.τ).loc Cert.RouteIdeal.main_v4_2) = v2 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
          ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3))
      ∧ θ_run (Cert.RouteReferenceIdeal.defs (F := Ideal)) (onTc (τ := Cert.RouteReferenceIdeal.τ) (Cert.RouteReferenceIdeal.main (F := Ideal))) ⟨m', fun _ => 0, g'⟩ (fun r => ∀ c : Dev Cert.RouteReferenceIdeal.nD,
          r.2.mem ((c.tc : Thread Cert.RouteReferenceIdeal.nD Cert.RouteReferenceIdeal.τ).loc Cert.RouteReferenceIdeal.main_v40) = v0 c
          ∧ r.2.mem ((c.tc : Thread Cert.RouteReferenceIdeal.nD Cert.RouteReferenceIdeal.τ).loc Cert.RouteReferenceIdeal.main_v41) = v1 c
          ∧ r.2.mem ((c.tc : Thread Cert.RouteReferenceIdeal.nD Cert.RouteReferenceIdeal.τ).loc Cert.RouteReferenceIdeal.main_v42) = v2 c
          ∧ r.2.mem ((c.tc : Thread Cert.RouteReferenceIdeal.nD Cert.RouteReferenceIdeal.τ).loc Cert.RouteReferenceIdeal.main_arg0) = m' ((c.tc : Thread Cert.RouteReferenceIdeal.nD Cert.RouteReferenceIdeal.τ).loc Cert.RouteReferenceIdeal.main_arg0)
          ∧ r.2.mem ((c.tc : Thread Cert.RouteReferenceIdeal.nD Cert.RouteReferenceIdeal.τ).loc Cert.RouteReferenceIdeal.main_arg1) = m' ((c.tc : Thread Cert.RouteReferenceIdeal.nD Cert.RouteReferenceIdeal.τ).loc Cert.RouteReferenceIdeal.main_arg1)
          ∧ r.2.mem ((c.tc : Thread Cert.RouteReferenceIdeal.nD Cert.RouteReferenceIdeal.τ).loc Cert.RouteReferenceIdeal.main_arg2) = m' ((c.tc : Thread Cert.RouteReferenceIdeal.nD Cert.RouteReferenceIdeal.τ).loc Cert.RouteReferenceIdeal.main_arg2)
          ∧ r.2.mem ((c.tc : Thread Cert.RouteReferenceIdeal.nD Cert.RouteReferenceIdeal.τ).loc Cert.RouteReferenceIdeal.main_arg3) = m' ((c.tc : Thread Cert.RouteReferenceIdeal.nD Cert.RouteReferenceIdeal.τ).loc Cert.RouteReferenceIdeal.main_arg3))

def Claim : Prop :=
  ∃ (hKernel : Cert.Kernel.Facts) (hKernelIdeal : Cert.KernelIdeal.Facts) (hReferenceIdeal : Cert.ReferenceIdeal.Facts) (hHidden : Cert.Hidden.Facts) (hHiddenIdeal : Cert.HiddenIdeal.Facts) (hHiddenReferenceIdeal : Cert.HiddenReferenceIdeal.Facts) (hRoute : Cert.Route.Facts) (hRouteIdeal : Cert.RouteIdeal.Facts) (hRouteReferenceIdeal : Cert.RouteReferenceIdeal.Facts) (hPre_in_range : Cert.Pre_in_range.Facts) (hPre_pre : Cert.Pre_pre.Facts) (hPre_finite : Cert.Pre_finite.Facts),
    quiescent_Kernel (hKernel := hKernel) (hPre_in_range := hPre_in_range)
    ∧ quiescent_KernelIdeal (hKernelIdeal := hKernelIdeal) (hPre_in_range := hPre_in_range)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ quiescent_Hidden (hHidden := hHidden)
    ∧ quiescent_HiddenIdeal (hHiddenIdeal := hHiddenIdeal)
    ∧ quiescent_HiddenReferenceIdeal (hHiddenReferenceIdeal := hHiddenReferenceIdeal)
    ∧ quiescent_Route (hRoute := hRoute)
    ∧ quiescent_RouteIdeal (hRouteIdeal := hRouteIdeal)
    ∧ quiescent_RouteIdeal_pre_finite (hRouteIdeal := hRouteIdeal) (hPre_finite := hPre_finite)
    ∧ quiescent_RouteReferenceIdeal (hRouteReferenceIdeal := hRouteReferenceIdeal)
    ∧ quiescent_RouteReferenceIdeal_pre_finite (hRouteReferenceIdeal := hRouteReferenceIdeal) (hPre_finite := hPre_finite)
    ∧ preserves_Kernel_KernelIdeal
    ∧ algebraic_KernelIdeal_ReferenceIdeal_pre_pre (hKernelIdeal := hKernelIdeal) (hReferenceIdeal := hReferenceIdeal) (hPre_pre := hPre_pre)
    ∧ preserves_Hidden_HiddenIdeal
    ∧ algebraic_HiddenIdeal_HiddenReferenceIdeal (hHiddenIdeal := hHiddenIdeal) (hHiddenReferenceIdeal := hHiddenReferenceIdeal)
    ∧ preserves_Route_RouteIdeal
    ∧ algebraic_RouteIdeal_RouteReferenceIdeal_pre_finite (hRouteIdeal := hRouteIdeal) (hRouteReferenceIdeal := hRouteReferenceIdeal) (hPre_finite := hPre_finite)
-- ==== Pre_finite.lean ====
abbrev S2048x1024 : Shape := ⟨2, ![2048, 1024]⟩
abbrev S1024x4096 : Shape := ⟨2, ![1024, 4096]⟩
abbrev S4x64x2x512 : Shape := ⟨4, ![4, 64, 2, 512]⟩
abbrev S4096x1024 : Shape := ⟨2, ![4096, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4x64x2x512 : S_.BroadcastsInDim S4x64x2x512 (![] : Fin 0 → Fin S4x64x2x512.rank)
  reducesTo_S4x64x2x512_S_d0_1_2_3 : S4x64x2x512.ReducesTo [0, 1, 2, 3] S_

variable [Facts]

def fn {F : FTy → Type} [FloatOps F] (main_arg0 : FVec F S2048x1024 .f32) (main_arg1 : FVec F S1024x4096 .f32) (main_arg2 : FVec F S4x64x2x512 .f32) (main_arg3 : FVec F S4096x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4x64x2x512 .f32 := Host.absf main_arg2
  let main_cst_2 : FVec F S_ .f32 := constant S_ .f32 0x7F800000#32
  let main_v10 : FVec F S4x64x2x512 .f32 := broadcastInDim S4x64x2x512 ![] bcast_S_S4x64x2x512 main_cst_2
  let main_v11 : IVec S4x64x2x512 1 := cmpf .olt main_v9 main_v10
  let main_c_3 : IVec S_ 1 := constantI S_ 1 1#1
  let main_v12 : IVec S_ 1 := (fun x v => Host.reduce IntOp.andi x v reducesTo_S4x64x2x512_S_d0_1_2_3 h_S_) main_v11 main_c_3
  let main_v13 : IVec S_ 1 := andi main_v8 main_v12
  main_v13
-- ==== Pre_in_range.lean ====
abbrev S2048x4096 : Shape := ⟨2, ![2048, 4096]⟩
abbrev S2048x16 : Shape := ⟨2, ![2048, 16]⟩
abbrev S4096x1024 : Shape := ⟨2, ![4096, 1024]⟩
abbrev S_ : Shape := ⟨0, ![]⟩

class Facts : Prop where
  bcast_S_S2048x16 : S_.BroadcastsInDim S2048x16 (![] : Fin 0 → Fin S2048x16.rank)
  reducesTo_S2048x16_S_d0_1 : S2048x16.ReducesTo [0, 1] S_
  h_S_ : 0 < S_.numel

variable [Facts]

def fn {F : FTy → Type} [FloatOps F] (main_arg0 : FVec F S2048x4096 .f32) (main_arg1 : IVec S2048x16 32) (main_arg2 : FVec F S2048x16 .f32) (main_arg3 : FVec F S4096x1024 .f32) : IVec S_ 1 :=
  let main_c : IVec S_ 32 := constantI S_ 32 0#32
  let main_v0 : IVec S2048x16 32 := broadcastInDim S2048x16 ![] bcast_S_S2048x16 main_c
  let main_v1 : IVec S2048x16 1 := cmpi .sge main_arg1 main_v0
  let main_c_0 : IVec S_ 32 := constantI S_ 32 4096#32
  let main_v2 : IVec S2048x16 32 := broadcastInDim S2048x16 ![] bcast_S_S2048x16 main_c_0
  let main_v3 : IVec S2048x16 1 := cmpi .slt main_arg1 main_v2
  let main_v4 : IVec S2048x16 1 := andi main_v1 main_v3
  let main_c_1 : IVec S_ 1 := constantI S_ 1 1#1
  let main_v5 : IVec S_ 1 := (fun x v => Host.reduce IntOp.andi x v reducesTo_S2048x16_S_d0_1 h_S_) main_v4 main_c_1
  main_v5
-- ==== Pre_pre.lean ====
abbrev S2048x4096 : Shape := ⟨2, ![2048, 4096]⟩
abbrev S2048x16 : Shape := ⟨2, ![2048, 16]⟩
abbrev S4096x1024 : Shape := ⟨2, ![4096, 1024]⟩
abbrev S_ : Shape := ⟨0, ![]⟩

class Facts : Prop where
  bcast_S_S2048x16 : S_.BroadcastsInDim S2048x16 (![] : Fin 0 → Fin S2048x16.rank)
  reducesTo_S2048x16_S_d0_1 : S2048x16.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v15 : IVec S_ 1) (main_v16 : FVec F S4096x1024 .f32) : IVec S_ 1 :=
  let main_cst_5 : FVec F S_ .f32 := constant S_ .f32 0x7F800000#32
  let main_v17 : FVec F S4096x1024 .f32 := broadcastInDim S4096x1024 ![] bcast_S_S4096x1024 main_cst_5
  let main_v18 : IVec S4096x1024 1 := cmpf .olt main_v16 main_v17
  let main_c_6 : IVec S_ 1 := constantI S_ 1 1#1
  let main_v19 : IVec S_ 1 := (fun x v => Host.reduce IntOp.andi x v reducesTo_S4096x1024_S_d0_1 h_S_) main_v18 main_c_6
  let main_v20 : IVec S_ 1 := andi main_v15 main_v19
  main_v20

def fn {F : FTy → Type} [FloatOps F] (main_arg0 : FVec F S2048x4096 .f32) (main_arg1 : IVec S2048x16 32) (main_arg2 : FVec F S2048x16 .f32) (main_arg3 : FVec F S4096x1024 .f32) : IVec S_ 1 :=
  let main_c : IVec S_ 32 := constantI S_ 32 0#32
  let main_v0 : IVec S2048x16 32 := broadcastInDim S2048x16 ![] bcast_S_S2048x16 main_c
  let main_v1 : IVec S2048x16 1 := cmpi .sge main_arg1 main_v0
  let main_c_0 : IVec S_ 32 := constantI S_ 32 4096#32
  let main_v2 : IVec S2048x16 32 := broadcastInDim S2048x16 ![] bcast_S_S2048x16 main_c_0
  let main_v3 : IVec S2048x16 1 := cmpi .slt main_arg1 main_v2
  let main_v4 : IVec S2048x16 1 := andi main_v1 main_v3
  let main_c_1 : IVec S_ 1 := constantI S_ 1 1#1
  let main_v5 : IVec S_ 1 := (fun x v => Host.reduce IntOp.andi x v reducesTo_S2048x16_S_d0_1 h_S_) main_v4 main_c_1
  let main_v6 : FVec F S2048x4096 .f32 := Host.absf main_arg0
  let main_cst : FVec F S_ .f32 := constant S_ .f32 0x7F800000#32
  let main_v7 : FVec F S2048x4096 .f32 := broadcastInDim S2048x4096 ![] bcast_S_S2048x4096 main_cst
  let main_v8 : IVec S2048x4096 1 := cmpf .olt main_v6 main_v7
  let main_c_2 : IVec S_ 1 := constantI S_ 1 1#1
  let main_v9 : IVec S_ 1 := (fun x v => Host.reduce IntOp.andi x v reducesTo_S2048x4096_S_d0_1 h_S_) main_v8 main_c_2
  let main_v10 : IVec S_ 1 := andi main_v5 main_v9
  let main_v11 : FVec F S2048x16 .f32 := Host.absf main_arg2
  let main_cst_3 : FVec F S_ .f32 := constant S_ .f32 0x7F800000#32
  let main_v12 : FVec F S2048x16 .f32 := broadcastInDim S2048x16 ![] bcast_S_S2048x16 main_cst_3
  let main_v13 : IVec S2048x16 1 := cmpf .olt main_v11 main_v12
  let main_c_4 : IVec S_ 1 := constantI S_ 1 1#1
  let main_v14 : IVec S_ 1 := (fun x v => Host.reduce IntOp.andi x v reducesTo_S2048x16_S_d0_1 h_S_) main_v13 main_c_4
  let main_v15 : IVec S_ 1 := andi main_v10 main_v14
  let main_v16 : FVec F S4096x1024 .f32 := Host.absf main_arg3
  fn_part1 (F := F) main_v15 main_v16
-- ==== Kernel.lean ====
abbrev S2048x4096 : Shape := ⟨2, ![2048, 4096]⟩
abbrev S2048x16 : Shape := ⟨2, ![2048, 16]⟩
abbrev S4096x1024 : Shape := ⟨2, ![4096, 1024]⟩
abbrev S64x16 : Shape := ⟨2, ![64, 16]⟩
abbrev S8x4096 : Shape := ⟨2, ![8, 4096]⟩
abbrev S_ : Shape := ⟨0, ![]⟩
abbrev S16 : Shape := ⟨1, ![16]⟩
abbrev S1x16 : Shape := ⟨2, ![1, 16]⟩
abbrev S2048x1024 : Shape := ⟨2, ![2048, 1024]⟩
abbrev S256x4096 : Shape := ⟨2, ![256, 4096]⟩
abbrev S256x1024 : Shape := ⟨2, ![256, 1024]⟩

abbrev nBuf : Table → Nat
  | .hbm => 7
  | .local .tc .vmem => 5
  | .local .scVector .vmem => 4
  | _ => 0

abbrev bufTy : (tb : Table) → Fin (nBuf tb) → BufTy
  | .hbm, ⟨0, _⟩ => ⟨S2048x4096, .f32⟩
  | .hbm, ⟨1, _⟩ => ⟨S2048x16, .i32⟩
  | .hbm, ⟨2, _⟩ => ⟨S2048x16, .f32⟩
  | .hbm, ⟨3, _⟩ => ⟨S4096x1024, .f32⟩
  | .hbm, ⟨4, _⟩ => ⟨S4096x1024, .bf16⟩
  | .hbm, ⟨5, _⟩ => ⟨S2048x4096, .f32⟩
  | .hbm, ⟨6, _⟩ => ⟨S2048x1024, .f32⟩
  | .local .tc .vmem, ⟨0, _⟩ => ⟨S256x4096, .f32⟩
  | .local .tc .vmem, ⟨1, _⟩ => ⟨S256x4096, .f32⟩
  | .local .tc .vmem, ⟨2, _⟩ => ⟨S4096x1024, .bf16⟩
  | .local .tc .vmem, ⟨3, _⟩ => ⟨S256x1024, .f32⟩
  | .local .tc .vmem, ⟨4, _⟩ => ⟨S256x1024, .f32⟩
  | .local .scVector .vmem, ⟨0, _⟩ => ⟨S64x16, .i32⟩
  | .local .scVector .vmem, ⟨1, _⟩ => ⟨S64x16, .f32⟩
  | .local .scVector .vmem, ⟨2, _⟩ => ⟨S8x4096, .f32⟩
  | .local .scVector .vmem, ⟨3, _⟩ => ⟨S8x4096, .f32⟩
  | _, _ => ⟨S2048x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v1_scv : Ref sig .scVector := ⟨.hbm, 5, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_6_r0 : BitVec 32 := 0#32
  ![v2.toNat, 0]
@[reducible] def k0_t1_loop : Scf.Loop 32 :=
  let c0_i32_0 : BitVec 32 := 0#32
  let c2048_i32 : BitVec 32 := 2048#32
  let v3 : BitVec 32 := Scalar.addi c0_i32_0 c2048_i32
  let c1_i32 : BitVec 32 := 1#32
  ⟨c0_i32_0, v3, c1_i32⟩
def k0_off2 (k0_t1 : Fin k0_t1_loop.trips) : Fin 2 → Nat :=
  let c0_i32_0 : BitVec 32 := 0#32
  let c1_i32 : BitVec 32 := 1#32
  let arg10 : BitVec 32 := Scf.iv c0_i32_0 c1_i32 k0_t1
  let c0_i32_6 : BitVec 32 := 0#32
  let v6 : BitVec 1 := Scalar.cmpi .sgt arg10 c0_i32_6
  let v7 : BitVec 32 := Scalar.extui v6
  let c0_i32_7 : BitVec 32 := 0#32
  let v8 : BitVec 1 := Scalar.cmpi .slt arg10 c0_i32_7
  let v9 : BitVec 32 := Scalar.extui v8
  let v10 : BitVec 32 := Scalar.subi v7 v9
  let c256_i32 : BitVec 32 := 256#32
  let c0_i32_8 : BitVec 32 := 0#32
  let v11 : BitVec 1 := Scalar.cmpi .sgt c256_i32 c0_i32_8
  let v12 : BitVec 32 := Scalar.extui v11
  let c0_i32_9 : BitVec 32 := 0#32
  let v13 : BitVec 1 := Scalar.cmpi .slt c256_i32 c0_i32_9
  let v14 : BitVec 32 := Scalar.extui v13
  let v15 : BitVec 32 := Scalar.subi v12 v14
  let v16 : BitVec 1 := Scalar.cmpi .ne v10 v15
  let v17 : BitVec 32 := Scalar.remsi arg10 c256_i32
  let c0_i32_10 : BitVec 32 := 0#32
  let v18 : BitVec 1 := Scalar.cmpi .ne v17 c0_i32_10
  let v19 : BitVec 1 := Scalar.andi v16 v18
  let v5 : BitVec 32 := Scalar.divsi arg10 c256_i32
  let c1_i32_11 : BitVec 32 := 1#32
  let v20 : BitVec 32 := Scalar.subi v5 c1_i32_11
  let v21 : BitVec 32 := Scalar.select v19 v20 v5
  let v34 : Index := Scalar.indexCast v21
  let c256_i32_12 : BitVec 32 := 256#32
  let c0_i32_13 : BitVec 32 := 0#32
  let v22 : BitVec 1 := Scalar.cmpi .eq c256_i32_12 c0_i32_13
  let c1_i32_14 : BitVec 32 := 1#32
  let v23 : BitVec 32 := Scalar.select v22 c1_i32_14 c256_i32_12
  let v24 : BitVec 32 := Scalar.remsi arg10 v23
  let c0_i32_16 : BitVec 32 := 0#32
  let v26 : BitVec 1 := Scalar.cmpi .slt v24 c0_i32_16
  let c0_i32_17 : BitVec 32 := 0#32
  let v27 : BitVec 1 := Scalar.cmpi .slt v23 c0_i32_17
  let v28 : BitVec 1 := Scalar.xori v26 v27
  let c0_i32_15 : BitVec 32 := 0#32
  let v25 : BitVec 1 := Scalar.cmpi .ne v24 c0_i32_15
  let v29 : BitVec 1 := Scalar.andi v28 v25
  let v30 : BitVec 32 := Scalar.addi v24 v23
  let v31 : BitVec 32 := Scalar.select v29 v30 v24
  let c16_i32 : BitVec 32 := 16#32
  let v32 : BitVec 32 := Scalar.muli v31 c16_i32
  let v35 : Index := Scalar.indexCast v32
  ![v34.toNat, v35.toNat]
@[reducible] def k0_t2_loop : Scf.Loop 32 :=
  let c0_i32_3 : BitVec 32 := 0#32
  let c8_i32 : BitVec 32 := 8#32
  let v4 : BitVec 32 := Scalar.addi c0_i32_3 c8_i32
  let c1_i32_4 : BitVec 32 := 1#32
  ⟨c0_i32_3, v4, c1_i32_4⟩
def k0_off3 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_3 : BitVec 32 := 0#32
  let c1_i32_4 : BitVec 32 := 1#32
  let arg10 : BitVec 32 := Scf.iv c0_i32_3 c1_i32_4 k0_t2
  let c8_i32_6 : BitVec 32 := 8#32
  let v5 : BitVec 32 := Scalar.muli arg10 c8_i32_6
  let v6 : BitVec 32 := Scalar.addi v2 v5
  let c0_i32_352_r2 : BitVec 32 := 0#32
  ![v6.toNat, 0]
def k0_off4 (k0_t2 : Fin k0_t2_loop.trips) : Fin 2 → Nat :=
  let c0_i32_3 : BitVec 32 := 0#32
  let c1_i32_4 : BitVec 32 := 1#32
  let arg10 : BitVec 32 := Scf.iv c0_i32_3 c1_i32_4 k0_t2
  let c8_i32_7 : BitVec 32 := 8#32
  let v8 : BitVec 32 := Scalar.muli arg10 c8_i32_7
  let c0_i32_8 : BitVec 32 := 0#32
  let v9 : BitVec 32 := Scalar.addi v8 c0_i32_8
  let v10 : Index := Scalar.indexCast v9
  let c0 : Index := 0#32
  ![v10.toNat, 0]

def k0_chk1 (v11 : IVec S16 32) (v14 : IVec S16 32) : Prop :=
  (∀ a x, ((![v14, v11] : Fin 2 → IVec S16 32) a x).toNat < S8x4096.size a) ∧
  (∀ a x, ((![v14, v11] : Fin 2 → IVec S16 32) a x).toNat < S8x4096.size a) ∧
  (∀ a x, ((![v14, v11] : Fin 2 → IVec S16 32) a x).toNat < S8x4096.size a) ∧
  (∀ a x, ((![v14, v11] : Fin 2 → IVec S16 32) a x).toNat < S8x4096.size a) ∧
  (∀ a x, ((![v14, v11] : Fin 2 → IVec S16 32) a x).toNat < S8x4096.size a)
theorem k0_idx1_inb : ∀ (v11 : IVec S16 32) (v14 : IVec S16 32) (k0_hw1 : k0_chk1 v11 v14), ∀ a x, ((![v14, v11] : Fin 2 → IVec S16 32) a x).toNat < S8x4096.size a := fun v11 v14 k0_hw1 => k0_hw1.1
theorem k0_idx2_inb : ∀ (v11 : IVec S16 32) (v14 : IVec S16 32) (k0_hw1 : k0_chk1 v11 v14), ∀ a x, ((![v14, v11] : Fin 2 → IVec S16 32) a x).toNat < S8x4096.size a := fun v11 v14 k0_hw1 => k0_hw1.2.1
theorem k0_idx3_inb : ∀ (v11 : IVec S16 32) (v14 : IVec S16 32) (k0_hw1 : k0_chk1 v11 v14), ∀ a x, ((![v14, v11] : Fin 2 → IVec S16 32) a x).toNat < S8x4096.size a := fun v11 v14 k0_hw1 => k0_hw1.2.2.1
theorem k0_idx4_inb : ∀ (v11 : IVec S16 32) (v14 : IVec S16 32) (k0_hw1 : k0_chk1 v11 v14), ∀ a x, ((![v14, v11] : Fin 2 → IVec S16 32) a x).toNat < S8x4096.size a := fun v11 v14 k0_hw1 => k0_hw1.2.2.2.1
theorem k0_idx5_inb : ∀ (v11 : IVec S16 32) (v14 : IVec S16 32) (k0_hw1 : k0_chk1 v11 v14), ∀ a x, ((![v14, v11] : Fin 2 → IVec S16 32) a x).toNat < S8x4096.size a := fun v11 v14 k0_hw1 => k0_hw1.2.2.2.2
def k0_off5 (k0_t2 : Fin k0_t2_loop.trips) : Fin 2 → Nat :=
  let c0_i32_3 : BitVec 32 := 0#32
  let c1_i32_4 : BitVec 32 := 1#32
  let arg10 : BitVec 32 := Scf.iv c0_i32_3 c1_i32_4 k0_t2
  let c8_i32_42 : BitVec 32 := 8#32
  let v127 : BitVec 32 := Scalar.muli arg10 c8_i32_42
  let c1_i32_43 : BitVec 32 := 1#32
  let v128 : BitVec 32 := Scalar.addi v127 c1_i32_43
  let v129 : Index := Scalar.indexCast v128
  let c0_44 : Index := 0#32
  ![v129.toNat, 0]

def k0_chk2 (v130 : IVec S16 32) (v133 : IVec S16 32) : Prop :=
  (∀ a x, ((![v133, v130] : Fin 2 → IVec S16 32) a x).toNat < S8x4096.size a) ∧
  (∀ a x, ((![v133, v130] : Fin 2 → IVec S16 32) a x).toNat < S8x4096.size a) ∧
  (∀ a x, ((![v133, v130] : Fin 2 → IVec S16 32) a x).toNat < S8x4096.size a) ∧
  (∀ a x, ((![v133, v130] : Fin 2 → IVec S16 32) a x).toNat < S8x4096.size a) ∧
  (∀ a x, ((![v133, v130] : Fin 2 → IVec S16 32) a x).toNat < S8x4096.size a)
theorem k0_idx6_inb : ∀ (v130 : IVec S16 32) (v133 : IVec S16 32) (k0_hw2 : k0_chk2 v130 v133), ∀ a x, ((![v133, v130] : Fin 2 → IVec S16 32) a x).toNat < S8x4096.size a := fun v130 v133 k0_hw2 => k0_hw2.1
theorem k0_idx7_inb : ∀ (v130 : IVec S16 32) (v133 : IVec S16 32) (k0_hw2 : k0_chk2 v130 v133), ∀ a x, ((![v133, v130] : Fin 2 → IVec S16 32) a x).toNat < S8x4096.size a := fun v130 v133 k0_hw2 => k0_hw2.2.1
theorem k0_idx8_inb : ∀ (v130 : IVec S16 32) (v133 : IVec S16 32) (k0_hw2 : k0_chk2 v130 v133), ∀ a x, ((![v133, v130] : Fin 2 → IVec S16 32) a x).toNat < S8x4096.size a := fun v130 v133 k0_hw2 => k0_hw2.2.2.1
theorem k0_idx9_inb : ∀ (v130 : IVec S16 32) (v133 : IVec S16 32) (k0_hw2 : k0_chk2 v130 v133), ∀ a x, ((![v133, v130] : Fin 2 → IVec S16 32) a x).toNat < S8x4096.size a := fun v130 v133 k0_hw2 => k0_hw2.2.2.2.1
theorem k0_idx10_inb : ∀ (v130 : IVec S16 32) (v133 : IVec S16 32) (k0_hw2 : k0_chk2 v130 v133), ∀ a x, ((![v133, v130] : Fin 2 → IVec S16 32) a x).toNat < S8x4096.size a := fun v130 v133 k0_hw2 => k0_hw2.2.2.2.2
def k0_off6 (k0_t2 : Fin k0_t2_loop.trips) : Fin 2 → Nat :=
  let c0_i32_3 : BitVec 32 := 0#32
  let c1_i32_4 : BitVec 32 := 1#32
  let arg10 : BitVec 32 := Scf.iv c0_i32_3 c1_i32_4 k0_t2
  let c8_i32_81 : BitVec 32 := 8#32
  let v246 : BitVec 32 := Scalar.muli arg10 c8_i32_81
  let c2_i32_82 : BitVec 32 := 2#32
  let v247 : BitVec 32 := Scalar.addi v246 c2_i32_82
  let v248 : Index := Scalar.indexCast v247
  let c0_83 : Index := 0#32
  ![v248.toNat, 0]

def k0_chk3 (v249 : IVec S16 32) (v252 : IVec S16 32) : Prop :=
  (∀ a x, ((![v252, v249] : Fin 2 → IVec S16 32) a x).toNat < S8x4096.size a) ∧
  (∀ a x, ((![v252, v249] : Fin 2 → IVec S16 32) a x).toNat < S8x4096.size a) ∧
  (∀ a x, ((![v252, v249] : Fin 2 → IVec S16 32) a x).toNat < S8x4096.size a) ∧
  (∀ a x, ((![v252, v249] : Fin 2 → IVec S16 32) a x).toNat < S8x4096.size a) ∧
  (∀ a x, ((![v252, v249] : Fin 2 → IVec S16 32) a x).toNat < S8x4096.size a)
theorem k0_idx11_inb : ∀ (v249 : IVec S16 32) (v252 : IVec S16 32) (k0_hw3 : k0_chk3 v249 v252), ∀ a x, ((![v252, v249] : Fin 2 → IVec S16 32) a x).toNat < S8x4096.size a := fun v249 v252 k0_hw3 => k0_hw3.1
theorem k0_idx12_inb : ∀ (v249 : IVec S16 32) (v252 : IVec S16 32) (k0_hw3 : k0_chk3 v249 v252), ∀ a x, ((![v252, v249] : Fin 2 → IVec S16 32) a x).toNat < S8x4096.size a := fun v249 v252 k0_hw3 => k0_hw3.2.1
theorem k0_idx13_inb : ∀ (v249 : IVec S16 32) (v252 : IVec S16 32) (k0_hw3 : k0_chk3 v249 v252), ∀ a x, ((![v252, v249] : Fin 2 → IVec S16 32) a x).toNat < S8x4096.size a := fun v249 v252 k0_hw3 => k0_hw3.2.2.1
theorem k0_idx14_inb : ∀ (v249 : IVec S16 32) (v252 : IVec S16 32) (k0_hw3 : k0_chk3 v249 v252), ∀ a x, ((![v252, v249] : Fin 2 → IVec S16 32) a x).toNat < S8x4096.size a := fun v249 v252 k0_hw3 => k0_hw3.2.2.2.1
theorem k0_idx15_inb : ∀ (v249 : IVec S16 32) (v252 : IVec S16 32) (k0_hw3 : k0_chk3 v249 v252), ∀ a x, ((![v252, v249] : Fin 2 → IVec S16 32) a x).toNat < S8x4096.size a := fun v249 v252 k0_hw3 => k0_hw3.2.2.2.2
def k0_off7 (k0_t2 : Fin k0_t2_loop.trips) : Fin 2 → Nat :=
  let c0_i32_3 : BitVec 32 := 0#32
  let c1_i32_4 : BitVec 32 := 1#32
  let arg10 : BitVec 32 := Scf.iv c0_i32_3 c1_i32_4 k0_t2
  let c8_i32_120 : BitVec 32 := 8#32
  let v365 : BitVec 32 := Scalar.muli arg10 c8_i32_120
  let c3_i32_121 : BitVec 32 := 3#32
  let v366 : BitVec 32 := Scalar.addi v365 c3_i32_121
  let v367 : Index := Scalar.indexCast v366
  let c0_122 : Index := 0#32
  ![v367.toNat, 0]

def k0_chk4 (v368 : IVec S16 32) (v371 : IVec S16 32) : Prop :=
  (∀ a x, ((![v371, v368] : Fin 2 → IVec S16 32) a x).toNat < S8x4096.size a) ∧
  (∀ a x, ((![v371, v368] : Fin 2 → IVec S16 32) a x).toNat < S8x4096.size a) ∧
  (∀ a x, ((![v371, v368] : Fin 2 → IVec S16 32) a x).toNat < S8x4096.size a) ∧
  (∀ a x, ((![v371, v368] : Fin 2 → IVec S16 32) a x).toNat < S8x4096.size a) ∧
  (∀ a x, ((![v371, v368] : Fin 2 → IVec S16 32) a x).toNat < S8x4096.size a)
theorem k0_idx16_inb : ∀ (v368 : IVec S16 32) (v371 : IVec S16 32) (k0_hw4 : k0_chk4 v368 v371), ∀ a x, ((![v371, v368] : Fin 2 → IVec S16 32) a x).toNat < S8x4096.size a := fun v368 v371 k0_hw4 => k0_hw4.1
theorem k0_idx17_inb : ∀ (v368 : IVec S16 32) (v371 : IVec S16 32) (k0_hw4 : k0_chk4 v368 v371), ∀ a x, ((![v371, v368] : Fin 2 → IVec S16 32) a x).toNat < S8x4096.size a := fun v368 v371 k0_hw4 => k0_hw4.2.1
theorem k0_idx18_inb : ∀ (v368 : IVec S16 32) (v371 : IVec S16 32) (k0_hw4 : k0_chk4 v368 v371), ∀ a x, ((![v371, v368] : Fin 2 → IVec S16 32) a x).toNat < S8x4096.size a := fun v368 v371 k0_hw4 => k0_hw4.2.2.1
theorem k0_idx19_inb : ∀ (v368 : IVec S16 32) (v371 : IVec S16 32) (k0_hw4 : k0_chk4 v368 v371), ∀ a x, ((![v371, v368] : Fin 2 → IVec S16 32) a x).toNat < S8x4096.size a := fun v368 v371 k0_hw4 => k0_hw4.2.2.2.1
theorem k0_idx20_inb : ∀ (v368 : IVec S16 32) (v371 : IVec S16 32) (k0_hw4 : k0_chk4 v368 v371), ∀ a x, ((![v371, v368] : Fin 2 → IVec S16 32) a x).toNat < S8x4096.size a := fun v368 v371 k0_hw4 => k0_hw4.2.2.2.2
def k0_off8 (k0_t2 : Fin k0_t2_loop.trips) : Fin 2 → Nat :=
  let c0_i32_3 : BitVec 32 := 0#32
  let c1_i32_4 : BitVec 32 := 1#32
  let arg10 : BitVec 32 := Scf.iv c0_i32_3 c1_i32_4 k0_t2
  let c8_i32_159 : BitVec 32 := 8#32
  let v484 : BitVec 32 := Scalar.muli arg10 c8_i32_159
  let c4_i32_160 : BitVec 32 := 4#32
  let v485 : BitVec 32 := Scalar.addi v484 c4_i32_160
  let v486 : Index := Scalar.indexCast v485
  let c0_161 : Index := 0#32
  ![v486.toNat, 0]

def k0_chk5 (v487 : IVec S16 32) (v490 : IVec S16 32) : Prop :=
  (∀ a x, ((![v490, v487] : Fin 2 → IVec S16 32) a x).toNat < S8x4096.size a) ∧
  (∀ a x, ((![v490, v487] : Fin 2 → IVec S16 32) a x).toNat < S8x4096.size a) ∧
  (∀ a x, ((![v490, v487] : Fin 2 → IVec S16 32) a x).toNat < S8x4096.size a) ∧
  (∀ a x, ((![v490, v487] : Fin 2 → IVec S16 32) a x).toNat < S8x4096.size a) ∧
  (∀ a x, ((![v490, v487] : Fin 2 → IVec S16 32) a x).toNat < S8x4096.size a)
theorem k0_idx21_inb : ∀ (v487 : IVec S16 32) (v490 : IVec S16 32) (k0_hw5 : k0_chk5 v487 v490), ∀ a x, ((![v490, v487] : Fin 2 → IVec S16 32) a x).toNat < S8x4096.size a := fun v487 v490 k0_hw5 => k0_hw5.1
theorem k0_idx22_inb : ∀ (v487 : IVec S16 32) (v490 : IVec S16 32) (k0_hw5 : k0_chk5 v487 v490), ∀ a x, ((![v490, v487] : Fin 2 → IVec S16 32) a x).toNat < S8x4096.size a := fun v487 v490 k0_hw5 => k0_hw5.2.1
theorem k0_idx23_inb : ∀ (v487 : IVec S16 32) (v490 : IVec S16 32) (k0_hw5 : k0_chk5 v487 v490), ∀ a x, ((![v490, v487] : Fin 2 → IVec S16 32) a x).toNat < S8x4096.size a := fun v487 v490 k0_hw5 => k0_hw5.2.2.1
theorem k0_idx24_inb : ∀ (v487 : IVec S16 32) (v490 : IVec S16 32) (k0_hw5 : k0_chk5 v487 v490), ∀ a x, ((![v490, v487] : Fin 2 → IVec S16 32) a x).toNat < S8x4096.size a := fun v487 v490 k0_hw5 => k0_hw5.2.2.2.1
theorem k0_idx25_inb : ∀ (v487 : IVec S16 32) (v490 : IVec S16 32) (k0_hw5 : k0_chk5 v487 v490), ∀ a x, ((![v490, v487] : Fin 2 → IVec S16 32) a x).toNat < S8x4096.size a := fun v487 v490 k0_hw5 => k0_hw5.2.2.2.2
def k0_off9 (k0_t2 : Fin k0_t2_loop.trips) : Fin 2 → Nat :=
  let c0_i32_3 : BitVec 32 := 0#32
  let c1_i32_4 : BitVec 32 := 1#32
  let arg10 : BitVec 32 := Scf.iv c0_i32_3 c1_i32_4 k0_t2
  let c8_i32_198 : BitVec 32 := 8#32
  let v603 : BitVec 32 := Scalar.muli arg10 c8_i32_198
  let c5_i32 : BitVec 32 := 5#32
  let v604 : BitVec 32 := Scalar.addi v603 c5_i32
  let v605 : Index := Scalar.indexCast v604
  let c0_199 : Index := 0#32
  ![v605.toNat, 0]

def k0_chk6 (v606 : IVec S16 32) (v609 : IVec S16 32) : Prop :=
  (∀ a x, ((![v609, v606] : Fin 2 → IVec S16 32) a x).toNat < S8x4096.size a) ∧
  (∀ a x, ((![v609, v606] : Fin 2 → IVec S16 32) a x).toNat < S8x4096.size a) ∧
  (∀ a x, ((![v609, v606] : Fin 2 → IVec S16 32) a x).toNat < S8x4096.size a) ∧
  (∀ a x, ((![v609, v606] : Fin 2 → IVec S16 32) a x).toNat < S8x4096.size a) ∧
  (∀ a x, ((![v609, v606] : Fin 2 → IVec S16 32) a x).toNat < S8x4096.size a)
theorem k0_idx26_inb : ∀ (v606 : IVec S16 32) (v609 : IVec S16 32) (k0_hw6 : k0_chk6 v606 v609), ∀ a x, ((![v609, v606] : Fin 2 → IVec S16 32) a x).toNat < S8x4096.size a := fun v606 v609 k0_hw6 => k0_hw6.1
theorem k0_idx27_inb : ∀ (v606 : IVec S16 32) (v609 : IVec S16 32) (k0_hw6 : k0_chk6 v606 v609), ∀ a x, ((![v609, v606] : Fin 2 → IVec S16 32) a x).toNat < S8x4096.size a := fun v606 v609 k0_hw6 => k0_hw6.2.1
theorem k0_idx28_inb : ∀ (v606 : IVec S16 32) (v609 : IVec S16 32) (k0_hw6 : k0_chk6 v606 v609), ∀ a x, ((![v609, v606] : Fin 2 → IVec S16 32) a x).toNat < S8x4096.size a := fun v606 v609 k0_hw6 => k0_hw6.2.2.1
theorem k0_idx29_inb : ∀ (v606 : IVec S16 32) (v609 : IVec S16 32) (k0_hw6 : k0_chk6 v606 v609), ∀ a x, ((![v609, v606] : Fin 2 → IVec S16 32) a x).toNat < S8x4096.size a := fun v606 v609 k0_hw6 => k0_hw6.2.2.2.1
theorem k0_idx30_inb : ∀ (v606 : IVec S16 32) (v609 : IVec S16 32) (k0_hw6 : k0_chk6 v606 v609), ∀ a x, ((![v609, v606] : Fin 2 → IVec S16 32) a x).toNat < S8x4096.size a := fun v606 v609 k0_hw6 => k0_hw6.2.2.2.2
def k0_off10 (k0_t2 : Fin k0_t2_loop.trips) : Fin 2 → Nat :=
  let c0_i32_3 : BitVec 32 := 0#32
  let c1_i32_4 : BitVec 32 := 1#32
  let arg10 : BitVec 32 := Scf.iv c0_i32_3 c1_i32_4 k0_t2
  let c8_i32_236 : BitVec 32 := 8#32
  let v722 : BitVec 32 := Scalar.muli arg10 c8_i32_236
  let c6_i32 : BitVec 32 := 6#32
  let v723 : BitVec 32 := Scalar.addi v722 c6_i32
  let v724 : Index := Scalar.indexCast v723
  let c0_237 : Index := 0#32
  ![v724.toNat, 0]

def k0_chk7 (v725 : IVec S16 32) (v728 : IVec S16 32) : Prop :=
  (∀ a x, ((![v728, v725] : Fin 2 → IVec S16 32) a x).toNat < S8x4096.size a) ∧
  (∀ a x, ((![v728, v725] : Fin 2 → IVec S16 32) a x).toNat < S8x4096.size a) ∧
  (∀ a x, ((![v728, v725] : Fin 2 → IVec S16 32) a x).toNat < S8x4096.size a) ∧
  (∀ a x, ((![v728, v725] : Fin 2 → IVec S16 32) a x).toNat < S8x4096.size a) ∧
  (∀ a x, ((![v728, v725] : Fin 2 → IVec S16 32) a x).toNat < S8x4096.size a)
theorem k0_idx31_inb : ∀ (v725 : IVec S16 32) (v728 : IVec S16 32) (k0_hw7 : k0_chk7 v725 v728), ∀ a x, ((![v728, v725] : Fin 2 → IVec S16 32) a x).toNat < S8x4096.size a := fun v725 v728 k0_hw7 => k0_hw7.1
theorem k0_idx32_inb : ∀ (v725 : IVec S16 32) (v728 : IVec S16 32) (k0_hw7 : k0_chk7 v725 v728), ∀ a x, ((![v728, v725] : Fin 2 → IVec S16 32) a x).toNat < S8x4096.size a := fun v725 v728 k0_hw7 => k0_hw7.2.1
theorem k0_idx33_inb : ∀ (v725 : IVec S16 32) (v728 : IVec S16 32) (k0_hw7 : k0_chk7 v725 v728), ∀ a x, ((![v728, v725] : Fin 2 → IVec S16 32) a x).toNat < S8x4096.size a := fun v725 v728 k0_hw7 => k0_hw7.2.2.1
theorem k0_idx34_inb : ∀ (v725 : IVec S16 32) (v728 : IVec S16 32) (k0_hw7 : k0_chk7 v725 v728), ∀ a x, ((![v728, v725] : Fin 2 → IVec S16 32) a x).toNat < S8x4096.size a := fun v725 v728 k0_hw7 => k0_hw7.2.2.2.1
theorem k0_idx35_inb : ∀ (v725 : IVec S16 32) (v728 : IVec S16 32) (k0_hw7 : k0_chk7 v725 v728), ∀ a x, ((![v728, v725] : Fin 2 → IVec S16 32) a x).toNat < S8x4096.size a := fun v725 v728 k0_hw7 => k0_hw7.2.2.2.2
def k0_off11 (k0_t2 : Fin k0_t2_loop.trips) : Fin 2 → Nat :=
  let c0_i32_3 : BitVec 32 := 0#32
  let c1_i32_4 : BitVec 32 := 1#32
  let arg10 : BitVec 32 := Scf.iv c0_i32_3 c1_i32_4 k0_t2
  let c8_i32_274 : BitVec 32 := 8#32
  let v841 : BitVec 32 := Scalar.muli arg10 c8_i32_274
  let c7_i32 : BitVec 32 := 7#32
  let v842 : BitVec 32 := Scalar.addi v841 c7_i32
  let v843 : Index := Scalar.indexCast v842
  let c0_275 : Index := 0#32
  ![v843.toNat, 0]

def k0_chk8 (v844 : IVec S16 32) (v847 : IVec S16 32) : Prop :=
  (∀ a x, ((![v847, v844] : Fin 2 → IVec S16 32) a x).toNat < S8x4096.size a) ∧
  (∀ a x, ((![v847, v844] : Fin 2 → IVec S16 32) a x).toNat < S8x4096.size a) ∧
  (∀ a x, ((![v847, v844] : Fin 2 → IVec S16 32) a x).toNat < S8x4096.size a) ∧
  (∀ a x, ((![v847, v844] : Fin 2 → IVec S16 32) a x).toNat < S8x4096.size a) ∧
  (∀ a x, ((![v847, v844] : Fin 2 → IVec S16 32) a x).toNat < S8x4096.size a)
theorem k0_idx36_inb : ∀ (v844 : IVec S16 32) (v847 : IVec S16 32) (k0_hw8 : k0_chk8 v844 v847), ∀ a x, ((![v847, v844] : Fin 2 → IVec S16 32) a x).toNat < S8x4096.size a := fun v844 v847 k0_hw8 => k0_hw8.1
theorem k0_idx37_inb : ∀ (v844 : IVec S16 32) (v847 : IVec S16 32) (k0_hw8 : k0_chk8 v844 v847), ∀ a x, ((![v847, v844] : Fin 2 → IVec S16 32) a x).toNat < S8x4096.size a := fun v844 v847 k0_hw8 => k0_hw8.2.1
theorem k0_idx38_inb : ∀ (v844 : IVec S16 32) (v847 : IVec S16 32) (k0_hw8 : k0_chk8 v844 v847), ∀ a x, ((![v847, v844] : Fin 2 → IVec S16 32) a x).toNat < S8x4096.size a := fun v844 v847 k0_hw8 => k0_hw8.2.2.1
theorem k0_idx39_inb : ∀ (v844 : IVec S16 32) (v847 : IVec S16 32) (k0_hw8 : k0_chk8 v844 v847), ∀ a x, ((![v847, v844] : Fin 2 → IVec S16 32) a x).toNat < S8x4096.size a := fun v844 v847 k0_hw8 => k0_hw8.2.2.2.1
theorem k0_idx40_inb : ∀ (v844 : IVec S16 32) (v847 : IVec S16 32) (k0_hw8 : k0_chk8 v844 v847), ∀ a x, ((![v847, v844] : Fin 2 → IVec S16 32) a x).toNat < S8x4096.size a := fun v844 v847 k0_hw8 => k0_hw8.2.2.2.2
def k0_off12 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_3 : BitVec 32 := 0#32
  let c1_i32_4 : BitVec 32 := 1#32
  let arg10 : BitVec 32 := Scf.iv c0_i32_3 c1_i32_4 k0_t2
  let c8_i32_6 : BitVec 32 := 8#32
  let v5 : BitVec 32 := Scalar.muli arg10 c8_i32_6
  let v6 : BitVec 32 := Scalar.addi v2 v5
  let c0_i32_352_r3 : BitVec 32 := 0#32
  ![v6.toNat, 0]
def k0_off13 (k0_t2 : Fin k0_t2_loop.trips) : Fin 2 → Nat :=
  let c0_i32_3 : BitVec 32 := 0#32
  let c1_i32_4 : BitVec 32 := 1#32
  let arg10 : BitVec 32 := Scf.iv c0_i32_3 c1_i32_4 k0_t2
  let c8_i32_312 : BitVec 32 := 8#32
  let v960 : BitVec 32 := Scalar.muli arg10 c8_i32_312
  let c0_i32_313 : BitVec 32 := 0#32
  let v961 : BitVec 32 := Scalar.addi v960 c0_i32_313
  let v962 : Index := Scalar.indexCast v961
  let c0_314 : Index := 0#32
  ![v962.toNat, 0]

def k0_chk9 (v963 : IVec S16 32) (v964 : IVec S16 32) : Prop :=
  (∀ a x, ((![v964, v963] : Fin 2 → IVec S16 32) a x).toNat < S8x4096.size a)
theorem k0_idx41_inb : ∀ (v963 : IVec S16 32) (v964 : IVec S16 32) (k0_hw9 : k0_chk9 v963 v964), ∀ a x, ((![v964, v963] : Fin 2 → IVec S16 32) a x).toNat < S8x4096.size a := fun v963 v964 k0_hw9 => k0_hw9
def k0_off14 (k0_t2 : Fin k0_t2_loop.trips) : Fin 2 → Nat :=
  let c0_i32_3 : BitVec 32 := 0#32
  let c1_i32_4 : BitVec 32 := 1#32
  let arg10 : BitVec 32 := Scf.iv c0_i32_3 c1_i32_4 k0_t2
  let c8_i32_317 : BitVec 32 := 8#32
  let v966 : BitVec 32 := Scalar.muli arg10 c8_i32_317
  let c1_i32_318 : BitVec 32 := 1#32
  let v967 : BitVec 32 := Scalar.addi v966 c1_i32_318
  let v968 : Index := Scalar.indexCast v967
  let c0_319 : Index := 0#32
  ![v968.toNat, 0]

def k0_chk10 (v969 : IVec S16 32) (v970 : IVec S16 32) : Prop :=
  (∀ a x, ((![v970, v969] : Fin 2 → IVec S16 32) a x).toNat < S8x4096.size a)
theorem k0_idx42_inb : ∀ (v969 : IVec S16 32) (v970 : IVec S16 32) (k0_hw10 : k0_chk10 v969 v970), ∀ a x, ((![v970, v969] : Fin 2 → IVec S16 32) a x).toNat < S8x4096.size a := fun v969 v970 k0_hw10 => k0_hw10
def k0_off15 (k0_t2 : Fin k0_t2_loop.trips) : Fin 2 → Nat :=
  let c0_i32_3 : BitVec 32 := 0#32
  let c1_i32_4 : BitVec 32 := 1#32
  let arg10 : BitVec 32 := Scf.iv c0_i32_3 c1_i32_4 k0_t2
  let c8_i32_322 : BitVec 32 := 8#32
  let v972 : BitVec 32 := Scalar.muli arg10 c8_i32_322
  let c2_i32_323 : BitVec 32 := 2#32
  let v973 : BitVec 32 := Scalar.addi v972 c2_i32_323
  let v974 : Index := Scalar.indexCast v973
  let c0_324 : Index := 0#32
  ![v974.toNat, 0]

def k0_chk11 (v975 : IVec S16 32) (v976 : IVec S16 32) : Prop :=
  (∀ a x, ((![v976, v975] : Fin 2 → IVec S16 32) a x).toNat < S8x4096.size a)
theorem k0_idx43_inb : ∀ (v975 : IVec S16 32) (v976 : IVec S16 32) (k0_hw11 : k0_chk11 v975 v976), ∀ a x, ((![v976, v975] : Fin 2 → IVec S16 32) a x).toNat < S8x4096.size a := fun v975 v976 k0_hw11 => k0_hw11
def k0_off16 (k0_t2 : Fin k0_t2_loop.trips) : Fin 2 → Nat :=
  let c0_i32_3 : BitVec 32 := 0#32
  let c1_i32_4 : BitVec 32 := 1#32
  let arg10 : BitVec 32 := Scf.iv c0_i32_3 c1_i32_4 k0_t2
  let c8_i32_327 : BitVec 32 := 8#32
  let v978 : BitVec 32 := Scalar.muli arg10 c8_i32_327
  let c3_i32_328 : BitVec 32 := 3#32
  let v979 : BitVec 32 := Scalar.addi v978 c3_i32_328
  let v980 : Index := Scalar.indexCast v979
  let c0_329 : Index := 0#32
  ![v980.toNat, 0]

def k0_chk12 (v981 : IVec S16 32) (v982 : IVec S16 32) : Prop :=
  (∀ a x, ((![v982, v981] : Fin 2 → IVec S16 32) a x).toNat < S8x4096.size a)
theorem k0_idx44_inb : ∀ (v981 : IVec S16 32) (v982 : IVec S16 32) (k0_hw12 : k0_chk12 v981 v982), ∀ a x, ((![v982, v981] : Fin 2 → IVec S16 32) a x).toNat < S8x4096.size a := fun v981 v982 k0_hw12 => k0_hw12
def k0_off17 (k0_t2 : Fin k0_t2_loop.trips) : Fin 2 → Nat :=
  let c0_i32_3 : BitVec 32 := 0#32
  let c1_i32_4 : BitVec 32 := 1#32
  let arg10 : BitVec 32 := Scf.iv c0_i32_3 c1_i32_4 k0_t2
  let c8_i32_332 : BitVec 32 := 8#32
  let v984 : BitVec 32 := Scalar.muli arg10 c8_i32_332
  let c4_i32_333 : BitVec 32 := 4#32
  let v985 : BitVec 32 := Scalar.addi v984 c4_i32_333
  let v986 : Index := Scalar.indexCast v985
  let c0_334 : Index := 0#32
  ![v986.toNat, 0]

def k0_chk13 (v987 : IVec S16 32) (v988 : IVec S16 32) : Prop :=
  (∀ a x, ((![v988, v987] : Fin 2 → IVec S16 32) a x).toNat < S8x4096.size a)
theorem k0_idx45_inb : ∀ (v987 : IVec S16 32) (v988 : IVec S16 32) (k0_hw13 : k0_chk13 v987 v988), ∀ a x, ((![v988, v987] : Fin 2 → IVec S16 32) a x).toNat < S8x4096.size a := fun v987 v988 k0_hw13 => k0_hw13
def k0_off18 (k0_t2 : Fin k0_t2_loop.trips) : Fin 2 → Nat :=
  let c0_i32_3 : BitVec 32 := 0#32
  let c1_i32_4 : BitVec 32 := 1#32
  let arg10 : BitVec 32 := Scf.iv c0_i32_3 c1_i32_4 k0_t2
  let c8_i32_337 : BitVec 32 := 8#32
  let v990 : BitVec 32 := Scalar.muli arg10 c8_i32_337
  let c5_i32_338 : BitVec 32 := 5#32
  let v991 : BitVec 32 := Scalar.addi v990 c5_i32_338
  let v992 : Index := Scalar.indexCast v991
  let c0_339 : Index := 0#32
  ![v992.toNat, 0]

def k0_chk14 (v993 : IVec S16 32) (v994 : IVec S16 32) : Prop :=
  (∀ a x, ((![v994, v993] : Fin 2 → IVec S16 32) a x).toNat < S8x4096.size a)
theorem k0_idx46_inb : ∀ (v993 : IVec S16 32) (v994 : IVec S16 32) (k0_hw14 : k0_chk14 v993 v994), ∀ a x, ((![v994, v993] : Fin 2 → IVec S16 32) a x).toNat < S8x4096.size a := fun v993 v994 k0_hw14 => k0_hw14
def k0_off19 (k0_t2 : Fin k0_t2_loop.trips) : Fin 2 → Nat :=
  let c0_i32_3 : BitVec 32 := 0#32
  let c1_i32_4 : BitVec 32 := 1#32
  let arg10 : BitVec 32 := Scf.iv c0_i32_3 c1_i32_4 k0_t2
  let c8_i32_342 : BitVec 32 := 8#32
  let v996 : BitVec 32 := Scalar.muli arg10 c8_i32_342
  let c6_i32_343 : BitVec 32 := 6#32
  let v997 : BitVec 32 := Scalar.addi v996 c6_i32_343
  let v998 : Index := Scalar.indexCast v997
  let c0_344 : Index := 0#32
  ![v998.toNat, 0]

def k0_chk15 (v999 : IVec S16 32) (v1000 : IVec S16 32) : Prop :=
  (∀ a x, ((![v1000, v999] : Fin 2 → IVec S16 32) a x).toNat < S8x4096.size a)
theorem k0_idx47_inb : ∀ (v999 : IVec S16 32) (v1000 : IVec S16 32) (k0_hw15 : k0_chk15 v999 v1000), ∀ a x, ((![v1000, v999] : Fin 2 → IVec S16 32) a x).toNat < S8x4096.size a := fun v999 v1000 k0_hw15 => k0_hw15
def k0_off20 (k0_t2 : Fin k0_t2_loop.trips) : Fin 2 → Nat :=
  let c0_i32_3 : BitVec 32 := 0#32
  let c1_i32_4 : BitVec 32 := 1#32
  let arg10 : BitVec 32 := Scf.iv c0_i32_3 c1_i32_4 k0_t2
  let c8_i32_347 : BitVec 32 := 8#32
  let v1002 : BitVec 32 := Scalar.muli arg10 c8_i32_347
  let c7_i32_348 : BitVec 32 := 7#32
  let v1003 : BitVec 32 := Scalar.addi v1002 c7_i32_348
  let v1004 : Index := Scalar.indexCast v1003
  let c0_349 : Index := 0#32
  ![v1004.toNat, 0]

def k0_chk16 (v1005 : IVec S16 32) (v1006 : IVec S16 32) : Prop :=
  (∀ a x, ((![v1006, v1005] : Fin 2 → IVec S16 32) a x).toNat < S8x4096.size a)
theorem k0_idx48_inb : ∀ (v1005 : IVec S16 32) (v1006 : IVec S16 32) (k0_hw16 : k0_chk16 v1005 v1006), ∀ a x, ((![v1006, v1005] : Fin 2 → IVec S16 32) a x).toNat < S8x4096.size a := fun v1005 v1006 k0_hw16 => k0_hw16
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2048x4096 : Shape := ⟨2, ![2048, 4096]⟩
abbrev S2048x16 : Shape := ⟨2, ![2048, 16]⟩
abbrev S4096x1024 : Shape := ⟨2, ![4096, 1024]⟩
abbrev S_ : Shape := ⟨0, ![]⟩
abbrev S2048x16x1 : Shape := ⟨3, ![2048, 16, 1]⟩
abbrev S1 : Shape := ⟨1, ![1]⟩
abbrev S1x1x1 : Shape := ⟨3, ![1, 1, 1]⟩
abbrev S2048x16x1024 : Shape := ⟨3, ![2048, 16, 1024]⟩
abbrev S2048x1024 : Shape := ⟨2, ![2048, 1024]⟩

abbrev nBuf : Space → Nat
  | .hbm => 60
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x16, .i32⟩
  | .hbm, ⟨2, _⟩ => ⟨S2048x16, .f32⟩
  | .hbm, ⟨3, _⟩ => ⟨S4096x1024, .f32⟩
  | .hbm, ⟨4, _⟩ => ⟨S_, .i32⟩
  | .hbm, ⟨5, _⟩ => ⟨S2048x16, .i32⟩
  | .hbm, ⟨6, _⟩ => ⟨S2048x16, .i1⟩
  | .hbm, ⟨7, _⟩ => ⟨S_, .i32⟩
  | .hbm, ⟨8, _⟩ => ⟨S2048x16, .i32⟩
  | .hbm, ⟨9, _⟩ => ⟨S2048x16, .i32⟩
  | .hbm, ⟨10, _⟩ => ⟨S2048x16, .i32⟩
  | .hbm, ⟨11, _⟩ => ⟨S2048x16x1, .i32⟩
  | .hbm, ⟨12, _⟩ => ⟨S1, .i32⟩
  | .hbm, ⟨13, _⟩ => ⟨S_, .i32⟩
  | .hbm, ⟨14, _⟩ => ⟨S2048x16x1, .i32⟩
  | .hbm, ⟨15, _⟩ => ⟨S2048x16x1, .i1⟩
  | .hbm, ⟨16, _⟩ => ⟨S1x1x1, .i32⟩
  | .hbm, ⟨17, _⟩ => ⟨S2048x16x1, .i32⟩
  | .hbm, ⟨18, _⟩ => ⟨S2048x16x1, .i1⟩
  | .hbm, ⟨19, _⟩ => ⟨S2048x16x1, .i1⟩
  | .hbm, ⟨20, _⟩ => ⟨S_, .i1⟩
  | .hbm, ⟨21, _⟩ => ⟨S2048x16, .i1⟩
  | .hbm, ⟨22, _⟩ => ⟨S2048x16, .f32⟩
  | .hbm, ⟨23, _⟩ => ⟨S_, .f32⟩
  | .hbm, ⟨24, _⟩ => ⟨S2048x16, .f32⟩
  | .hbm, ⟨25, _⟩ => ⟨S2048x16, .f32⟩
  | .hbm, ⟨26, _⟩ => ⟨S2048x16, .f32⟩
  | .hbm, ⟨27, _⟩ => ⟨S2048x16, .f32⟩
  | .hbm, ⟨28, _⟩ => ⟨S_, .f32⟩
  | .hbm, ⟨29, _⟩ => ⟨S2048x16, .f32⟩
  | .hbm, ⟨30, _⟩ => ⟨S2048x16, .f32⟩
  | .hbm, ⟨31, _⟩ => ⟨S_, .f32⟩
  | .hbm, ⟨32, _⟩ => ⟨S2048x16, .f32⟩
  | .hbm, ⟨33, _⟩ => ⟨S2048x16, .f32⟩
  | .hbm, ⟨34, _⟩ => ⟨S2048x16, .f32⟩
  | .hbm, ⟨35, _⟩ => ⟨S2048x16, .f32⟩
  | .hbm, ⟨36, _⟩ => ⟨S_, .i32⟩
  | .hbm, ⟨37, _⟩ => ⟨S2048x16, .i32⟩
  | .hbm, ⟨38, _⟩ => ⟨S2048x16, .i1⟩
  | .hbm, ⟨39, _⟩ => ⟨S_, .i32⟩
  | .hbm, ⟨40, _⟩ => ⟨S2048x16, .i32⟩
  | .hbm, ⟨41, _⟩ => ⟨S2048x16, .i32⟩
  | .hbm, ⟨42, _⟩ => ⟨S2048x16, .i32⟩
  | .hbm, ⟨43, _⟩ => ⟨S2048x16x1, .i32⟩
  | .hbm, ⟨44, _⟩ => ⟨S1, .i32⟩
  | .hbm, ⟨45, _⟩ => ⟨S_, .i32⟩
  | .hbm, ⟨46, _⟩ => ⟨S2048x16x1, .i32⟩
  | .hbm, ⟨47, _⟩ => ⟨S2048x16x1, .i1⟩
  | .hbm, ⟨48, _⟩ => ⟨S1x1x1, .i32⟩
  | .hbm, ⟨49, _⟩ => ⟨S2048x16x1, .i32⟩
  | .hbm, ⟨50, _⟩ => ⟨S2048x16x1, .i1⟩
  | .hbm, ⟨51, _⟩ => ⟨S2048x16x1, .i1⟩
  | .hbm, ⟨52, _⟩ => ⟨S_, .i1⟩
  | .hbm, ⟨53, _⟩ => ⟨S2048x16, .i1⟩
  | .hbm, ⟨54, _⟩ => ⟨S2048x16x1024, .f32⟩
  | .hbm, ⟨55, _⟩ => ⟨S2048x16x1024, .i1⟩
  | .hbm, ⟨56, _⟩ => ⟨S_, .f32⟩
  | .hbm, ⟨57, _⟩ => ⟨S2048x16x1024, .f32⟩
  | .hbm, ⟨58, _⟩ => ⟨S2048x16x1024, .f32⟩
  | .hbm, ⟨59, _⟩ => ⟨S2048x1024, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v0 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_call1_v5 : Ref sig .tc := ⟨.hbm, 33, rfl⟩
abbrev main_v1 : Ref sig .tc := ⟨.hbm, 34, rfl⟩
abbrev main_v2 : Ref sig .tc := ⟨.hbm, 35, rfl⟩
abbrev main_call2_c : Ref sig .tc := ⟨.hbm, 36, rfl⟩
abbrev main_call2_v0 : Ref sig .tc := ⟨.hbm, 37, rfl⟩
abbrev main_call2_v1 : Ref sig .tc := ⟨.hbm, 38, rfl⟩
abbrev main_call2_c_0 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_c_1 : Ref sig .tc := ⟨.hbm, 44, rfl⟩
abbrev main_call2_c_2 : Ref sig .tc := ⟨.hbm, 45, rfl⟩
abbrev main_call2_v6 : Ref sig .tc := ⟨.hbm, 46, rfl⟩
abbrev main_call2_v7 : Ref sig .tc := ⟨.hbm, 47, rfl⟩
abbrev main_call2_v8 : Ref sig .tc := ⟨.hbm, 48, rfl⟩
abbrev main_call2_v9 : Ref sig .tc := ⟨.hbm, 49, rfl⟩
abbrev main_call2_v10 : Ref sig .tc := ⟨.hbm, 50, rfl⟩
abbrev main_call2_v11 : Ref sig .tc := ⟨.hbm, 51, rfl⟩
abbrev main_call2_c_3 : Ref sig .tc := ⟨.hbm, 52, rfl⟩
abbrev main_call2_v12 : Ref sig .tc := ⟨.hbm, 53, rfl⟩
abbrev main_call2_v13 : Ref sig .tc := ⟨.hbm, 54, rfl⟩
abbrev main_call2_v14 : Ref sig .tc := ⟨.hbm, 55, rfl⟩
abbrev main_call2_cst : Ref sig .tc := ⟨.hbm, 56, rfl⟩
abbrev main_call2_v15 : Ref sig .tc := ⟨.hbm, 57, rfl⟩
abbrev main_v3 : Ref sig .tc := ⟨.hbm, 58, rfl⟩
abbrev main_v4 : Ref sig .tc := ⟨.hbm, 59, rfl⟩

abbrev nD : Nat := 1
abbrev τ : Topo := Topo.v7x

variable {F : FTy → Type} [FloatOps F]
-- ==== Hidden.lean ====
abbrev S1x2048x1024 : Shape := ⟨3, ![1, 2048, 1024]⟩
abbrev S1024x4096 : Shape := ⟨2, ![1024, 4096]⟩
abbrev S4096x1024 : Shape := ⟨2, ![4096, 1024]⟩
abbrev S2048x1024 : Shape := ⟨2, ![2048, 1024]⟩
abbrev S256x1024 : Shape := ⟨2, ![256, 1024]⟩
abbrev S256x4096 : Shape := ⟨2, ![256, 4096]⟩

abbrev nBuf : Space → Nat
  | .hbm => 7
  | .vmem => 6
  | .smem => 0
  | _ => 0

abbrev bufTy : (tb : Table) → Fin (tcTables nBuf tb) → BufTy
  | .hbm, ⟨0, _⟩ => ⟨S1x2048x1024, .f32⟩
  | .hbm, ⟨1, _⟩ => ⟨S1024x4096, .f32⟩
  | .hbm, ⟨2, _⟩ => ⟨S4096x1024, .f32⟩
  | .hbm, ⟨3, _⟩ => ⟨S2048x1024, .f32⟩
  | .hbm, ⟨4, _⟩ => ⟨S1024x4096, .bf16⟩
  | .hbm, ⟨5, _⟩ => ⟨S4096x1024, .bf16⟩
  | .hbm, ⟨6, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S1024x4096, .bf16⟩
  | .local _ .vmem, ⟨3, _⟩ => ⟨S4096x1024, .bf16⟩
  | .local _ .vmem, ⟨4, _⟩ => ⟨S256x1024, .f32⟩
  | .local _ .vmem, ⟨5, _⟩ => ⟨S256x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== HiddenReferenceIdeal.lean ====
abbrev S1x2048x1024 : Shape := ⟨3, ![1, 2048, 1024]⟩
abbrev S1024x4096 : Shape := ⟨2, ![1024, 4096]⟩
abbrev S4096x1024 : Shape := ⟨2, ![4096, 1024]⟩
abbrev S1x2048x4096 : Shape := ⟨3, ![1, 2048, 4096]⟩
abbrev S_ : Shape := ⟨0, ![]⟩
abbrev S2048x1024 : Shape := ⟨2, ![2048, 1024]⟩

abbrev nBuf : Space → Nat
  | .hbm => 15
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x4096, .f32⟩
  | .hbm, ⟨2, _⟩ => ⟨S4096x1024, .f32⟩
  | .hbm, ⟨3, _⟩ => ⟨S1x2048x4096, .f32⟩
  | .hbm, ⟨4, _⟩ => ⟨S1x2048x4096, .f32⟩
  | .hbm, ⟨5, _⟩ => ⟨S1x2048x4096, .f32⟩
  | .hbm, ⟨6, _⟩ => ⟨S_, .f32⟩
  | .hbm, ⟨7, _⟩ => ⟨S1x2048x4096, .f32⟩
  | .hbm, ⟨8, _⟩ => ⟨S1x2048x4096, .f32⟩
  | .hbm, ⟨9, _⟩ => ⟨S_, .f32⟩
  | .hbm, ⟨10, _⟩ => ⟨S1x2048x4096, .f32⟩
  | .hbm, ⟨11, _⟩ => ⟨S1x2048x4096, .f32⟩
  | .hbm, ⟨12, _⟩ => ⟨S1x2048x4096, .f32⟩
  | .hbm, ⟨13, _⟩ => ⟨S1x2048x1024, .f32⟩
  | .hbm, ⟨14, _⟩ => ⟨S2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Route.lean ====
abbrev S2048x1024 : Shape := ⟨2, ![2048, 1024]⟩
abbrev S1024x4096 : Shape := ⟨2, ![1024, 4096]⟩
abbrev S4x64x2x512 : Shape := ⟨4, ![4, 64, 2, 512]⟩
abbrev S4096x1024 : Shape := ⟨2, ![4096, 1024]⟩
abbrev S2x4x512x64 : Shape := ⟨4, ![2, 4, 512, 64]⟩
abbrev S2048x4096 : Shape := ⟨2, ![2048, 4096]⟩
abbrev S2048x16 : Shape := ⟨2, ![2048, 16]⟩
abbrev S256x1024 : Shape := ⟨2, ![256, 1024]⟩
abbrev S256x4096 : Shape := ⟨2, ![256, 4096]⟩
abbrev S256x16 : Shape := ⟨2, ![256, 16]⟩
abbrev S256x512 : Shape := ⟨2, ![256, 512]⟩
abbrev S1x1x512x64 : Shape := ⟨4, ![1, 1, 512, 64]⟩
abbrev S512x64 : Shape := ⟨2, ![512, 64]⟩
abbrev S256x64 : Shape := ⟨2, ![256, 64]⟩
abbrev S256 : Shape := ⟨1, ![256]⟩
abbrev S256x1 : Shape := ⟨2, ![256, 1]⟩
abbrev S256x4 : Shape := ⟨2, ![256, 4]⟩

abbrev nBuf : Space → Nat
  | .hbm => 11
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4x64x2x512, .f32⟩
  | .hbm, ⟨3, _⟩ => ⟨S4096x1024, .f32⟩
  | .hbm, ⟨4, _⟩ => ⟨S1024x4096, .bf16⟩
  | .hbm, ⟨5, _⟩ => ⟨S2x4x512x64, .f32⟩
  | .hbm, ⟨6, _⟩ => ⟨S2x4x512x64, .bf16⟩
  | .hbm, ⟨7, _⟩ => ⟨S4096x1024, .bf16⟩
  | .hbm, ⟨8, _⟩ => ⟨S2048x4096, .f32⟩
  | .hbm, ⟨9, _⟩ => ⟨S2048x16, .i32⟩
  | .hbm, ⟨10, _⟩ => ⟨S2048x16, .f32⟩
  | .local _ .vmem, ⟨0, _⟩ => ⟨S256x1024, .f32⟩
  | .local _ .vmem, ⟨1, _⟩ => ⟨S256x1024, .f32⟩
  | .local _ .vmem, ⟨2, _⟩ => ⟨S1024x4096, .bf16⟩
  | .local _ .vmem, ⟨3, _⟩ => ⟨S2x4x512x64, .bf16⟩
  | .local _ .vmem, ⟨4, _⟩ => ⟨S4096x1024, .bf16⟩
  | .local _ .vmem, ⟨5, _⟩ => ⟨S256x4096, .f32⟩
  | .local _ .vmem, ⟨6, _⟩ => ⟨S256x4096, .f32⟩
  | .local _ .vmem, ⟨7, _⟩ => ⟨S256x16, .i32⟩
  | .local _ .vmem, ⟨8, _⟩ => ⟨S256x16, .i32⟩
  | .local _ .vmem, ⟨9, _⟩ => ⟨S256x16, .f32⟩
  | .local _ .vmem, ⟨10, _⟩ => ⟨S256x16, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x4x512x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x16 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RouteReferenceIdeal.lean ====
abbrev S2048x1024 : Shape := ⟨2, ![2048, 1024]⟩
abbrev S1024x4096 : Shape := ⟨2, ![1024, 4096]⟩
abbrev S4x64x2x512 : Shape := ⟨4, ![4, 64, 2, 512]⟩
abbrev S4096x1024 : Shape := ⟨2, ![4096, 1024]⟩
abbrev S2048x4096 : Shape := ⟨2, ![2048, 4096]⟩
abbrev S2048x2x4x512 : Shape := ⟨4, ![2048, 2, 4, 512]⟩
abbrev S2x2048x4x512 : Shape := ⟨4, ![2, 2048, 4, 512]⟩
abbrev S2x4x64x2048 : Shape := ⟨4, ![2, 4, 64, 2048]⟩
abbrev S2x2048x4x64 : Shape := ⟨4, ![2, 2048, 4, 64]⟩
abbrev S2x2048x4x4 : Shape := ⟨4, ![2, 2048, 4, 4]⟩
abbrev S1x2048x4x4 : Shape := ⟨4, ![1, 2048, 4, 4]⟩
abbrev S2048x4x4 : Shape := ⟨3, ![2048, 4, 4]⟩
abbrev S2048x4x4x1 : Shape := ⟨4, ![2048, 4, 4, 1]⟩
abbrev S2048x4x1x4 : Shape := ⟨4, ![2048, 4, 1, 4]⟩
abbrev S2048x4x4x4 : Shape := ⟨4, ![2048, 4, 4, 4]⟩
abbrev S2048x4x16 : Shape := ⟨3, ![2048, 4, 16]⟩
abbrev S_ : Shape := ⟨0, ![]⟩
abbrev S1 : Shape := ⟨1, ![1]⟩
abbrev S1x1x1x1 : Shape := ⟨4, ![1, 1, 1, 1]⟩
abbrev S2048x4 : Shape := ⟨2, ![2048, 4]⟩
abbrev S2048x4x1 : Shape := ⟨3, ![2048, 4, 1]⟩
abbrev S2048x16 : Shape := ⟨2, ![2048, 16]⟩

abbrev nBuf : Space → Nat
  | .hbm => 76
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4x64x2x512, .f32⟩
  | .hbm, ⟨3, _⟩ => ⟨S4096x1024, .f32⟩
  | .hbm, ⟨4, _⟩ => ⟨S2048x4096, .f32⟩
  | .hbm, ⟨5, _⟩ => ⟨S2048x2x4x512, .f32⟩
  | .hbm, ⟨6, _⟩ => ⟨S2x2048x4x512, .f32⟩
  | .hbm, ⟨7, _⟩ => ⟨S2x4x64x2048, .f32⟩
  | .hbm, ⟨8, _⟩ => ⟨S2x2048x4x64, .f32⟩
  | .hbm, ⟨9, _⟩ => ⟨S2x2048x4x4, .f32⟩
  | .hbm, ⟨10, _⟩ => ⟨S2x2048x4x4, .i32⟩
  | .hbm, ⟨11, _⟩ => ⟨S1x2048x4x4, .f32⟩
  | .hbm, ⟨12, _⟩ => ⟨S2048x4x4, .f32⟩
  | .hbm, ⟨13, _⟩ => ⟨S1x2048x4x4, .f32⟩
  | .hbm, ⟨14, _⟩ => ⟨S2048x4x4, .f32⟩
  | .hbm, ⟨15, _⟩ => ⟨S1x2048x4x4, .i32⟩
  | .hbm, ⟨16, _⟩ => ⟨S2048x4x4, .i32⟩
  | .hbm, ⟨17, _⟩ => ⟨S1x2048x4x4, .i32⟩
  | .hbm, ⟨18, _⟩ => ⟨S2048x4x4, .i32⟩
  | .hbm, ⟨19, _⟩ => ⟨S2048x4x4x1, .f32⟩
  | .hbm, ⟨20, _⟩ => ⟨S2048x4x1x4, .f32⟩
  | .hbm, ⟨21, _⟩ => ⟨S2048x4x4x4, .f32⟩
  | .hbm, ⟨22, _⟩ => ⟨S2048x4x4x4, .f32⟩
  | .hbm, ⟨23, _⟩ => ⟨S2048x4x4x4, .f32⟩
  | .hbm, ⟨24, _⟩ => ⟨S2048x4x16, .f32⟩
  | .hbm, ⟨25, _⟩ => ⟨S_, .i32⟩
  | .hbm, ⟨26, _⟩ => ⟨S2048x4x4, .i32⟩
  | .hbm, ⟨27, _⟩ => ⟨S2048x4x4, .i32⟩
  | .hbm, ⟨28, _⟩ => ⟨S2048x4x4x1, .i32⟩
  | .hbm, ⟨29, _⟩ => ⟨S2048x4x1x4, .i32⟩
  | .hbm, ⟨30, _⟩ => ⟨S2048x4x4x4, .i32⟩
  | .hbm, ⟨31, _⟩ => ⟨S2048x4x4x4, .i32⟩
  | .hbm, ⟨32, _⟩ => ⟨S2048x4x4x4, .i32⟩
  | .hbm, ⟨33, _⟩ => ⟨S2048x4x16, .i32⟩
  | .hbm, ⟨34, _⟩ => ⟨S2048x4x4, .f32⟩
  | .hbm, ⟨35, _⟩ => ⟨S2048x4x4, .i32⟩
  | .hbm, ⟨36, _⟩ => ⟨S_, .i32⟩
  | .hbm, ⟨37, _⟩ => ⟨S2048x4x4, .i32⟩
  | .hbm, ⟨38, _⟩ => ⟨S2048x4x4, .i1⟩
  | .hbm, ⟨39, _⟩ => ⟨S_, .i32⟩
  | .hbm, ⟨40, _⟩ => ⟨S2048x4x4, .i32⟩
  | .hbm, ⟨41, _⟩ => ⟨S2048x4x4, .i32⟩
  | .hbm, ⟨42, _⟩ => ⟨S2048x4x4, .i32⟩
  | .hbm, ⟨43, _⟩ => ⟨S2048x4x4x1, .i32⟩
  | .hbm, ⟨44, _⟩ => ⟨S1, .i32⟩
  | .hbm, ⟨45, _⟩ => ⟨S_, .i32⟩
  | .hbm, ⟨46, _⟩ => ⟨S2048x4x4x1, .i32⟩
  | .hbm, ⟨47, _⟩ => ⟨S2048x4x4x1, .i1⟩
  | .hbm, ⟨48, _⟩ => ⟨S1x1x1x1, .i32⟩
  | .hbm, ⟨49, _⟩ => ⟨S2048x4x4x1, .i32⟩
  | .hbm, ⟨50, _⟩ => ⟨S2048x4x4x1, .i1⟩
  | .hbm, ⟨51, _⟩ => ⟨S2048x4x4x1, .i1⟩
  | .hbm, ⟨52, _⟩ => ⟨S_, .i1⟩
  | .hbm, ⟨53, _⟩ => ⟨S2048x4x4, .i1⟩
  | .hbm, ⟨54, _⟩ => ⟨S2048x4x4, .i32⟩
  | .hbm, ⟨55, _⟩ => ⟨S_, .i32⟩
  | .hbm, ⟨56, _⟩ => ⟨S2048x4x4, .i32⟩
  | .hbm, ⟨57, _⟩ => ⟨S2048x4x4, .i32⟩
  | .hbm, ⟨58, _⟩ => ⟨S_, .f32⟩
  | .hbm, ⟨59, _⟩ => ⟨S2048x4, .f32⟩
  | .hbm, ⟨60, _⟩ => ⟨S_, .f32⟩
  | .hbm, ⟨61, _⟩ => ⟨S2048x4, .f32⟩
  | .hbm, ⟨62, _⟩ => ⟨S2048x4, .f32⟩
  | .hbm, ⟨63, _⟩ => ⟨S2048x4x1, .f32⟩
  | .hbm, ⟨64, _⟩ => ⟨S2048x4x4, .f32⟩
  | .hbm, ⟨65, _⟩ => ⟨S2048x4x4, .f32⟩
  | .hbm, ⟨66, _⟩ => ⟨S2048x4x4, .f32⟩
  | .hbm, ⟨67, _⟩ => ⟨S_, .f32⟩
  | .hbm, ⟨68, _⟩ => ⟨S2048x4, .f32⟩
  | .hbm, ⟨69, _⟩ => ⟨S2048x4x1, .f32⟩
  | .hbm, ⟨70, _⟩ => ⟨S2048x4x4, .f32⟩
  | .hbm, ⟨71, _⟩ => ⟨S2048x4x4, .f32⟩
  | .hbm, ⟨72, _⟩ => ⟨S1024x4096, .f32⟩
  | .hbm, ⟨73, _⟩ => ⟨S2048x4096, .f32⟩
  | .hbm, ⟨74, _⟩ => ⟨S2048x16, .i32⟩
  | .hbm, ⟨75, _⟩ => ⟨S2048x16, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_values : Ref sig .tc := ⟨.hbm, 9, rfl⟩
abbrev main_indices : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_values_0 : Ref sig .tc := ⟨.hbm, 34, rfl⟩
abbrev main_indices_1 : Ref sig .tc := ⟨.hbm, 35, rfl⟩
abbrev main_call0_c : Ref sig .tc := ⟨.hbm, 36, rfl⟩
abbrev main_call0_v0 : Ref sig .tc := ⟨.hbm, 37, rfl⟩
abbrev main_call0_v1 : Ref sig .tc := ⟨.hbm, 38, rfl⟩
abbrev main_call0_c_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_c_1 : Ref sig .tc := ⟨.hbm, 44, rfl⟩
abbrev main_call0_c_2 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_3 : Ref sig .tc := ⟨.hbm, 52, rfl⟩
abbrev main_call0_v12 : Ref sig .tc := ⟨.hbm, 53, rfl⟩
abbrev main_call0_v13 : Ref sig .tc := ⟨.hbm, 54, rfl⟩
abbrev main_call0_c_4 : Ref sig .tc := ⟨.hbm, 55, rfl⟩
abbrev main_call0_v14 : Ref sig .tc := ⟨.hbm, 56, rfl⟩
abbrev main_v27 : Ref sig .tc := ⟨.hbm, 57, rfl⟩
abbrev main_cst : Ref sig .tc := ⟨.hbm, 58, rfl⟩
abbrev main_v28 : Ref sig .tc := ⟨.hbm, 59, rfl⟩
abbrev main_cst_2 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst_3 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩

abbrev nD : Nat := 1
abbrev τ : Topo := Topo.v7x

variable {F : FTy → Type} [FloatOps F]
-- ==== Proof.IdealSckText.lean ====
/- The text of one trip of the SparseCore kernel's main loop, folded back into what the trip repeats:
   eight times the step of one token (`tok`), and eight times the clearing of one token's row (`zap`). -/
module

public import proofs.«01_k».proof.Proof.Gen.KernelIdeal.Skeleton

@[expose] public section

set_option synthInstance.maxSize 4096

noncomputable section

namespace Cert.KernelIdeal.Sck

open Idealize.ShloMosaic Idealize.SL.Sem
open Cert.KernelIdeal Cert.KernelIdeal.Gen

variable {F : FTy → Type} [FloatOps F]

/-- The lanes' numbers. -/
abbrev lanes : IVec S16 32 := iota .scVector S16 32 [0] iota_S16_d0_w32_scVector

/-- The lanes of group `b`: those whose number divided by four, rounded down, is `b`. -/
def grp (b : BitVec 32) : IVec S16 1 :=
  cmpi .eq
    (select
      (andi
        (cmpi .ne (subi (extui 32 (cmpi .sgt lanes (broadcast S16 0#32)) natLt_1_32) (extui 32 (cmpi .slt lanes (broadcast S16 0#32)) natLt_1_32))
          (broadcast S16 (Scalar.subi (Scalar.extui (Scalar.cmpi .sgt 4#32 0#32)) (Scalar.extui (Scalar.cmpi .slt 4#32 0#32)))))
        (cmpi .ne (remsi lanes (broadcast S16 4#32)) (broadcast S16 0#32)))
      (subi (divsi lanes (broadcast S16 4#32)) (broadcast S16 1#32))
      (divsi lanes (broadcast S16 4#32)))
    (broadcast S16 b)

section
variable {i : grid0.Coords} (arg6 : Memref sig .scVector .vmem S64x16 .i32) (arg7 : Memref sig .scVector .vmem S64x16 .f32)
  (arg8 : Memref sig .scVector .vmem S8x4096 .f32) (arg9 : Memref sig .scVector .vmem S8x4096 .f32)

/-- One token's step: its expert numbers and its weights read, the hidden values gathered, the gated weights
    added to the row, four lanes at a time. -/
def tok (o : Fin 2 → Nat) (ho : ∀ a, o a + S1x16.size a ≤ S64x16.size a) (b : BitVec 32) :
    Prog (TpuEff nD τ sig (Elt F) Λ₀ (.scVector ((i 0).castLE hcore0) ((i 1).castLE hsub0))) PUnit := do
  let e ← Prog.lift (.load arg6 (Rect.unit (s := S64x16) o S1x16.size ho).toLoadRect (View.loadsAt_vmem h_S1x16))
  let p ← Prog.lift (.load arg7 (Rect.unit (s := S64x16) o S1x16.size ho).toLoadRect (View.loadsAt_vmem h_S1x16))
  have hw : k0_chk1 (shapeCast S16 e shapeCasts_S1x16_S16) (broadcast S16 b) :=
    (← Prog.lift (TpuEff.assume (k0_chk1 (shapeCast S16 e shapeCasts_S1x16_S16) (broadcast S16 b)) (k0_chk1.dec _ _))).down
  let x ← SparseCore.vectorLoadIdx arg8 ![broadcast S16 b, shapeCast S16 e shapeCasts_S1x16_S16] (k0_idx1_inb _ _ hw) (View.loads_vmem h_S8x4096)
  SparseCore.vectorStoreIdx arg9 ![broadcast S16 b, shapeCast S16 e shapeCasts_S1x16_S16] (k0_pay4 p x) (grp 0#32) true (k0_idx2_inb _ _ hw) (View.stores_vmem_bits_univ h_S8x4096 rfl)
  SparseCore.vectorStoreIdx arg9 ![broadcast S16 b, shapeCast S16 e shapeCasts_S1x16_S16] (k0_pay4 p x) (grp 1#32) true (k0_idx3_inb _ _ hw) (View.stores_vmem_bits_univ h_S8x4096 rfl)
  SparseCore.vectorStoreIdx arg9 ![broadcast S16 b, shapeCast S16 e shapeCasts_S1x16_S16] (k0_pay4 p x) (grp 2#32) true (k0_idx4_inb _ _ hw) (View.stores_vmem_bits_univ h_S8x4096 rfl)
  SparseCore.vectorStoreIdx arg9 ![broadcast S16 b, shapeCast S16 e shapeCasts_S1x16_S16] (k0_pay4 p x) (grp 3#32) true (k0_idx5_inb _ _ hw) (View.stores_vmem_bits_univ h_S8x4096 rfl)

/-- One token's row cleared at the token's experts. -/
def zap (o : Fin 2 → Nat) (ho : ∀ a, o a + S1x16.size a ≤ S64x16.size a) (b : BitVec 32) :
    Prog (TpuEff nD τ sig (Elt F) Λ₀ (.scVector ((i 0).castLE hcore0) ((i 1).castLE hsub0))) PUnit := do
  let e ← Prog.lift (.load arg6 (Rect.unit (s := S64x16) o S1x16.size ho).toLoadRect (View.loadsAt_vmem h_S1x16))
  have hw : k0_chk9 (shapeCast S16 e shapeCasts_S1x16_S16) (broadcast S16 b) :=
    (← Prog.lift (TpuEff.assume (k0_chk9 (shapeCast S16 e shapeCasts_S1x16_S16) (broadcast S16 b)) (k0_chk9.dec _ _))).down
  SparseCore.vectorStoreIdx arg9 ![broadcast S16 b, shapeCast S16 e shapeCasts_S1x16_S16] (k0_pay90 (F := F)) (fun _ => 1#1) false (k0_idx41_inb _ _ hw) (View.stores_vmem_bits_univ h_S8x4096 rfl)

end

set_option maxRecDepth 65536 in
set_option maxHeartbeats 4000000 in
/-- A trip of the main loop: the hidden block in, eight tokens' steps, the row block out, eight rows cleared. -/
theorem body_eq (i : grid0.Coords) (arg2 : Memref sig .scVector .hbm S2048x4096 .f32) (harg2 : arg2.IsWhole) (arg3 : Memref sig .scVector .hbm S2048x16 .i32) (harg3 : arg3.IsWhole)
    (arg4 : Memref sig .scVector .hbm S2048x16 .f32) (harg4 : arg4.IsWhole) (arg5 : Memref sig .scVector .hbm S2048x4096 .f32) (harg5 : arg5.IsWhole)
    (arg6 : Memref sig .scVector .vmem S64x16 .i32) (harg6 : arg6.IsWhole) (arg7 : Memref sig .scVector .vmem S64x16 .f32) (harg7 : arg7.IsWhole)
    (arg8 : Memref sig .scVector .vmem S8x4096 .f32) (harg8 : arg8.IsWhole) (arg9 : Memref sig .scVector .vmem S8x4096 .f32) (harg9 : arg9.IsWhole)
    (r0 r1 r2 r3 : DmaSems sig S_) (v2 : BitVec 32) (t : Fin k0_t2_loop.trips) :
    k0_t2_body (F := F) i arg2 harg2 arg3 harg3 arg4 harg4 arg5 harg5 arg6 harg6 arg7 harg7 arg8 harg8 arg9 harg9 r0 r1 r2 r3 v2 t ()
      = (do
        Prog.lift (.enqueueDma (arg2.slice (Rect.unit (s := S2048x4096) (k0_off3 i t) S8x4096.size (k0_off3_inb i t)) (fun _ => rfl)) (.here arg8) (.dma r2.sem) (View.wordExact_bits rfl) harg8.wordExact ⟨Or.inl rfl, trivial⟩)
        Prog.lift (.waitDma2 r2.sem (arg2.slice (Rect.unit (s := S2048x4096) (k0_off3 i t) S8x4096.size (k0_off3_inb i t)) (fun _ => rfl)) arg8 (View.wordExact_bits rfl) harg8.wordExact)
        tok arg6 arg7 arg8 arg9 (k0_off4 t) (k0_off4_inb t) 0#32
        tok arg6 arg7 arg8 arg9 (k0_off5 t) (k0_off5_inb t) 1#32
        tok arg6 arg7 arg8 arg9 (k0_off6 t) (k0_off6_inb t) 2#32
        tok arg6 arg7 arg8 arg9 (k0_off7 t) (k0_off7_inb t) 3#32
        tok arg6 arg7 arg8 arg9 (k0_off8 t) (k0_off8_inb t) 4#32
        tok arg6 arg7 arg8 arg9 (k0_off9 t) (k0_off9_inb t) 5#32
        tok arg6 arg7 arg8 arg9 (k0_off10 t) (k0_off10_inb t) 6#32
        tok arg6 arg7 arg8 arg9 (k0_off11 t) (k0_off11_inb t) 7#32
        Prog.lift (.enqueueDma arg9 (.here (arg5.slice (Rect.unit (s := S2048x4096) (k0_off12 i t) S8x4096.size (k0_off12_inb i t)) (fun _ => rfl))) (.dma r3.sem) harg9.wordExact (View.wordExact_bits rfl) ⟨Or.inl rfl, trivial⟩)
        Prog.lift (.waitDma2 r3.sem arg9 (arg5.slice (Rect.unit (s := S2048x4096) (k0_off12 i t) S8x4096.size (k0_off12_inb i t)) (fun _ => rfl)) harg9.wordExact (View.wordExact_bits rfl))
        zap arg6 arg9 (k0_off13 t) (k0_off13_inb t) 0#32
        zap arg6 arg9 (k0_off14 t) (k0_off14_inb t) 1#32
        zap arg6 arg9 (k0_off15 t) (k0_off15_inb t) 2#32
        zap arg6 arg9 (k0_off16 t) (k0_off16_inb t) 3#32
        zap arg6 arg9 (k0_off17 t) (k0_off17_inb t) 4#32
        zap arg6 arg9 (k0_off18 t) (k0_off18_inb t) 5#32
        zap arg6 arg9 (k0_off19 t) (k0_off19_inb t) 6#32
        zap arg6 arg9 (k0_off20 t) (k0_off20_inb t) 7#32
        pure ()) := rfl

/-- The mask's lanes. -/
theorem grp_lane (b : Fin 4) (k : Fin 16) : (grp (BitVec.ofNat 32 b.val) (Shape.ofLane k) = 1#1) ↔ k.val / 4 = b.val := by
  revert b k; decide +kernel

end Cert.KernelIdeal.Sck

end
-- ==== Proof.IdealSckVal.lean ====
/- What one token's step leaves in the row block, as a fold over the lanes, and what clearing the row undoes. -/
module

public import proofs.«01_k».proof.Proof.IdealSckText
public import Idealize.ShloMosaic.Lib.LaneScatter.Casts

@[expose] public section

set_option synthInstance.maxSize 4096

noncomputable section

namespace Cert.KernelIdeal.Sck

open Idealize.ShloMosaic Idealize.SL.Sem
open Cert.KernelIdeal Cert.KernelIdeal.Gen

variable {F : FTy → Type} [FloatOps F]

/-- A scatter at one element: the lanes in order, each that is set and names the element acting on it. -/
theorem storeIdx_at {s : Shape} {d : Fin 1 → Nat} {e : EltTy} (idxs : Fin s.rank → IVec ⟨1, d⟩ 32) (v : Vec F ⟨1, d⟩ e) (mask : IVec ⟨1, d⟩ 1)
    (add : Bool) (h : ∀ a x, (idxs a x).toNat < s.size a) (f : Vec F s e) (j : s.Idx) :
    storeIdx f idxs v mask add h j
      = (List.finRange (d 0)).foldl (fun acc k =>
          if mask (Shape.ofLane k) = 1#1 ∧ ∀ a, (j a).val = (idxs a (Shape.ofLane k)).toNat then
            (if add then Elt.idxAdd e acc (v (Shape.ofLane k)) else v (Shape.ofLane k)) else acc) (f j) := by
  unfold storeIdx
  generalize List.finRange (d 0) = l
  induction l generalizing f with
  | nil => rfl
  | cons k l ih =>
    rw [List.foldl_cons, List.foldl_cons, ih]
    congr 1
    by_cases hm : mask (Shape.ofLane k) = 1#1
    · by_cases hj : ∀ a, (j a).val = (idxs a (Shape.ofLane k)).toNat
      · have hi : idxAt idxs h (Shape.ofLane k) = j := funext fun a => Fin.ext (hj a).symm
        refine (congrFun (if_pos hm) j).trans (((if_pos hj).trans ?_).trans (if_pos ⟨hm, hj⟩).symm)
        rw [hi]
      · exact (congrFun (if_pos hm) j).trans ((if_neg hj).trans (if_neg fun hh => hj hh.2).symm)
    · exact (congrFun (if_neg hm) j).trans (if_neg fun hh => hm hh.1).symm

/-- The weights `w` of the lanes naming expert `e` added onto `z`, group of four by group of four. -/
def addRow (ix : Fin 16 → ℕ) (w : Fin 16 → F .f32) (e : ℕ) (z : F .f32) : F .f32 :=
  (List.finRange 4).foldl (fun acc (g : Fin 4) =>
    (List.finRange 16).foldl (fun acc (k : Fin 16) => if k.val / 4 = g.val ∧ e = ix k then FloatOps.idxAddf acc (w k) else acc) acc) z

/-- An element no lane names keeps its value. -/
theorem addRow_none (ix : Fin 16 → ℕ) (w : Fin 16 → F .f32) (e : ℕ) (z : F .f32) (h : ∀ k, e ≠ ix k) : addRow ix w e z = z := by
  have hl : ∀ (g : Fin 4) (l : List (Fin 16)) (z : F .f32),
      l.foldl (fun acc (k : Fin 16) => if k.val / 4 = g.val ∧ e = ix k then FloatOps.idxAddf acc (w k) else acc) z = z := by
    intro g l
    induction l with
    | nil => intro z; rfl
    | cons k l ih => intro z; rw [List.foldl_cons, if_neg fun hh => h k hh.2, ih]
  unfold addRow
  generalize List.finRange 4 = l
  induction l with
  | nil => rfl
  | cons g l ih => rw [List.foldl_cons, hl, ih]

/-- A row block's index vectors: row `b`, the lanes' expert numbers. -/
abbrev at2 (b : BitVec 32) (v : IVec S16 32) : Fin 2 → IVec S16 32 := ![broadcast S16 b, v]

/-- One group's addition, at one element of the block. -/
theorem group_at (b : BitVec 32) (v : IVec S16 32) (w : FVec F S16 .f32) (g : Fin 4) (h : ∀ a x, (at2 b v a x).toNat < S8x4096.size a)
    (f : Vec F S8x4096 .f32) (j : S8x4096.Idx) :
    storeIdx f (at2 b v) w (grp (BitVec.ofNat 32 g.val)) true h j
      = if (j 0).val = b.toNat then
          (List.finRange 16).foldl (fun acc (k : Fin 16) =>
            if k.val / 4 = g.val ∧ (j 1).val = (v (Shape.ofLane k)).toNat then FloatOps.idxAddf acc (w (Shape.ofLane k)) else acc) (f j)
        else f j := by
  rw [storeIdx_at]
  have hcond : ∀ k : Fin 16, (grp (BitVec.ofNat 32 g.val) (Shape.ofLane k) = 1#1 ∧ ∀ a, (j a).val = (at2 b v a (Shape.ofLane k)).toNat)
      ↔ ((j 0).val = b.toNat ∧ (k.val / 4 = g.val ∧ (j 1).val = (v (Shape.ofLane k)).toNat)) := by
    intro k
    rw [grp_lane]
    constructor
    · rintro ⟨h1, h2⟩
      exact ⟨h2 0, h1, h2 1⟩
    · rintro ⟨h0, h1, h2⟩
      refine ⟨h1, fun a => ?_⟩
      match a with
      | 0 => exact h0
      | 1 => exact h2
  have hfun : (fun (acc : Elt F .f32) (k : Fin 16) =>
          if grp (BitVec.ofNat 32 g.val) (Shape.ofLane k) = 1#1 ∧ ∀ a, (j a).val = (at2 b v a (Shape.ofLane k)).toNat then
            (if true then Elt.idxAdd .f32 acc (w (Shape.ofLane k)) else w (Shape.ofLane k)) else acc)
      = fun acc k => if (j 0).val = b.toNat ∧ (k.val / 4 = g.val ∧ (j 1).val = (v (Shape.ofLane k)).toNat) then
            FloatOps.idxAddf acc (w (Shape.ofLane k)) else acc := by
    funext acc k
    simp only [hcond, if_true, Elt.idxAdd_f32]
  refine (congrArg (fun fn => List.foldl fn (f j) (List.finRange 16)) hfun).trans ?_
  by_cases h0 : (j 0).val = b.toNat
  · simp only [h0, true_and, if_true]
    rfl
  · simp only [h0, false_and, if_false]
    generalize List.finRange 16 = l
    induction l with
    | nil => rfl
    | cons k l ih => exact ih

/-- One token's additions. -/
def tokF (b : BitVec 32) (v : IVec S16 32) (w : FVec F S16 .f32) (h : ∀ a x, (at2 b v a x).toNat < S8x4096.size a)
    (f : Vec F S8x4096 .f32) : Vec F S8x4096 .f32 :=
  storeIdx (storeIdx (storeIdx (storeIdx f (at2 b v) w (grp 0#32) true h) (at2 b v) w (grp 1#32) true h) (at2 b v) w (grp 2#32) true h)
    (at2 b v) w (grp 3#32) true h

theorem tokF_at (b : BitVec 32) (v : IVec S16 32) (w : FVec F S16 .f32) (h : ∀ a x, (at2 b v a x).toNat < S8x4096.size a)
    (f : Vec F S8x4096 .f32) (j : S8x4096.Idx) :
    tokF b v w h f j = if (j 0).val = b.toNat then
      addRow (fun k => (v (Shape.ofLane k)).toNat) (fun k => w (Shape.ofLane k)) (j 1).val (f j) else f j := by
  have h0 := group_at b v w 0 h
  have h1 := group_at b v w 1 h
  have h2 := group_at b v w 2 h
  have h3 := group_at b v w 3 h
  unfold tokF
  refine (h3 _ j).trans ?_
  by_cases hb : (j 0).val = b.toNat
  · rw [if_pos hb, if_pos hb]
    erw [h2 _ j, h1 _ j, h0 _ j]
    rw [if_pos hb, if_pos hb, if_pos hb]
    rfl
  · rw [if_neg hb, if_neg hb]
    erw [h2 _ j, h1 _ j, h0 _ j]
    rw [if_neg hb, if_neg hb, if_neg hb]

/-- One row cleared at its token's experts. -/
def zapF (b : BitVec 32) (v : IVec S16 32) (h : ∀ a x, (at2 b v a x).toNat < S8x4096.size a)
    (f : Vec F S8x4096 .f32) : Vec F S8x4096 .f32 :=
  storeIdx f (at2 b v) (k0_pay90 (F := F)) (fun _ => 1#1) false h

/-- The zero the kernel writes. -/
abbrev zro : F .f32 := Scalar.ofBits .f32 0x00000000#32

theorem zapF_at (b : BitVec 32) (v : IVec S16 32) (h : ∀ a x, (at2 b v a x).toNat < S8x4096.size a)
    (f : Vec F S8x4096 .f32) (j : S8x4096.Idx) :
    zapF b v h f j = if (j 0).val = b.toNat ∧ ∃ k : Fin 16, (j 1).val = (v (Shape.ofLane k)).toNat then zro else f j := by
  unfold zapF
  rw [storeIdx_at]
  have hcond : ∀ k : Fin 16, (∀ a, (j a).val = (at2 b v a (Shape.ofLane k)).toNat)
      ↔ ((j 0).val = b.toNat ∧ (j 1).val = (v (Shape.ofLane k)).toNat) := by
    intro k
    constructor
    · intro h2; exact ⟨h2 0, h2 1⟩
    · rintro ⟨h0, h1⟩ a
      match a with
      | 0 => exact h0
      | 1 => exact h1
  have key : ∀ (l : List (Fin 16)) (z : F .f32),
      l.foldl (fun (acc : F .f32) (k : Fin 16) =>
          if (1#1 : BitVec 1) = 1#1 ∧ ∀ a, (j a).val = (at2 b v a (Shape.ofLane k)).toNat then
            (if false then Elt.idxAdd .f32 acc (k0_pay90 (F := F) (Shape.ofLane k)) else k0_pay90 (F := F) (Shape.ofLane k)) else acc) z
        = if (j 0).val = b.toNat ∧ ∃ k ∈ l, (j 1).val = (v (Shape.ofLane k)).toNat then zro else z := by
    intro l
    induction l with
    | nil => intro z; simp
    | cons k l ih =>
      intro z
      rw [List.foldl_cons, ih]
      simp only [hcond, true_and, Bool.false_eq_true, if_false]
      have hz : k0_pay90 (F := F) (Shape.ofLane k) = zro := rfl
      by_cases h0 : (j 0).val = b.toNat
      · by_cases h1 : ∃ k ∈ l, (j 1).val = (v (Shape.ofLane k)).toNat
        · obtain ⟨k', hk', e'⟩ := h1
          rw [if_pos ⟨h0, k', hk', e'⟩, if_pos ⟨h0, k', List.mem_cons_of_mem _ hk', e'⟩]
        · rw [if_neg fun hh => h1 hh.2]
          by_cases h2 : (j 1).val = (v (Shape.ofLane k)).toNat
          · rw [if_pos ⟨h0, h2⟩, if_pos ⟨h0, k, List.mem_cons_self, h2⟩]; exact hz
          · rw [if_neg fun hh => h2 hh.2, if_neg]
            rintro ⟨-, k', hk', e'⟩
            rcases List.mem_cons.mp hk' with rfl | hk'
            · exact h2 e'
            · exact h1 ⟨k', hk', e'⟩
      · rw [if_neg fun hh => h0 hh.1, if_neg fun hh => h0 hh.1, if_neg fun hh => h0 hh.1]
  refine (key (List.finRange 16) (f j)).trans ?_
  simp only [List.mem_finRange, true_and]

end Cert.KernelIdeal.Sck

end
-- ==== Proof.IdealSckSetup.lean ====
/- The program as the launch theorem sees it, the ghost state, the arrays' places, and the value each row of `s` gets. -/
module

public import Idealize.ShloMosaic.Lib.SparseCore.Quiescent
public import Idealize.ShloMosaic.Lib.SparseCore.FromWhole
public import Idealize.ShloMosaic.Lib.StableHlo.Run
public import Idealize.ShloMosaic.Lib.Pipeline.Kit
public import Idealize.ShloMosaic.Lib.Tactic
public import proofs.«01_k».proof.Proof.IdealSckVal

@[expose] public section

set_option synthInstance.maxSize 4096

noncomputable section

namespace Cert.KernelIdeal.Sck

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx Pay)

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts where
  start_ne_taskDone := show sc_start ≠ sc_taskDone by decide
  start_unscoped := show (SemLoc.reg sc_start : SemLoc sig).isScoped .scScalar = false by decide
  taskDone_unscoped := show (SemLoc.reg sc_taskDone : SemLoc sig).isScoped .scScalar = false by decide
  go_unscoped := show (SemLoc.reg sc_go : SemLoc sig).isScoped .scVector = false by decide
  done_unscoped := show (SemLoc.reg sc_done : SemLoc sig).isScoped .tc = false by decide
  noTaskShared := show ∀ (b : DevRef τ sig) (c : Fin τ.nSC), b.owner = .sc c → sig.taskShared b.table b.idx = false by decide
  noSeq := fun _ => rfl

/-! The ghost state: the handshakes' rounds, the pipelined call's rounds, the copies' counters. -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipelined call's rounds: the left half of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance
abbrev EC : UEmb Counters (MT nD τ sig (HIx 1) (Elt F) ℕ UU ℕ) := countersEmb

/-! The arrays the call reads and writes. -/

abbrev hLoc (d : Dev nD) : Loc nD τ sig := (SparseCore.T d).loc main_arg0
abbrev iLoc (d : Dev nD) : Loc nD τ sig := (SparseCore.T d).loc main_arg1
abbrev pLoc (d : Dev nD) : Loc nD τ sig := (SparseCore.T d).loc main_arg2
abbrev sLoc (d : Dev nD) : Loc nD τ sig := (SparseCore.T d).loc main_v1

/-- A pair of coordinates as an index. -/
def ix2 {n k : ℕ} (a : Fin n) (b : Fin k) : (⟨2, ![n, k]⟩ : Shape).Idx := fun | 0 => a | 1 => b

theorem ix2_eta {n k : ℕ} (j : (⟨2, ![n, k]⟩ : Shape).Idx) : ix2 (j 0) (j 1) = j := funext fun | 0 => rfl | 1 => rfl

section Value
variable [FloatOps F]

/-- A hidden value gated and weighted: `x·p / (1 + exp(0 − x))`. -/
def gate (x p : F .f32) : F .f32 :=
  FloatOps.divf (FloatOps.mulf x p) (FloatOps.addf (Scalar.ofBits .f32 0x3F800000#32) (FloatOps.exp (FloatOps.subf zro x)))

/-- An expert's number. -/
def ex (v : BitVec 32) : Fin 4096 := ⟨v.toNat % 4096, Nat.mod_lt _ (by decide)⟩

/-- One row of `s` from its row of `h2`, its expert numbers and its weights. -/
def row (h : Fin 4096 → F .f32) (ix : Fin 16 → BitVec 32) (p : Fin 16 → F .f32) (e : ℕ) : F .f32 :=
  addRow (fun k => (ix k).toNat) (fun k => gate (h (ex (ix k))) (p k)) e zro

variable (m : (ℓ : Loc nD τ sig) → Buf (Elt F) ℓ)

/-- What the call leaves in `s`. -/
def sVal (d : Dev nD) : Buf (Elt F) (sLoc d) := fun j : S2048x4096.Idx =>
  row (fun e => m (hLoc d) (ix2 (n := 2048) (j 0) e)) (fun k => m (iLoc d) (ix2 (n := 2048) (j 0) k)) (fun k => m (pLoc d) (ix2 (n := 2048) (j 0) k)) (j 1).val

end Value

/-- The rows tile `w` writes. -/
def rows (w : ℕ) : Finset S2048x4096.Idx := Finset.univ.filter fun j => (j 0).val / 64 = w

theorem mem_rows {w : ℕ} {j : S2048x4096.Idx} : j ∈ rows w ↔ (j 0).val / 64 = w := by simp [rows]

/-- A tile's number. -/
abbrev wid (L : grid0.Coords) : ℕ := 2 * (L 1).val + (L 0).val
theorem wid_lt (L : grid0.Coords) : wid L < 32 := by
  have h0 : (L 0).val < 2 := (L 0).isLt
  have h1 : (L 1).val < 16 := (L 1).isLt
  show 2 * (L 1).val + (L 0).val < 32
  revert h0 h1
  generalize (L 0).val = a
  generalize (L 1).val = b
  omega

/-- A tile's share of an array every tile reads. -/
abbrev shr (w : Fin 32) : PosShare TreeShare := Transfers.dealOf fullShare (Finset.univ : Finset (Fin 32)) w

end Cert.KernelIdeal.Sck

end
-- ==== Proof.IdealSckOps.lean ====
/- The steps of one token run on a tile's scratch: the scatter of one token and the clearing of one row. -/
module

public import Idealize.ShloMosaic.Lib.SparseCore.Ops
public import Idealize.ShloMosaic.Lib.LaneScatter.Fold
public import proofs.«01_k».proof.Proof.IdealSckSetup

@[expose] public section

set_option synthInstance.maxSize 4096

noncomputable section

namespace Cert.KernelIdeal.Sck

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx Pay)

variable {F : FTy → Type} [FloatOps F]

local notation "𝕄" => MT nD τ sig (HIx 1) (Elt F) ℕ UU ℕ

variable (d : Dev nD) (L : grid0.Coords)

abbrev cV : Fin τ.nSC := (L 0).castLE hcore0
abbrev jV : Fin τ.nSub := (L 1).castLE hsub0
/-- The tile's thread. -/
abbrev thr : Thread nD τ := V d (cV L) (jV L)

abbrev sI : Memref sig .scVector .vmem S64x16 .i32 := Memref.whole cc0_scratch0
abbrev sP : Memref sig .scVector .vmem S64x16 .f32 := Memref.whole cc0_scratch1
abbrev sH : Memref sig .scVector .vmem S8x4096 .f32 := Memref.whole cc0_scratch2
abbrev sO : Memref sig .scVector .vmem S8x4096 .f32 := Memref.whole cc0_scratch3

abbrev pI (f : Buf (Elt F) ((thr d L).loc cc0_scratch0)) : sProp 𝕄 := (thr d L).loc cc0_scratch0 ↦{fullShare} f
abbrev pP (f : Buf (Elt F) ((thr d L).loc cc0_scratch1)) : sProp 𝕄 := (thr d L).loc cc0_scratch1 ↦{fullShare} f
abbrev pH (f : Buf (Elt F) ((thr d L).loc cc0_scratch2)) : sProp 𝕄 := (thr d L).loc cc0_scratch2 ↦{fullShare} f
abbrev pO (f : Buf (Elt F) ((thr d L).loc cc0_scratch3)) : sProp 𝕄 := (thr d L).loc cc0_scratch3 ↦{fullShare} f

section Ops

theorem wp_scatter {α : Type} {Q : α → sProp 𝕄} {idxs : Fin 2 → IVec S16 32} {v : Vec F S16 .f32} {mask : IVec S16 1} {add : Bool}
    {h : ∀ a x, (idxs a x).toNat < S8x4096.size a} {hs : ((sO).access (.whole S8x4096)).Stores Finset.univ}
    {k : PUnit → Prog (TpuEff nD τ sig (Elt F) Λ₀ (.scVector (cV L) (jV L))) α} (f : S8x4096.Idx → F .f32) :
    pO d L f ⊢ iprop((pO d L (storeIdx f idxs v mask add h) -∗ wp frame (wpE (defs₀ (F := F)) 𝒱₀ (thr d L) none) Set.univ (k ⟨⟩) Q)
      -∗ wp frame (wpE (defs₀ (F := F)) 𝒱₀ (thr d L) none) Set.univ (SparseCore.vectorStoreIdx sO idxs v mask add h hs >>= k) Q) := by
  have := SparseCore.wp_vectorStoreIdx (defs := defs₀ (F := F)) (Ix := HIx 1) (Name := ℕ) (U := UU) (Lvl := ℕ) 𝒱₀ (thr d L) none Set.univ (Q := Q) (base := sO) (idxs := idxs) (v := v) (mask := mask) (add := add)
    (h := h) (hs := hs) (k := k) (f := f)
  have hset : ((sO).access (.whole S8x4096)).set = Finset.univ := Memref.set_access_whole _
  have hrd : ((sO).access (.whole S8x4096)).read (Elt F) f = f := Memref.read_access_whole _ _ _
  have hwr : ∀ w, ((sO).access (.whole S8x4096)).write (Elt F) f w Finset.univ = w := fun w => Memref.write_access_whole_univ _ _ _ _
  rw [hset, hrd, hwr] at this
  exact this

theorem wp_gather {α : Type} {Q : α → sProp 𝕄} {idxs : Fin 2 → IVec S16 32}
    {h : ∀ a x, (idxs a x).toNat < S8x4096.size a} {hl : (sH).view.Loads}
    {k : Vec F S16 .f32 → Prog (TpuEff nD τ sig (Elt F) Λ₀ (.scVector (cV L) (jV L))) α} (f : S8x4096.Idx → F .f32) :
    pH d L f ⊢ iprop((pH d L f -∗ wp frame (wpE (defs₀ (F := F)) 𝒱₀ (thr d L) none) Set.univ (k (loadIdx f idxs h)) Q)
      -∗ wp frame (wpE (defs₀ (F := F)) 𝒱₀ (thr d L) none) Set.univ (SparseCore.vectorLoadIdx sH idxs h hl >>= k) Q) := by
  have := SparseCore.wp_vectorLoadIdx (defs := defs₀ (F := F)) (Ix := HIx 1) (Name := ℕ) (U := UU) (Lvl := ℕ) 𝒱₀ (thr d L) none Set.univ (Q := Q) (base := sH) (idxs := idxs)
    (h := h) (hl := hl) (k := k) (f := f) (q := fullShare) (S := Finset.univ) (Finset.subset_univ _)
  have hrd : ((sH).access (.whole S8x4096)).read (Elt F) f = f := Memref.read_access_whole _ _ _
  rw [hrd] at this
  exact this

theorem wp_ldI {α : Type} {Q : α → sProp 𝕄} {o : Fin 2 → Nat} {ho : ∀ a, o a + S1x16.size a ≤ S64x16.size a}
    {hl : (sI).view.LoadsAt (Rect.unit (s := S64x16) o S1x16.size ho).toLoadRect}
    {k : Vec F S1x16 .i32 → Prog (TpuEff nD τ sig (Elt F) Λ₀ (.scVector (cV L) (jV L))) α} (f : S64x16.Idx → BitVec 32) :
    pI (F := F) d L f ⊢ iprop((pI (F := F) d L f -∗ wp frame (wpE (defs₀ (F := F)) 𝒱₀ (thr d L) none) Set.univ (k (fun x => f ((Rect.unit (s := S64x16) o S1x16.size ho).emb x))) Q)
      -∗ wp frame (wpE (defs₀ (F := F)) 𝒱₀ (thr d L) none) Set.univ (.op (.load sI (Rect.unit (s := S64x16) o S1x16.size ho).toLoadRect hl) k) Q) := by
  have h := wp_load_rect (Γ := PendingWaitsCtx.empty) (defs := defs₀ (F := F)) (Ix := HIx 1) (Name := ℕ) (U := UU) (Lvl := ℕ) (k := k) (Q := Q) (hl := hl) (r := Rect.unit (s := S64x16) o S1x16.size ho) (q := fullShare) (f := f) 𝒱₀ (thr d L) none Set.univ (m := sI) (S := Finset.univ) (Finset.subset_univ _)
  have hr : ((sI).access (Rect.unit (s := S64x16) o S1x16.size ho)).read (Elt F) f = fun x => f ((Rect.unit (s := S64x16) o S1x16.size ho).emb x) := rfl
  rw [hr] at h
  exact h

theorem wp_ldP {α : Type} {Q : α → sProp 𝕄} {o : Fin 2 → Nat} {ho : ∀ a, o a + S1x16.size a ≤ S64x16.size a}
    {hl : (sP).view.LoadsAt (Rect.unit (s := S64x16) o S1x16.size ho).toLoadRect}
    {k : Vec F S1x16 .f32 → Prog (TpuEff nD τ sig (Elt F) Λ₀ (.scVector (cV L) (jV L))) α} (f : S64x16.Idx → F .f32) :
    pP (F := F) d L f ⊢ iprop((pP (F := F) d L f -∗ wp frame (wpE (defs₀ (F := F)) 𝒱₀ (thr d L) none) Set.univ (k (fun x => f ((Rect.unit (s := S64x16) o S1x16.size ho).emb x))) Q)
      -∗ wp frame (wpE (defs₀ (F := F)) 𝒱₀ (thr d L) none) Set.univ (.op (.load sP (Rect.unit (s := S64x16) o S1x16.size ho).toLoadRect hl) k) Q) := by
  have h := wp_load_rect (Γ := PendingWaitsCtx.empty) (defs := defs₀ (F := F)) (Ix := HIx 1) (Name := ℕ) (U := UU) (Lvl := ℕ) (k := k) (Q := Q) (hl := hl) (r := Rect.unit (s := S64x16) o S1x16.size ho) (q := fullShare) (f := f) 𝒱₀ (thr d L) none Set.univ (m := sP) (S := Finset.univ) (Finset.subset_univ _)
  have hr : ((sP).access (Rect.unit (s := S64x16) o S1x16.size ho)).read (Elt F) f = fun x => f ((Rect.unit (s := S64x16) o S1x16.size ho).emb x) := rfl
  rw [hr] at h
  exact h

/-- A load whose result is not used, and a store, on the row block. -/
theorem wp_ldstO {α : Type} {Q : α → sProp 𝕄} {r : Rect S8x4096} {w : r.shape.Idx → F .f32}
    {hl : (sO).view.LoadsAt r.toLoadRect} {hx : ((sO).access r).Stores Finset.univ} {hm : (Finset.univ : Finset r.shape.Idx) = Finset.univ ∨ ∀ a, r.stride a = 1}
    {k : PUnit → Prog (TpuEff nD τ sig (Elt F) Λ₀ (.scVector (cV L) (jV L))) α} (f : S8x4096.Idx → F .f32) :
    pO (F := F) d L f ⊢ iprop((pO (F := F) d L (((sO).access r).write (Elt F) f w Finset.univ) -∗ wp frame (wpE (defs₀ (F := F)) 𝒱₀ (thr d L) none) Set.univ (k ⟨⟩) Q)
      -∗ wp frame (wpE (defs₀ (F := F)) 𝒱₀ (thr d L) none) Set.univ (.op (.load sO r.toLoadRect hl) fun _ => .op (.store sO r w Finset.univ hx hm) k) Q) := by
  have h1 := wp_load_rect (Γ := PendingWaitsCtx.empty) (defs := defs₀ (F := F)) (Ix := HIx 1) (Name := ℕ) (U := UU) (Lvl := ℕ) (Q := Q) (hl := hl) (r := r) (q := fullShare) (f := f) 𝒱₀ (thr d L) none Set.univ (m := sO) (S := Finset.univ)
    (k := fun _ => .op (.store sO r w Finset.univ hx hm) k) (Finset.subset_univ _)
  have h2 := wp_store (Γ := PendingWaitsCtx.empty) (defs := defs₀ (F := F)) (Ix := HIx 1) (Name := ℕ) (U := UU) (Lvl := ℕ) (Q := Q) (hx := hx) (hm := hm) (r := r) (w := w) (f := f) 𝒱₀ (thr d L) none Set.univ (m := sO) (S := Finset.univ)
    (k := k) (Finset.subset_univ _)
  iintro HO Hk
  iapply h1 $$ HO; iintro HO
  iapply h2 $$ HO; iintro HO
  iapply Hk; iexact HO

/-- A checked fact that holds costs nothing. -/
theorem wp_chk {α : Type} {Q : α → sProp 𝕄} {P : Prop} {dP : Decidable P} (h : P)
    {k : PLift P → Prog (TpuEff nD τ sig (Elt F) Λ₀ (.scVector (cV L) (jV L))) α} :
    wp frame (wpE (defs₀ (F := F)) 𝒱₀ (thr d L) none) Set.univ (k ⟨h⟩) Q
      ⊢ wp frame (wpE (defs₀ (F := F)) 𝒱₀ (thr d L) none) Set.univ (.op (.assume P dP) k) Q :=
  wp_assume 𝒱₀ (thr d L) none Set.univ h

end Ops

end Cert.KernelIdeal.Sck

end
-- ==== Proof.IdealSckStep.lean ====
/- The steps of one token run on a tile's scratch: the scatter of one token and the clearing of one row. -/
module

public import Idealize.ShloMosaic.Lib.SparseCore.Ops
public import Idealize.ShloMosaic.Lib.LaneScatter.Fold
public import proofs.«01_k».proof.Proof.IdealSckOps

@[expose] public section

set_option synthInstance.maxSize 4096

noncomputable section

namespace Cert.KernelIdeal.Sck

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx Pay)

variable {F : FTy → Type} [FloatOps F]

local notation "𝕄" => MT nD τ sig (HIx 1) (Elt F) ℕ UU ℕ

variable (d : Dev nD) (L : grid0.Coords)

/-- Row `n` of a slab of sixteen columns. -/
def slabRow {e : EltTy} (I : Vec F S64x16 e) (o : Fin 2 → Nat) (ho : ∀ a, o a + S1x16.size a ≤ S64x16.size a) : Vec F S1x16 e :=
  fun x => I ((Rect.unit (s := S64x16) o S1x16.size ho).emb x)

abbrev vec {e : EltTy} (I : Vec F S64x16 e) (o : Fin 2 → Nat) (ho : ∀ a, o a + S1x16.size a ≤ S64x16.size a) : Vec F S16 e :=
  shapeCast S16 (slabRow I o ho) shapeCasts_S1x16_S16

theorem vec_at {e : EltTy} (I : Vec F S64x16 e) (o : Fin 2 → Nat) (ho : ∀ a, o a + S1x16.size a ≤ S64x16.size a)
    (r : Fin 64) (hr : o 0 = r.val) (h1 : o 1 = 0) (k : Fin 16) : vec I o ho (Shape.ofLane k) = I (ix2 r k) := by
  refine (LaneScatter.cast_vec_apply (Ln := 16) (slabRow I o ho) shapeCasts_S1x16_S16 (Shape.ofLane k)).trans ?_
  unfold slabRow
  congr 1
  funext a
  match a with
  | 0 => exact Fin.ext (by rw [Rect.emb_apply]; show o 0 + 1 * 0 = r.val; omega)
  | 1 => exact Fin.ext (by rw [Rect.emb_apply]; show o 1 + 1 * k.val = k.val; omega)

theorem pay4_at (p : Vec F S1x16 .f32) (x : Vec F S16 .f32) (l : S16.Idx) :
    k0_pay4 p x l = gate (x l) (shapeCast S16 p shapeCasts_S1x16_S16 l) := rfl

/-- The two index vectors of a token are in range. -/
theorem at2_inb {b : BitVec 32} {v : IVec S16 32} (hb : b.toNat < 8) (hv : ∀ k : Fin 16, (v (Shape.ofLane k)).toNat < 4096) :
    ∀ a x, (at2 b v a x).toNat < S8x4096.size a := by
  intro a x
  match a with
  | 0 => exact hb
  | 1 =>
    have := hv (x 0)
    have hx : Shape.ofLane (d := ![16]) (x 0) = x := funext fun a => by rw [Fin.eq_zero a]; rfl
    rw [hx] at this
    exact this

set_option maxHeartbeats 1000000 in
theorem wp_tok (o : Fin 2 → Nat) (ho : ∀ a, o a + S1x16.size a ≤ S64x16.size a) (b : BitVec 32)
    (I : S64x16.Idx → BitVec 32) (P : S64x16.Idx → F .f32) (H f : S8x4096.Idx → F .f32)
    (h : ∀ a x, (at2 b (vec (F := F) (e := .i32) I o ho) a x).toNat < S8x4096.size a) :
    iprop(pI (F := F) d L I ∗ pP d L P ∗ pH d L H ∗ pO d L f)
      ⊢ wp frame (wpE (defs₀ (F := F)) 𝒱₀ (thr d L) none) Set.univ (tok (i := L) sI sP sH sO o ho b)
          fun _ => iprop(pI (F := F) d L I ∗ pP d L P ∗ pH d L H
            ∗ pO d L (tokF b (vec (F := F) (e := .i32) I o ho) (k0_pay4 (slabRow (F := F) (e := .f32) P o ho) (loadIdx H (at2 b (vec (F := F) (e := .i32) I o ho)) h)) h f)) := by
  unfold tok
  simp only [Prog.lift, Prog.bind_op, Prog.bind_ret]
  iintro ⟨HI, HP, HH, HO⟩
  iapply (wp_ldI d L) $$ HI; iintro HI
  iapply (wp_ldP d L) $$ HP; iintro HP
  iapply (wp_chk d L ⟨h, h, h, h, h⟩)
  iapply (wp_gather d L) $$ HH; iintro HH
  iapply (wp_scatter d L) $$ HO; iintro HO
  iapply (wp_scatter d L) $$ HO; iintro HO
  iapply (wp_scatter d L) $$ HO; iintro HO
  rw [← bind_pure (SparseCore.vectorStoreIdx _ _ _ (grp 3#32) _ _ _)]
  iapply (wp_scatter d L) $$ HO; iintro HO
  rw [Prog.pure_eq_ret, wp_ret]; imodintro
  isplitl [HI]; · iexact HI
  isplitl [HP]; · iexact HP
  isplitl [HH]; · iexact HH
  iexact HO

theorem wp_zap (o : Fin 2 → Nat) (ho : ∀ a, o a + S1x16.size a ≤ S64x16.size a) (b : BitVec 32)
    (I : S64x16.Idx → BitVec 32) (f : S8x4096.Idx → F .f32)
    (h : ∀ a x, (at2 b (vec (F := F) (e := .i32) I o ho) a x).toNat < S8x4096.size a) :
    iprop(pI (F := F) d L I ∗ pO d L f)
      ⊢ wp frame (wpE (defs₀ (F := F)) 𝒱₀ (thr d L) none) Set.univ (zap (i := L) sI sO o ho b)
          fun _ => iprop(pI (F := F) d L I ∗ pO d L (zapF b (vec (F := F) (e := .i32) I o ho) h f)) := by
  unfold zap
  simp only [Prog.lift, Prog.bind_op, Prog.bind_ret]
  iintro ⟨HI, HO⟩
  iapply (wp_ldI d L) $$ HI; iintro HI
  iapply (wp_chk d L h)
  rw [← bind_pure (SparseCore.vectorStoreIdx _ _ _ _ _ _ _)]
  iapply (wp_scatter d L) $$ HO; iintro HO
  rw [Prog.pure_eq_ret, wp_ret]; imodintro
  isplitl [HI]; · iexact HI
  iexact HO

end Cert.KernelIdeal.Sck

end
-- ==== Proof.IdealSckTrip.lean ====
/- The eight tokens of a trip: which rows of the block are done after each step. -/
module

public import Idealize.ShloMosaic.Lib.SparseCore.Ops
public import Idealize.ShloMosaic.Lib.LaneScatter.Fold
public import proofs.«01_k».proof.Proof.IdealSckStep

@[expose] public section

set_option synthInstance.maxSize 4096

noncomputable section

namespace Cert.KernelIdeal.Sck

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx Pay)

variable {F : FTy → Type} [FloatOps F]

local notation "𝕄" => MT nD τ sig (HIx 1) (Elt F) ℕ UU ℕ

variable (d : Dev nD) (L : grid0.Coords)

/-- The first `n` rows of `R`, the others zero. -/
def part (R : S8x4096.Idx → F .f32) (n : ℕ) : S8x4096.Idx → F .f32 := fun j => if (j 0).val < n then R j else zro
/-- The rows of `R` from `n` on, the others zero. -/
def rest (R : S8x4096.Idx → F .f32) (n : ℕ) : S8x4096.Idx → F .f32 := fun j => if (j 0).val < n then zro else R j

theorem part_zero (R : S8x4096.Idx → F .f32) : part R 0 = fun _ => zro := funext fun j => if_neg (Nat.not_lt_zero _)
theorem part_all (R : S8x4096.Idx → F .f32) : part R 8 = R := funext fun j => if_pos (show (j 0).val < 8 from (j 0).isLt)
theorem rest_zero (R : S8x4096.Idx → F .f32) : rest R 0 = R := funext fun j => if_neg (Nat.not_lt_zero _)
theorem rest_all (R : S8x4096.Idx → F .f32) : rest R 8 = fun _ => zro := funext fun j => if_pos (show (j 0).val < 8 from (j 0).isLt)

/-- Row `8·t + a` of a tile's slab. -/
def rr (t a : ℕ) : Fin 64 := ⟨(8 * t + a) % 64, Nat.mod_lt _ (by decide)⟩

/-- The rows of a trip's block, from its hidden block and the tile's slabs. -/
def blk (H : S8x4096.Idx → F .f32) (I : S64x16.Idx → BitVec 32) (P : S64x16.Idx → F .f32) (t : ℕ) : S8x4096.Idx → F .f32 := fun j =>
  row (fun e => H (ix2 (j 0) e)) (fun k => I (ix2 (rr t (j 0).val) k)) (fun k => P (ix2 (rr t (j 0).val) k)) (j 1).val

section Steps
variable {t n : ℕ} (ht : t < 8) (hn : n < 8) {o : Fin 2 → Nat} {ho : ∀ a, o a + S1x16.size a ≤ S64x16.size a}
  (ho0 : o 0 = 8 * t + n) (ho1 : o 1 = 0) {b : BitVec 32} (hb : b.toNat = n)
  {I : S64x16.Idx → BitVec 32} {P : S64x16.Idx → F .f32} {H : S8x4096.Idx → F .f32} (hI : ∀ x, (I x).toNat < 4096)
include ht hn ho0 ho1 hb hI

theorem vec_rr {e : EltTy} (J : Vec F S64x16 e) (k : Fin 16) : vec J o ho (Shape.ofLane k) = J (ix2 (rr t n) k) :=
  vec_at J o ho (rr t n) (by rw [ho0]; show 8 * t + n = (8 * t + n) % 64; omega) ho1 k

theorem vec_inb : ∀ a x, (at2 b (vec (F := F) (e := .i32) I o ho) a x).toNat < S8x4096.size a :=
  at2_inb (by omega) fun k => by rw [vec_rr (F := F) ht hn ho0 ho1 hb hI]; exact hI _

theorem tok_part (h : ∀ a x, (at2 b (vec (F := F) (e := .i32) I o ho) a x).toNat < S8x4096.size a) :
    tokF b (vec (F := F) (e := .i32) I o ho) (k0_pay4 (slabRow (F := F) (e := .f32) P o ho) (loadIdx H (at2 b (vec (F := F) (e := .i32) I o ho)) h)) h
      (part (blk H I P t) n) = part (blk H I P t) (n + 1) := by
  funext j
  rw [tokF_at]
  unfold part
  by_cases hj : (j 0).val = n
  · rw [if_pos (hj.trans hb.symm), if_neg (by omega), if_pos (by omega)]
    unfold blk row
    have hv : ∀ k, vec (F := F) (e := .i32) I o ho (Shape.ofLane k) = I (ix2 (rr t n) k) := fun k => vec_rr (F := F) (e := .i32) ht hn ho0 ho1 hb hI I k
    have e1 : (fun k : Fin 16 => (vec (F := F) (e := .i32) I o ho (Shape.ofLane k)).toNat) = fun k => (I (ix2 (rr t (j 0).val) k)).toNat :=
      funext fun k => congrArg BitVec.toNat ((hv k).trans (by rw [hj]))
    have e2 : (fun k : Fin 16 => k0_pay4 (slabRow (F := F) (e := .f32) P o ho) (loadIdx H (at2 b (vec (F := F) (e := .i32) I o ho)) h) (Shape.ofLane k))
        = fun k => gate (H (ix2 (j 0) (ex (I (ix2 (rr t (j 0).val) k))))) (P (ix2 (rr t (j 0).val) k)) := by
      funext k
      rw [pay4_at]
      have ep : shapeCast S16 (slabRow (F := F) (e := .f32) P o ho) shapeCasts_S1x16_S16 (Shape.ofLane k) = P (ix2 (rr t (j 0).val) k) := by
        rw [hj]; exact vec_rr (F := F) ht hn ho0 ho1 hb hI (e := .f32) P k
      have eh : loadIdx (F := F) (e := .f32) H (at2 b (vec (F := F) (e := .i32) I o ho)) h (Shape.ofLane k) = H (ix2 (j 0) (ex (I (ix2 (rr t (j 0).val) k)))) := by
        refine congrArg H (funext fun a => ?_)
        match a with
        | 0 => exact Fin.ext (hb.trans hj.symm)
        | 1 =>
          refine Fin.ext ?_
          show (vec (F := F) (e := .i32) I o ho (Shape.ofLane k)).toNat = (I (ix2 (rr t (j 0).val) k)).toNat % 4096
          exact (congrArg BitVec.toNat (hv k)).trans (by rw [hj, Nat.mod_eq_of_lt (hI _)])
      rw [ep, eh]
    rw [e1, e2]
  · rw [if_neg (fun h => hj (h.trans hb))]
    by_cases h2 : (j 0).val < n
    · rw [if_pos h2, if_pos (by omega)]
    · rw [if_neg h2, if_neg (by omega)]

theorem zap_rest (h : ∀ a x, (at2 b (vec (F := F) (e := .i32) I o ho) a x).toNat < S8x4096.size a) :
    zapF b (vec (F := F) (e := .i32) I o ho) h (rest (blk H I P t) n) = rest (blk H I P t) (n + 1) := by
  funext j
  rw [zapF_at]
  have hv : ∀ k, vec (F := F) (e := .i32) I o ho (Shape.ofLane k) = I (ix2 (rr t n) k) := fun k => vec_rr (F := F) (e := .i32) ht hn ho0 ho1 hb hI I k
  have hex : (∃ k : Fin 16, (j 1).val = (vec (F := F) (e := .i32) I o ho (Shape.ofLane k)).toNat) ↔ ∃ k : Fin 16, (j 1).val = (I (ix2 (rr t n) k)).toNat :=
    exists_congr fun k => ⟨fun e => e.trans (congrArg BitVec.toNat (hv k)), fun e => e.trans (congrArg BitVec.toNat (hv k)).symm⟩
  unfold rest
  by_cases hj : (j 0).val = n
  · rw [if_pos (c := (j 0).val < n + 1) (by omega), if_neg (c := (j 0).val < n) (by omega)]
    by_cases hk : ∃ k : Fin 16, (j 1).val = (I (ix2 (rr t n) k)).toNat
    · rw [if_pos ⟨hj.trans hb.symm, hex.mpr hk⟩]
    · rw [if_neg fun h => hk (hex.mp h.2)]
      unfold blk row
      exact addRow_none _ _ _ _ fun k e => hk ⟨k, by rw [hj] at e; exact e⟩
  · rw [if_neg (fun h => hj (h.1.trans hb))]
    by_cases h2 : (j 0).val < n
    · rw [if_pos h2, if_pos (by omega)]
    · rw [if_neg h2, if_neg (by omega)]

/-- One token's step on the scratch: one more row done. -/
theorem tok_step :
    iprop(pI (F := F) d L I ∗ pP d L P ∗ pH d L H ∗ pO d L (part (blk H I P t) n))
      ⊢ wp frame (wpE (defs₀ (F := F)) 𝒱₀ (thr d L) none) Set.univ (tok (i := L) sI sP sH sO o ho b)
          fun _ => iprop(pI (F := F) d L I ∗ pP d L P ∗ pH d L H ∗ pO d L (part (blk H I P t) (n + 1))) := by
  have h := wp_tok d L o ho b I P H (part (blk H I P t) n) (vec_inb (F := F) ht hn ho0 ho1 hb hI)
  rw [tok_part (F := F) ht hn ho0 ho1 hb hI] at h
  exact h

/-- One row's clearing: one more row zero. -/
theorem zap_step :
    iprop(pI (F := F) d L I ∗ pO d L (rest (blk H I P t) n))
      ⊢ wp frame (wpE (defs₀ (F := F)) 𝒱₀ (thr d L) none) Set.univ (zap (i := L) sI sO o ho b)
          fun _ => iprop(pI (F := F) d L I ∗ pO d L (rest (blk H I P t) (n + 1))) := by
  have h := wp_zap d L o ho b I (rest (blk H I P t) n) (vec_inb (F := F) ht hn ho0 ho1 hb hI)
  rw [zap_rest (F := F) ht hn ho0 ho1 hb hI] at h
  exact h

theorem tok_then {α : Type} {Q : α → sProp 𝕄} {k : PUnit → Prog (TpuEff nD τ sig (Elt F) Λ₀ (.scVector (cV L) (jV L))) α} :
    iprop(pI (F := F) d L I ∗ pP d L P ∗ pH d L H ∗ pO d L (part (blk H I P t) n))
      ⊢ iprop((iprop(pI (F := F) d L I ∗ pP d L P ∗ pH d L H ∗ pO d L (part (blk H I P t) (n + 1)))
            -∗ wp frame (wpE (defs₀ (F := F)) 𝒱₀ (thr d L) none) Set.univ (k ⟨⟩) Q)
          -∗ wp frame (wpE (defs₀ (F := F)) 𝒱₀ (thr d L) none) Set.univ (tok (i := L) sI sP sH sO o ho b >>= k) Q) := by
  iintro H Hk
  iapply (LaneScatter.bind_of_run _ _ _ (tok_step d L ht hn ho0 ho1 hb hI) k Q)
  isplitl [H] <;> iassumption

theorem zap_then {α : Type} {Q : α → sProp 𝕄} {k : PUnit → Prog (TpuEff nD τ sig (Elt F) Λ₀ (.scVector (cV L) (jV L))) α} :
    iprop(pI (F := F) d L I ∗ pO d L (rest (blk H I P t) n))
      ⊢ iprop((iprop(pI (F := F) d L I ∗ pO d L (rest (blk H I P t) (n + 1)))
            -∗ wp frame (wpE (defs₀ (F := F)) 𝒱₀ (thr d L) none) Set.univ (k ⟨⟩) Q)
          -∗ wp frame (wpE (defs₀ (F := F)) 𝒱₀ (thr d L) none) Set.univ (zap (i := L) sI sO o ho b >>= k) Q) := by
  iintro H Hk
  iapply (LaneScatter.bind_of_run _ _ _ (zap_step d L ht hn ho0 ho1 hb hI) k Q)
  isplitl [H] <;> iassumption

end Steps

/-- A copy started and waited for: the target holds what the source's view reads. -/
theorem wp_copy {α : Type} {Q : α → sProp 𝕄} {sp sp' spw : Space} {s sw : Shape} {e ew : EltTy}
    {src : Memref sig .scVector sp s e} {dst : Memref sig .scVector sp' s e} {srcw : Memref sig .scVector spw sw ew} {sem : DmaSem sig}
    {h1 : src.view.WordExact} {h2 : dst.view.WordExact} {h3 : DmaTarget.Typed (nD := nD) (p := .scVector (cV L) (jV L)) sp (.dma sem) (.here dst)}
    {h4 : srcw.view.WordExact} {h5 : dst.view.WordExact} {k : PUnit → Prog (TpuEff nD τ sig (Elt F) Λ₀ (.scVector (cV L) (jV L))) α}
    {q : PosShare TreeShare} {O : CellTallies nD τ sig (HIx 1)} {W : Waits sig (HIx 1)}
    (fs : Buf (Elt F) (src.view.loc (thr d L))) (Sd : Finset (Idx (dst.view.loc (thr d L)))) (fd : Buf (Elt F) (dst.view.loc (thr d L)))
    (hs : 0 < s.numel) (hSd : dst.view.set ⊆ Sd) :
    iprop((src.view.loc (thr d L) ↦{q} fs) ∗ (dst.view.loc (thr d L) ↦[Sd]{fullShare} fd) ∗ semVal (thr d L, .dma sem) 0
        ∗ Transfers.MayWaits (thr d L) (none : HIx 1) O ∗ owes (thr d L) O W)
      ⊢ (iprop((iprop((src.view.loc (thr d L) ↦{q} fs)
            ∗ (dst.view.loc (thr d L) ↦[Sd]{fullShare} dst.view.write (Elt F) fd (src.view.read (Elt F) fs) Finset.univ)
            ∗ semVal (thr d L, .dma sem) 0 ∗ owes (thr d L) O (insert (SemLoc.dma sem, none) W))
          -∗ wp frame (wpE (defs₀ (F := F)) 𝒱₀ (thr d L) none) Set.univ (k ⟨⟩) Q)
        -∗ wp frame (wpE (defs₀ (F := F)) 𝒱₀ (thr d L) none) Set.univ
            (.op (.enqueueDma src (.here dst) (.dma sem) h1 h2 h3) fun _ => .op (.waitDma2 sem srcw dst h4 h5) k) Q) : sProp 𝕄) := by
  iintro ⟨Hs, Hd, Hv, #Hmw, HO⟩ Hk
  ihave Hm := (Transfers.MayWaits.elim (SemLoc.dma sem)) $$ Hmw
  iapply (Transfers.wp_dmaFromWhole EC 𝒱₀ (thr d L) none (none : HIx 1) _ rfl (View.amount_pos _ _ hs) hSd) $$ [Hs Hd Hv]
  · isplitl [Hs]; · iexact Hs
    isplitl [Hd]; · iexact Hd
    iexact Hv
  iintro Hfl
  iapply (Transfers.wp_waitLocalO EC 𝒱₀ (thr d L) none (none : HIx 1) rfl) $$ [Hfl HO Hm]
  · isplitl [Hfl]; · iexact Hfl
    isplitl [HO]; · iexact HO
    iexact Hm
  iintro ⟨⟨Hd, Hs⟩, Hv, HO⟩
  iapply Hk
  isplitl [Hs]; · iexact Hs
  isplitl [Hd]; · iexact Hd
  isplitl [Hv]; · iexact Hv
  iexact HO

end Cert.KernelIdeal.Sck

end
-- ==== Proof.IdealSckBody.lean ====
/- One trip of the main loop, one trip of the clearing loop, and the whole of a tile's program, at a symbolic tile. -/
module

public import Idealize.ShloMosaic.Lib.SparseCore.Ops
public import Idealize.ShloMosaic.Lib.LaneScatter.Fold
public import proofs.«01_k».proof.Proof.IdealSckTrip

@[expose] public section

set_option synthInstance.maxSize 4096

noncomputable section

namespace Cert.KernelIdeal.Sck

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx Pay)

variable {F : FTy → Type} [FloatOps F]

local notation "𝕄" => MT nD τ sig (HIx 1) (Elt F) ℕ UU ℕ

variable (m : (ℓ : Loc nD τ sig) → Buf (Elt F) ℓ) (d : Dev nD) (L : grid0.Coords)

abbrev hV : Memref sig .scVector .hbm S2048x4096 .f32 := Memref.whole main_arg0_scv
abbrev iV : Memref sig .scVector .hbm S2048x16 .i32 := Memref.whole main_arg1_scv
abbrev pV : Memref sig .scVector .hbm S2048x16 .f32 := Memref.whole main_arg2_scv
abbrev sV : Memref sig .scVector .hbm S2048x4096 .f32 := Memref.whole main_v1_scv

/-- The rectangle of the tile's token rows, and of a trip's block. -/
abbrev rS : Rect S2048x16 := Rect.unit (s := S2048x16) (k0_off1 L) S64x16.size (k0_off1_inb L)
abbrev rH (t : Fin k0_t2_loop.trips) : Rect S2048x4096 := Rect.unit (s := S2048x4096) (k0_off3 L t) S8x4096.size (k0_off3_inb L t)
abbrev rO (t : Fin k0_t2_loop.trips) : Rect S2048x4096 := Rect.unit (s := S2048x4096) (k0_off12 L t) S8x4096.size (k0_off12_inb L t)

/-- What the tile's slabs and a trip's hidden block hold. -/
def iB : S64x16.Idx → BitVec 32 := fun x => m (iLoc d) ((rS L).emb x)
def pB : S64x16.Idx → F .f32 := fun x => m (pLoc d) ((rS L).emb x)
def hB (t : Fin k0_t2_loop.trips) : S8x4096.Idx → F .f32 := fun x => m (hLoc d) ((rH L t).emb x)

theorem t2_lt (t : Fin k0_t2_loop.trips) : t.val < 8 := lt_of_lt_of_le t.isLt Gen.k0_t2_abs.2.1

/-- The rows a trip computes are the rows of `s` at the trip's block. -/
theorem blk_val (t : Fin k0_t2_loop.trips) (x : S8x4096.Idx) :
    blk (hB m d L t) (iB m d L) (pB m d L) t.val x = sVal m d ((rO L t).emb x) := by
  have t8 := t2_lt t
  have hx : (x 0).val < 8 := (x 0).isLt
  have hw := wid_lt L
  have e0 : ((rO L t).emb x 0).val = 64 * wid L + 8 * t.val + (x 0).val := by
    rw [Rect.emb_apply]; show k0_off12 L t 0 + 1 * (x 0).val = _; rw [Gen.k0_off12_eq]; show 128 * (L 1).val + 64 * (L 0).val + 8 * t.val + 1 * (x 0).val = 64 * (2 * (L 1).val + (L 0).val) + 8 * t.val + (x 0).val; omega
  have e1 : ((rO L t).emb x 1).val = (x 1).val := by
    rw [Rect.emb_apply]; show k0_off12 L t 1 + 1 * (x 1).val = _; rw [Gen.k0_off12_eq]; show 0 + 1 * (x 1).val = _; omega
  have hh : (fun e : Fin 4096 => hB m d L t (ix2 (x 0) e)) = fun e => m (hLoc d) (ix2 (n := 2048) ((rO L t).emb x 0) e) := by
    funext e
    refine congrArg (m (hLoc d)) (funext fun a => ?_)
    match a with
    | 0 => exact Fin.ext (by rw [Rect.emb_apply]; show k0_off3 L t 0 + 1 * (x 0).val = ((rO L t).emb x 0).val; rw [e0, Gen.k0_off3_eq]; show 128 * (L 1).val + 64 * (L 0).val + 8 * t.val + 1 * (x 0).val = 64 * (2 * (L 1).val + (L 0).val) + 8 * t.val + (x 0).val; omega)
    | 1 => exact Fin.ext (by rw [Rect.emb_apply]; show k0_off3 L t 1 + 1 * e.val = e.val; rw [Gen.k0_off3_eq]; show 0 + 1 * e.val = e.val; omega)
  have hs : ∀ k : Fin 16, (rS L).emb (ix2 (rr t.val (x 0).val) k) = ix2 (n := 2048) ((rO L t).emb x 0) k := by
    intro k
    funext a
    match a with
    | 0 => exact Fin.ext (by rw [Rect.emb_apply]; show k0_off1 L 0 + 1 * ((8 * t.val + (x 0).val) % 64) = ((rO L t).emb x 0).val; rw [e0, Gen.k0_off1_eq]; show 128 * (L 1).val + 64 * (L 0).val + 1 * ((8 * t.val + (x 0).val) % 64) = 64 * (2 * (L 1).val + (L 0).val) + 8 * t.val + (x 0).val; omega)
    | 1 => exact Fin.ext (by rw [Rect.emb_apply]; show k0_off1 L 1 + 1 * k.val = k.val; rw [Gen.k0_off1_eq]; show 0 + 1 * k.val = k.val; omega)
  have hi : (fun k : Fin 16 => iB m d L (ix2 (rr t.val (x 0).val) k)) = fun k => m (iLoc d) (ix2 (n := 2048) ((rO L t).emb x 0) k) :=
    funext fun k => congrArg (m (iLoc d)) (hs k)
  have hp : (fun k : Fin 16 => pB m d L (ix2 (rr t.val (x 0).val) k)) = fun k => m (pLoc d) (ix2 (n := 2048) ((rO L t).emb x 0) k) :=
    funext fun k => congrArg (m (pLoc d)) (hs k)
  unfold blk sVal
  rw [hh, hi, hp, e1]

/-- The rows of tile `L` before trip `n`'s block are final in `g`. -/
def Done (n : ℕ) (g : Buf (Elt F) (sLoc d)) : Prop := ∀ j ∈ rows (wid L), ((j : S2048x4096.Idx) 0).val < 64 * wid L + 8 * n → g j = sVal m d j

/-- The block written out, the tile's rows up to the next trip are final. -/
theorem done_next (t : Fin k0_t2_loop.trips) (g : Buf (Elt F) (sLoc d)) (hg : Done m d L t.val g) :
    Done m d L (t.val + 1) (((sV).slice (rO L t) (fun _ => rfl)).view.write (Elt F) g ((sO).view.read (Elt F) (blk (hB m d L t) (iB m d L) (pB m d L) t.val)) Finset.univ) := by
  intro j hj hlt
  have t8 := t2_lt t
  have key0 : ∀ x : S8x4096.Idx, ((rO L t).emb x 0).val = 64 * wid L + 8 * t.val + (x 0).val := fun x => by
    rw [Rect.emb_apply]; show k0_off12 L t 0 + 1 * (x 0).val = _; rw [Gen.k0_off12_eq]; show 128 * (L 1).val + 64 * (L 0).val + 8 * t.val + 1 * (x 0).val = 64 * (2 * (L 1).val + (L 0).val) + 8 * t.val + (x 0).val; omega
  by_cases h : (j 0).val < 64 * wid L + 8 * t.val
  · rw [View.write_of_not_mem]
    · exact hg j hj h
    · intro hmem
      obtain ⟨x, -, hx⟩ := Finset.mem_map.mp hmem
      have := key0 x
      rw [show (rO L t).emb x = j from hx] at this
      omega
  · have hx0 : (j 0).val - (64 * wid L + 8 * t.val) < 8 := by omega
    have hx : (rO L t).emb (ix2 ⟨(j 0).val - (64 * wid L + 8 * t.val), hx0⟩ (j 1)) = j := by
      funext a
      match a with
      | 0 => exact Fin.ext ((key0 _).trans (by show 64 * wid L + 8 * t.val + ((j 0).val - (64 * wid L + 8 * t.val)) = (j 0).val; omega))
      | 1 => exact Fin.ext (by rw [Rect.emb_apply]; show k0_off12 L t 1 + 1 * (j 1).val = (j 1).val; rw [Gen.k0_off12_eq]; show 0 + 1 * (j 1).val = (j 1).val; omega)
    have hw := View.write_emb_of_mem (v := ((sV).slice (rO L t) (fun _ => rfl)).view) (Val := Elt F) g ((sO).view.read (Elt F) (blk (hB m d L t) (iB m d L) (pB m d L) t.val))
      (Finset.mem_univ (ix2 ⟨(j 0).val - (64 * wid L + 8 * t.val), hx0⟩ (j 1)))
    have hb := blk_val m d L t (ix2 ⟨(j 0).val - (64 * wid L + 8 * t.val), hx0⟩ (j 1))
    rw [hx] at hb
    exact (congrArg (View.write (Elt F) ((sV).slice (rO L t) (fun _ => rfl)).view g ((sO).view.read (Elt F) (blk (hB m d L t) (iB m d L) (pB m d L) t.val)) Finset.univ)
      hx.symm).trans (hw.trans hb)

omit [FloatOps F] in
theorem waits_ins {W W' : Waits sig (HIx 1)} {sm : SemLoc sig} (h : ∀ p ∈ W', p ∈ W ∨ p.2 = none) : ∀ p ∈ insert (sm, (none : HIx 1)) W', p ∈ W ∨ p.2 = none :=
  fun p hp => (Finset.mem_insert.mp hp).elim (fun e => .inr (by rw [e])) (h p)

section Trip
variable (O : CellTallies nD τ sig (HIx 1)) (W : Waits sig (HIx 1))

/-- What a tile holds before trip `n` of the main loop. -/
def inv2 (n : ℕ) : sProp 𝕄 :=
  iprop(Transfers.MayWaits (thr d L) (none : HIx 1) O
    ∗ (hLoc d ↦{shr ⟨wid L, wid_lt L⟩} m (hLoc d))
    ∗ pI d L (iB m d L) ∗ pP d L (pB m d L) ∗ (∃ f, pH d L f) ∗ pO d L (fun _ => zro)
    ∗ (∃ g, ⌜Done m d L n g⌝ ∗ (sLoc d ↦[rows (wid L)]{fullShare} g))
    ∗ semVal (thr d L, .dma cc0_scoped2.sem) 0 ∗ semVal (thr d L, .dma cc0_scoped3.sem) 0
    ∗ ∃ W', ⌜∀ p ∈ W', p ∈ W ∨ p.2 = none⌝ ∗ owes (thr d L) O W')

theorem setO (t : Fin k0_t2_loop.trips) : ((sV).slice (rO L t) (fun _ => rfl)).view.set ⊆ rows (wid L) := by
  intro j hmem
  have t8 := t2_lt t
  obtain ⟨x, -, hx⟩ := Finset.mem_map.mp hmem
  have hx8 : (x 0).val < 8 := (x 0).isLt
  have key0 : ((rO L t).emb x 0).val = 64 * wid L + 8 * t.val + (x 0).val := by
    rw [Rect.emb_apply]; show k0_off12 L t 0 + 1 * (x 0).val = _; rw [Gen.k0_off12_eq]; show 128 * (L 1).val + 64 * (L 0).val + 8 * t.val + 1 * (x 0).val = 64 * (2 * (L 1).val + (L 0).val) + 8 * t.val + (x 0).val; omega
  rw [show (rO L t).emb x = j from hx] at key0
  exact mem_rows.mpr (by omega)

set_option maxHeartbeats 2000000 in
theorem trip (hI : ∀ j, (m (iLoc d) j : BitVec 32).toNat < 4096) (t : Fin k0_t2_loop.trips) (u : Unit) :
    inv2 m d L O W t.val
      ⊢ wp frame (wpE (defs₀ (F := F)) 𝒱₀ (thr d L) none) Set.univ
          (k0_t2_body L hV (Memref.isWhole_whole _) iV (Memref.isWhole_whole _) pV (Memref.isWhole_whole _) sV (Memref.isWhole_whole _)
            sI (Memref.isWhole_whole _) sP (Memref.isWhole_whole _) sH (Memref.isWhole_whole _) sO (Memref.isWhole_whole _)
            cc0_scoped0 cc0_scoped1 cc0_scoped2 cc0_scoped3 (Scalar.muli (Scalar.addi (Scalar.muli (BitVec.ofNat 32 (L 1).val) 2#32) (BitVec.ofNat 32 (L 0).val)) 64#32) t u)
          (fun _ => inv2 m d L O W (t.val + 1)) := by
  have t8 := t2_lt t
  have hI' : ∀ x, (iB m d L x).toNat < 4096 := fun x => hI _
  rw [body_eq]
  simp only [Prog.lift, Prog.bind_op, Prog.bind_ret]
  unfold inv2
  iintro ⟨#Hmw, Hh, HI, HP, ⟨%f, HH⟩, HO, ⟨%g, %hg, Hs⟩, Hs2, Hs3, %W', %hW', HW⟩
  iapply (wp_copy d L (src := (hV).slice (rH L t) (fun _ => rfl)) (dst := sH) (sem := cc0_scoped2.sem) (m (hLoc d)) Finset.univ f (by show 0 < S8x4096.numel; decide) (Finset.subset_univ _)) $$ [Hh HH Hs2 HW]
  · isplitl [Hh]; · iexact Hh
    isplitl [HH]; · iexact HH
    isplitl [Hs2]; · iexact Hs2
    isplitr; · iexact Hmw
    iexact HW
  iintro ⟨Hh, HH, Hs2, HW⟩
  ihave HH := (Entails.of_eq (show ((sH).view.loc (thr d L) ↦{fullShare} (sH).view.write (Elt F) f (((hV).slice (rH L t) (fun _ => rfl)).view.read (Elt F) (m (hLoc d))) Finset.univ : sProp 𝕄)
      = pH d L (hB m d L t) by rw [View.write_whole_univ]; rfl)) $$ HH
  ihave HO := (Entails.of_eq (show (pO d L (fun _ => zro) : sProp 𝕄) = pO d L (part (blk (hB m d L t) (iB m d L) (pB m d L) t.val) 0) by rw [part_zero])) $$ HO
  iapply (tok_then d L (t := t.val) (n := 0) t8 (by decide) (ho := k0_off4_inb t) (congrFun (Gen.k0_off4_eq t) 0) (congrFun (Gen.k0_off4_eq t) 1) (b := 0#32) rfl hI') $$ [HI HP HH HO]
  · isplitl [HI]; · iexact HI
    isplitl [HP]; · iexact HP
    isplitl [HH]; · iexact HH
    iexact HO
  iintro ⟨HI, HP, HH, HO⟩
  iapply (tok_then d L (t := t.val) (n := 1) t8 (by decide) (ho := k0_off5_inb t) (congrFun (Gen.k0_off5_eq t) 0) (congrFun (Gen.k0_off5_eq t) 1) (b := 1#32) rfl hI') $$ [HI HP HH HO]
  · isplitl [HI]; · iexact HI
    isplitl [HP]; · iexact HP
    isplitl [HH]; · iexact HH
    iexact HO
  iintro ⟨HI, HP, HH, HO⟩
  iapply (tok_then d L (t := t.val) (n := 2) t8 (by decide) (ho := k0_off6_inb t) (congrFun (Gen.k0_off6_eq t) 0) (congrFun (Gen.k0_off6_eq t) 1) (b := 2#32) rfl hI') $$ [HI HP HH HO]
  · isplitl [HI]; · iexact HI
    isplitl [HP]; · iexact HP
    isplitl [HH]; · iexact HH
    iexact HO
  iintro ⟨HI, HP, HH, HO⟩
  iapply (tok_then d L (t := t.val) (n := 3) t8 (by decide) (ho := k0_off7_inb t) (congrFun (Gen.k0_off7_eq t) 0) (congrFun (Gen.k0_off7_eq t) 1) (b := 3#32) rfl hI') $$ [HI HP HH HO]
  · isplitl [HI]; · iexact HI
    isplitl [HP]; · iexact HP
    isplitl [HH]; · iexact HH
    iexact HO
  iintro ⟨HI, HP, HH, HO⟩
  iapply (tok_then d L (t := t.val) (n := 4) t8 (by decide) (ho := k0_off8_inb t) (congrFun (Gen.k0_off8_eq t) 0) (congrFun (Gen.k0_off8_eq t) 1) (b := 4#32) rfl hI') $$ [HI HP HH HO]
  · isplitl [HI]; · iexact HI
    isplitl [HP]; · iexact HP
    isplitl [HH]; · iexact HH
    iexact HO
  iintro ⟨HI, HP, HH, HO⟩
  iapply (tok_then d L (t := t.val) (n := 5) t8 (by decide) (ho := k0_off9_inb t) (congrFun (Gen.k0_off9_eq t) 0) (congrFun (Gen.k0_off9_eq t) 1) (b := 5#32) rfl hI') $$ [HI HP HH HO]
  · isplitl [HI]; · iexact HI
    isplitl [HP]; · iexact HP
    isplitl [HH]; · iexact HH
    iexact HO
  iintro ⟨HI, HP, HH, HO⟩
  iapply (tok_then d L (t := t.val) (n := 6) t8 (by decide) (ho := k0_off10_inb t) (congrFun (Gen.k0_off10_eq t) 0) (congrFun (Gen.k0_off10_eq t) 1) (b := 6#32) rfl hI') $$ [HI HP HH HO]
  · isplitl [HI]; · iexact HI
    isplitl [HP]; · iexact HP
    isplitl [HH]; · iexact HH
    iexact HO
  iintro ⟨HI, HP, HH, HO⟩
  iapply (tok_then d L (t := t.val) (n := 7) t8 (by decide) (ho := k0_off11_inb t) (congrFun (Gen.k0_off11_eq t) 0) (congrFun (Gen.k0_off11_eq t) 1) (b := 7#32) rfl hI') $$ [HI HP HH HO]
  · isplitl [HI]; · iexact HI
    isplitl [HP]; · iexact HP
    isplitl [HH]; · iexact HH
    iexact HO
  iintro ⟨HI, HP, HH, HO⟩
  ihave HO := (Entails.of_eq (show (pO d L (part (blk (hB m d L t) (iB m d L) (pB m d L) t.val) (7 + 1)) : sProp 𝕄) = pO d L (blk (hB m d L t) (iB m d L) (pB m d L) t.val) by rw [part_all])) $$ HO
  iapply (wp_copy d L (src := sO) (dst := (sV).slice (rO L t) (fun _ => rfl)) (sem := cc0_scoped3.sem) (blk (hB m d L t) (iB m d L) (pB m d L) t.val) (rows (wid L)) g (by show 0 < S8x4096.numel; decide) (setO L t)) $$ [HO Hs Hs3 HW]
  · isplitl [HO]; · iexact HO
    isplitl [Hs]; · iexact Hs
    isplitl [Hs3]; · iexact Hs3
    isplitr; · iexact Hmw
    iexact HW
  iintro ⟨HO, Hs, Hs3, HW⟩
  ihave HO := (Entails.of_eq (show ((sO).view.loc (thr d L) ↦{fullShare} blk (hB m d L t) (iB m d L) (pB m d L) t.val : sProp 𝕄) = pO d L (rest (blk (hB m d L t) (iB m d L) (pB m d L) t.val) 0) by rw [rest_zero])) $$ HO
  iapply (zap_then d L (t := t.val) (n := 0) t8 (by decide) (ho := k0_off13_inb t) (congrFun (Gen.k0_off13_eq t) 0) (congrFun (Gen.k0_off13_eq t) 1) (b := 0#32) rfl (P := pB m d L) (H := hB m d L t) hI') $$ [HI HO]
  · isplitl [HI]; · iexact HI
    iexact HO
  iintro ⟨HI, HO⟩
  iapply (zap_then d L (t := t.val) (n := 1) t8 (by decide) (ho := k0_off14_inb t) (congrFun (Gen.k0_off14_eq t) 0) (congrFun (Gen.k0_off14_eq t) 1) (b := 1#32) rfl (P := pB m d L) (H := hB m d L t) hI') $$ [HI HO]
  · isplitl [HI]; · iexact HI
    iexact HO
  iintro ⟨HI, HO⟩
  iapply (zap_then d L (t := t.val) (n := 2) t8 (by decide) (ho := k0_off15_inb t) (congrFun (Gen.k0_off15_eq t) 0) (congrFun (Gen.k0_off15_eq t) 1) (b := 2#32) rfl (P := pB m d L) (H := hB m d L t) hI') $$ [HI HO]
  · isplitl [HI]; · iexact HI
    iexact HO
  iintro ⟨HI, HO⟩
  iapply (zap_then d L (t := t.val) (n := 3) t8 (by decide) (ho := k0_off16_inb t) (congrFun (Gen.k0_off16_eq t) 0) (congrFun (Gen.k0_off16_eq t) 1) (b := 3#32) rfl (P := pB m d L) (H := hB m d L t) hI') $$ [HI HO]
  · isplitl [HI]; · iexact HI
    iexact HO
  iintro ⟨HI, HO⟩
  iapply (zap_then d L (t := t.val) (n := 4) t8 (by decide) (ho := k0_off17_inb t) (congrFun (Gen.k0_off17_eq t) 0) (congrFun (Gen.k0_off17_eq t) 1) (b := 4#32) rfl (P := pB m d L) (H := hB m d L t) hI') $$ [HI HO]
  · isplitl [HI]; · iexact HI
    iexact HO
  iintro ⟨HI, HO⟩
  iapply (zap_then d L (t := t.val) (n := 5) t8 (by decide) (ho := k0_off18_inb t) (congrFun (Gen.k0_off18_eq t) 0) (congrFun (Gen.k0_off18_eq t) 1) (b := 5#32) rfl (P := pB m d L) (H := hB m d L t) hI') $$ [HI HO]
  · isplitl [HI]; · iexact HI
    iexact HO
  iintro ⟨HI, HO⟩
  iapply (zap_then d L (t := t.val) (n := 6) t8 (by decide) (ho := k0_off19_inb t) (congrFun (Gen.k0_off19_eq t) 0) (congrFun (Gen.k0_off19_eq t) 1) (b := 6#32) rfl (P := pB m d L) (H := hB m d L t) hI') $$ [HI HO]
  · isplitl [HI]; · iexact HI
    iexact HO
  iintro ⟨HI, HO⟩
  iapply (zap_then d L (t := t.val) (n := 7) t8 (by decide) (ho := k0_off20_inb t) (congrFun (Gen.k0_off20_eq t) 0) (congrFun (Gen.k0_off20_eq t) 1) (b := 7#32) rfl (P := pB m d L) (H := hB m d L t) hI') $$ [HI HO]
  · isplitl [HI]; · iexact HI
    iexact HO
  iintro ⟨HI, HO⟩
  ihave HO := (Entails.of_eq (show (pO d L (rest (blk (hB m d L t) (iB m d L) (pB m d L) t.val) (7 + 1)) : sProp 𝕄) = pO d L (fun _ => zro) by rw [rest_all])) $$ HO
  rw [Prog.pure_eq_ret, wp_ret]; imodintro
  isplitr; · iexact Hmw
  isplitl [Hh]; · iexact Hh
  isplitl [HI]; · iexact HI
  isplitl [HP]; · iexact HP
  isplitl [HH]; · iexists _; iexact HH
  isplitl [HO]; · iexact HO
  isplitl [Hs]
  · iexists _; isplitr
    · ipureintro; exact done_next m d L t g hg
    · iexact Hs
  isplitl [Hs2]; · iexact Hs2
  isplitl [Hs3]; · iexact Hs3
  iexists _; isplitr; swap
  · iexact HW
  · ipureintro; exact waits_ins (waits_ins hW')

end Trip

/-! The clearing loop. -/

theorem off2_eq : ∀ t : Fin k0_t1_loop.trips, k0_off2 t = ![t.val / 256, 16 * (t.val % 256)] := by decide +kernel

/-- The row block after `n` trips of the clearing: the first `n` groups of sixteen are zero. -/
def inv1 (n : ℕ) : sProp 𝕄 :=
  iprop(∃ f : S8x4096.Idx → F .f32, ⌜∀ j : S8x4096.Idx, (j 0).val * 256 + (j 1).val / 16 < n → f j = zro⌝ ∗ pO d L f)

theorem clear (t : Fin k0_t1_loop.trips) (u : Unit) :
    (inv1 d L t.val : sProp 𝕄)
      ⊢ wp frame (wpE (defs₀ (F := F)) 𝒱₀ (thr d L) none) Set.univ
          (k0_t1_body L hV (Memref.isWhole_whole _) iV (Memref.isWhole_whole _) pV (Memref.isWhole_whole _) sV (Memref.isWhole_whole _)
            sI (Memref.isWhole_whole _) sP (Memref.isWhole_whole _) sH (Memref.isWhole_whole _) sO (Memref.isWhole_whole _)
            cc0_scoped0 cc0_scoped1 cc0_scoped2 cc0_scoped3 t u)
          (fun _ => inv1 d L (t.val + 1)) := by
  unfold k0_t1_body
  simp only [Prog.lift, Prog.bind_op, Prog.bind_ret]
  unfold inv1
  iintro ⟨%f, %hf, HO⟩
  iapply (wp_ldstO d L f) $$ HO; iintro HO
  rw [Prog.pure_eq_ret, wp_ret]; imodintro
  iexists _; isplitr; swap
  · iexact HO
  · ipureintro
    intro j hj
    by_cases h : (j 0).val * 256 + (j 1).val / 16 < t.val
    · rw [View.write_of_not_mem]
      · exact hf j h
      · intro hmem
        obtain ⟨x, -, hx⟩ := Finset.mem_map.mp hmem
        have hx : (Rect.unit (s := S8x4096) (k0_off2 t) S1x16.size (k0_off2_inb t)).emb x = j := hx
        have x0 : (x 0).val < 1 := (x 0).isLt
        have x1 : (x 1).val < 16 := (x 1).isLt
        have e0 : k0_off2 t 0 + 1 * (x 0).val = (j 0).val := by rw [← hx, Rect.emb_apply]; rfl
        have e1 : k0_off2 t 1 + 1 * (x 1).val = (j 1).val := by rw [← hx, Rect.emb_apply]; rfl
        have o0 : k0_off2 t 0 = t.val / 256 := congrFun (off2_eq t) 0
        have o1 : k0_off2 t 1 = 16 * (t.val % 256) := congrFun (off2_eq t) 1
        omega
    · have j1 : (j 1).val < 4096 := (j 1).isLt
      have hx : (Rect.unit (s := S8x4096) (k0_off2 t) S1x16.size (k0_off2_inb t)).emb (ix2 (n := 1) (k := 16) 0 ⟨(j 1).val % 16, Nat.mod_lt _ (by decide)⟩) = j := by
        funext a
        match a with
        | 0 => exact Fin.ext (by rw [Rect.emb_apply]; show k0_off2 t 0 + 1 * 0 = (j 0).val; rw [off2_eq]; show t.val / 256 + 1 * 0 = (j 0).val; omega)
        | 1 => exact Fin.ext (by rw [Rect.emb_apply]; show k0_off2 t 1 + 1 * ((j 1).val % 16) = (j 1).val; rw [off2_eq]; show 16 * (t.val % 256) + 1 * ((j 1).val % 16) = (j 1).val; omega)
      have hw := View.write_emb_of_mem (v := (sO).access (Rect.unit (s := S8x4096) (k0_off2 t) S1x16.size (k0_off2_inb t))) (Val := Elt F) f (shapeCast S1x16 (k0_pay1 (F := F)) shapeCasts_S16_S1x16)
        (Finset.mem_univ (ix2 (n := 1) (k := 16) 0 ⟨(j 1).val % 16, Nat.mod_lt _ (by decide)⟩))
      exact (congrArg (View.write (Elt F) ((sO).access (Rect.unit (s := S8x4096) (k0_off2 t) S1x16.size (k0_off2_inb t))) f (shapeCast S1x16 (k0_pay1 (F := F)) shapeCasts_S16_S1x16) Finset.univ)
        hx.symm).trans hw

/-! The whole of a tile's program. -/

/-- A tile's four scratch arrays, whatever they hold, and its four copy semaphores at zero. -/
def scr : sProp 𝕄 :=
  iprop((∃ f, pI d L f) ∗ (∃ f, pP d L f) ∗ (∃ f, pH d L f) ∗ (∃ f, pO d L f)
    ∗ semVal (thr d L, .dma cc0_scoped0.sem) 0 ∗ semVal (thr d L, .dma cc0_scoped1.sem) 0
    ∗ semVal (thr d L, .dma cc0_scoped2.sem) 0 ∗ semVal (thr d L, .dma cc0_scoped3.sem) 0)

/-- A tile's shares of the arrays it reads. -/
def ins : sProp 𝕄 :=
  iprop((hLoc d ↦{shr ⟨wid L, wid_lt L⟩} m (hLoc d)) ∗ (iLoc d ↦{shr ⟨wid L, wid_lt L⟩} m (iLoc d)) ∗ (pLoc d ↦{shr ⟨wid L, wid_lt L⟩} m (pLoc d)))

theorem t1_trips : k0_t1_loop.trips = 2048 := by decide +kernel
theorem t2_trips : k0_t2_loop.trips = 8 := by decide +kernel

set_option maxHeartbeats 1000000 in
theorem tile_run (O : CellTallies nD τ sig (HIx 1)) (W : Waits sig (HIx 1)) (hI : ∀ j, (m (iLoc d) j : BitVec 32).toNat < 4096) :
    iprop(Transfers.MayWaits (thr d L) (none : HIx 1) O ∗ ins m d L ∗ (∃ g, sLoc d ↦[rows (wid L)]{fullShare} g) ∗ scr d L ∗ owes (thr d L) O W)
      ⊢ wp frame (wpE (defs₀ (F := F)) 𝒱₀ (thr d L) none) Set.univ
          (cc0_sck L hV (Memref.isWhole_whole _) iV (Memref.isWhole_whole _) pV (Memref.isWhole_whole _) sV (Memref.isWhole_whole _)
            sI (Memref.isWhole_whole _) sP (Memref.isWhole_whole _) sH (Memref.isWhole_whole _) sO (Memref.isWhole_whole _)
            cc0_scoped0 cc0_scoped1 cc0_scoped2 cc0_scoped3)
          (fun _ => iprop(ins m d L ∗ (sLoc d ↦[rows (wid L)]{fullShare} sVal m d) ∗ scr d L
            ∗ ∃ W', ⌜∀ p ∈ W', p ∈ W ∨ p.2 = none⌝ ∗ owes (thr d L) O W')) := by
  rw [cc0_sck_eq_skeleton]; unfold cc0_sck_skel
  simp only [Prog.lift, Prog.bind_op, Prog.bind_ret]
  unfold ins scr
  iintro ⟨#Hmw, ⟨Hh, Hi, Hp⟩, ⟨%g, Hs⟩, ⟨⟨%f0, HI⟩, ⟨%f1, HP⟩, HH, ⟨%f3, HO⟩, Hs0, Hs1, Hs2, Hs3⟩, HW⟩
  iapply (wp_copy d L (src := (iV).slice (rS L) (fun _ => rfl)) (dst := sI) (sem := cc0_scoped0.sem) (m (iLoc d)) Finset.univ f0 (by show 0 < S64x16.numel; decide) (Finset.subset_univ _)) $$ [Hi HI Hs0 HW]
  · isplitl [Hi]; · iexact Hi
    isplitl [HI]; · iexact HI
    isplitl [Hs0]; · iexact Hs0
    isplitr; · iexact Hmw
    iexact HW
  iintro ⟨Hi, HI, Hs0, HW⟩
  ihave HI := (Entails.of_eq (show ((sI).view.loc (thr d L) ↦{fullShare} (sI).view.write (Elt F) f0 (((iV).slice (rS L) (fun _ => rfl)).view.read (Elt F) (m (iLoc d))) Finset.univ : sProp 𝕄)
      = pI d L (iB m d L) by rw [View.write_whole_univ]; rfl)) $$ HI
  iapply (wp_copy d L (src := (pV).slice (rS L) (fun _ => rfl)) (dst := sP) (sem := cc0_scoped1.sem) (m (pLoc d)) Finset.univ f1 (by show 0 < S64x16.numel; decide) (Finset.subset_univ _)) $$ [Hp HP Hs1 HW]
  · isplitl [Hp]; · iexact Hp
    isplitl [HP]; · iexact HP
    isplitl [Hs1]; · iexact Hs1
    isplitr; · iexact Hmw
    iexact HW
  iintro ⟨Hp, HP, Hs1, HW⟩
  ihave HP := (Entails.of_eq (show ((sP).view.loc (thr d L) ↦{fullShare} (sP).view.write (Elt F) f1 (((pV).slice (rS L) (fun _ => rfl)).view.read (Elt F) (m (pLoc d))) Finset.univ : sProp 𝕄)
      = pP d L (pB m d L) by rw [View.write_whole_univ]; rfl)) $$ HP
  ihave H1 := (show pO d L f3 ⊢ (inv1 d L 0 : sProp 𝕄) by
    unfold inv1
    iintro HO
    iexists f3; isplitr
    · ipureintro; exact fun j h => absurd h (Nat.not_lt_zero _)
    · iexact HO) $$ HO
  iapply (Scf.wp_for_bind _ _ _ _ _ _ k0_t1_ok _ _ (fun n _ => inv1 d L n) (clear d L)) $$ H1
  iintro %_ H1
  ihave HO := (show (inv1 d L k0_t1_loop.trips : sProp 𝕄) ⊢ pO d L (fun _ => zro) by
    unfold inv1
    iintro ⟨%f, %hf, HO⟩
    rw [show f = (fun _ => zro) from funext fun j => (hf j (by
      have j0 : (j 0).val < 8 := (j 0).isLt
      have j1 : (j 1).val < 4096 := (j 1).isLt
      rw [t1_trips]; omega))]
    iexact HO) $$ H1
  iapply (Scf.wp_for_bind _ _ _ _ _ _ k0_t2_ok _ _ (fun n _ => inv2 m d L O W n) (trip m d L O W hI)) $$ [Hh HI HP HH HO Hs Hs2 Hs3 HW]
  · unfold inv2
    isplitr; · iexact Hmw
    isplitl [Hh]; · iexact Hh
    isplitl [HI]; · iexact HI
    isplitl [HP]; · iexact HP
    isplitl [HH]; · iexact HH
    isplitl [HO]; · iexact HO
    isplitl [Hs]
    · iexists g; isplitr
      · ipureintro; intro j hj h; have := mem_rows.mp hj; exfalso; omega
      · iexact Hs
    isplitl [Hs2]; · iexact Hs2
    isplitl [Hs3]; · iexact Hs3
    iexists _; isplitr; swap
    · iexact HW
    · ipureintro; exact waits_ins (waits_ins fun p hp => .inl hp)
  iintro %_ H2
  unfold inv2
  icases H2 with ⟨-, Hh, HI, HP, HH, HO, ⟨%g', %hg, Hs⟩, Hs2, Hs3, HW⟩
  rw [Prog.pure_eq_ret, wp_ret]; imodintro
  isplitl [Hh Hi Hp]
  · isplitl [Hh]; · iexact Hh
    isplitl [Hi]; · iexact Hi
    iexact Hp
  isplitl [Hs]
  · rw [pointsTo_congr (f := sVal m d) (g := g') fun j hj => (hg j hj (by have := mem_rows.mp hj; rw [show Scf.trips k0_t2_loop.lb k0_t2_loop.ub k0_t2_loop.st = 8 from t2_trips]; omega)).symm]
    iexact Hs
  isplitr [HW]
  · isplitl [HI]; · iexists _; iexact HI
    isplitl [HP]; · iexists _; iexact HP
    isplitl [HH]; · iexact HH
    isplitl [HO]; · iexists _; iexact HO
    isplitl [Hs0]; · iexact Hs0
    isplitl [Hs1]; · iexact Hs1
    isplitl [Hs2]; · iexact Hs2
    iexact Hs3
  iexact HW

end Cert.KernelIdeal.Sck

end
-- ==== Proof.IdealSckTile.lean ====
/- What the call takes and brings back: each tile a share of the arrays it reads and the rows it writes. -/
module

public import Idealize.ShloMosaic.Lib.SparseCore.Launch
public import proofs.«01_k».proof.Proof.IdealSckBody

@[expose] public section

set_option synthInstance.maxSize 4096

noncomputable section

namespace Cert.KernelIdeal.Sck

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx Pay tileRest ownBufs ownSems0 ownCells ownRefs mem_ownCells mem_ownRefs)

variable {F : FTy → Type} [FloatOps F]

local notation "𝕄" => MT nD τ sig (HIx 1) (Elt F) ℕ UU ℕ

variable (m : (ℓ : Loc nD τ sig) → Buf (Elt F) ℓ) (d : Dev nD)

/-- The tile at SparseCore `c` and subcore `i`. -/
def tileAt (c : Fin (grid0.bound 0)) (i : Fin (grid0.bound 1)) : grid0.Coords :=
  fun | 0 => c | 1 => i | ⟨_ + 2, h⟩ => absurd h (Nat.not_lt.2 (Nat.le_add_left _ _))

/-- What a tile is handed. -/
def goR (L : grid0.Coords) : sProp 𝕄 := iprop(ins m d L ∗ ∃ g, sLoc d ↦[rows (wid L)]{fullShare} g)
/-- What a tile brings back. -/
def tdR (L : grid0.Coords) : sProp 𝕄 := iprop(ins m d L ∗ (sLoc d ↦[rows (wid L)]{fullShare} sVal m d))

instance goR_storable (L : grid0.Coords) : BI.Storable (upEmb : UEmb _ 𝕄) (goR m d L) := by unfold goR ins; infer_instance
instance tdR_storable (L : grid0.Coords) : BI.Storable (upEmb : UEmb _ 𝕄) (tdR m d L) := by unfold tdR ins; infer_instance

/-- The call's hand-over: everything is dealt to the tiles. -/
def P : (K (F := F)).Pay (nD := nD) (Val := Elt F) (Name := ℕ) (U := UU) where
  st := fun q d c => match q with | 0 => bigSep Finset.univ fun i : Fin ((K (F := F)).nSub 0) => goR m d (tileAt c i)
  dn := fun q d c => match q with | 0 => bigSep Finset.univ fun i : Fin ((K (F := F)).nSub 0) => tdR m d (tileAt c i)
  go := fun q d c i => match q with | 0 => goR m d (tileAt c i)
  td := fun q d c i => match q with | 0 => tdR m d (tileAt c i)
  x := fun _ _ => iprop(emp)

instance P_storable : (P m).IsStorable where
  st q d c := match q with
    | 0 => haveI := fun i : Fin ((K (F := F)).nSub 0) => goR_storable m d (tileAt c i)
      Storable.bigSep upEmb Finset.univ fun i : Fin ((K (F := F)).nSub 0) => goR m d (tileAt c i)
  dn q d c := match q with
    | 0 => haveI := fun i : Fin ((K (F := F)).nSub 0) => tdR_storable m d (tileAt c i)
      Storable.bigSep upEmb Finset.univ fun i : Fin ((K (F := F)).nSub 0) => tdR m d (tileAt c i)
  go q d c i := match q with | 0 => goR_storable m d _
  td q d c i := match q with | 0 => tdR_storable m d _

theorem vecSplit : (K (F := F)).VecSplit' (P m) 0 := by
  intro d c
  show (bigSep Finset.univ fun i : Fin ((K (F := F)).nSub 0) => goR m d (tileAt c i)) ⊢ |={Set.univ}=> iprop(
    (bigSep Finset.univ fun i : Fin ((K (F := F)).nSub 0) => goR m d (tileAt c i))
      ∗ ((bigSep Finset.univ fun i : Fin ((K (F := F)).nSub 0) => tdR m d (tileAt c i)) -∗ bigSep Finset.univ fun i : Fin ((K (F := F)).nSub 0) => tdR m d (tileAt c i)))
  iintro H; imodintro
  isplitl [H]; · iexact H
  iintro H; iexact H

section Own
variable (L : grid0.Coords)

/-- A tile's scratch arrays among the buffers that are its own. -/
def scrRefs : Finset (DevRef τ sig) :=
  ({cc0_scratch0, cc0_scratch1, cc0_scratch2, cc0_scratch3} : Finset (Ref sig .scVector)).map ⟨(Proc.scVector (cV L) (jV L)).devRef, Proc.devRef_injective _⟩
theorem refs_fresh : (cc0_scratch0 : Ref sig .scVector) ∉ ({cc0_scratch1, cc0_scratch2, cc0_scratch3} : Finset (Ref sig .scVector))
    ∧ (cc0_scratch1 : Ref sig .scVector) ∉ ({cc0_scratch2, cc0_scratch3} : Finset (Ref sig .scVector))
    ∧ (cc0_scratch2 : Ref sig .scVector) ∉ ({cc0_scratch3} : Finset (Ref sig .scVector)) := by decide

theorem cells_scoped : ∀ s ∈ ({.dma cc0_scoped0.sem, .dma cc0_scoped1.sem, .dma cc0_scoped2.sem, .dma cc0_scoped3.sem} : Finset (SemLoc sig)),
    s.isScoped .scVector = true := by decide

/-- A tile's copy semaphores among the cells that are its own. -/
def scrCells : Finset (GSem nD τ sig) :=
  ({.dma cc0_scoped0.sem, .dma cc0_scoped1.sem, .dma cc0_scoped2.sem, .dma cc0_scoped3.sem} : Finset (SemLoc sig)).map ⟨fun s => (thr d L, s), fun _ _ e => (Prod.mk.inj e).2⟩

omit [FloatOps F] in
theorem own_bufs :
    (ownBufs (thr d L) : sProp 𝕄)
      = iprop(((∃ f, pI d L f) ∗ (∃ f, pP d L f) ∗ (∃ f, pH d L f) ∗ (∃ f, pO d L f))
          ∗ bigSep (ownRefs (τ := τ) (.scVector (cV L) (jV L)) \ scrRefs L) fun b => iprop(∃ f, ((d, b) : Loc nD τ sig) ↦{fullShare} f)) := by
  unfold SparseCore.Cfg.ownBufs
  have hsub : scrRefs L ⊆ ownRefs (τ := τ) (.scVector (cV L) (jV L)) := by
    intro b hb
    obtain ⟨r, hr, rfl⟩ := Finset.mem_map.mp hb
    simp only [Finset.mem_insert, Finset.mem_singleton] at hr
    rcases hr with rfl | rfl | rfl | rfl <;> exact SparseCore.Cfg.mem_ownRefs_of_owner rfl
  refine (congrArg (fun s => bigSep s _) (Finset.union_sdiff_of_subset hsub).symm).trans ?_
  rw [bigSep_union Finset.disjoint_sdiff]
  congr 1
  unfold scrRefs
  rw [bigSep_map, SparseCore.bigSep_insert' refs_fresh.1, SparseCore.bigSep_insert' refs_fresh.2.1, SparseCore.bigSep_insert' refs_fresh.2.2, bigSep_singleton]
  rfl

omit [FloatOps F] in
theorem own_sems :
    (ownSems0 (thr d L) : sProp 𝕄)
      = iprop((semVal (thr d L, .dma cc0_scoped0.sem) 0 ∗ semVal (thr d L, .dma cc0_scoped1.sem) 0
            ∗ semVal (thr d L, .dma cc0_scoped2.sem) 0 ∗ semVal (thr d L, .dma cc0_scoped3.sem) 0)
          ∗ bigSep (ownCells (thr d L) \ scrCells d L) fun g => semVal g 0) := by
  unfold SparseCore.Cfg.ownSems0
  have hsub : scrCells d L ⊆ ownCells (thr d L) := by
    intro g hg
    obtain ⟨s, hs, rfl⟩ := Finset.mem_map.mp hg
    refine mem_ownCells.mpr ⟨rfl, ?_⟩
    exact cells_scoped s hs
  refine (congrArg (fun s => bigSep s _) (Finset.union_sdiff_of_subset hsub).symm).trans ?_
  rw [bigSep_union Finset.disjoint_sdiff]
  congr 1
  unfold scrCells
  rw [bigSep_map, SparseCore.bigSep_insert' (by decide), SparseCore.bigSep_insert' (by decide), SparseCore.bigSep_insert' (by decide), bigSep_singleton]
  rfl

theorem tile_body (hF : (K (F := F)).Facts) (O : CellTallies nD τ sig (HIx 1)) (W : Waits sig (HIx 1)) (hO : ∀ g, O g none = 0)
    (hI : ∀ j, (m (iLoc d) j : BitVec 32).toNat < 4096) :
    iprop(levAts (K (F := F)).L (K (F := F)).lev ∗ emp ∗ goR m d L ∗ scopedBufs (thr d L) ∗ scopedSems0 (thr d L) ∗ owes (thr d L) O W)
      ⊢ wp frame (wpE (defs₀ (F := F)) 𝒱₀ (thr d L) none) Set.univ
          (cc0_sck L hV (Memref.isWhole_whole _) iV (Memref.isWhole_whole _) pV (Memref.isWhole_whole _) sV (Memref.isWhole_whole _)
            sI (Memref.isWhole_whole _) sP (Memref.isWhole_whole _) sH (Memref.isWhole_whole _) sO (Memref.isWhole_whole _)
            cc0_scoped0 cc0_scoped1 cc0_scoped2 cc0_scoped3)
          (fun _ => iprop(tdR m d L ∗ scopedBufs (thr d L) ∗ scopedSems0 (thr d L)
            ∗ ∃ W', ⌜∀ p ∈ W', p ∈ W ∨ p.2 = none ∨ p.2 = some 0⌝ ∗ owes (thr d L) O W')) := by
  rw [(K (F := F)).scopedBufs_V hF d (cV L) (jV L), SparseCore.Cfg.scopedSems0_V (Val := Elt F) d (cV L) (jV L), own_sems, own_bufs]
  unfold goR
  iintro ⟨Hlv, -, ⟨Hin, Hs⟩, ⟨⟨HI, HP, HH, HO⟩, Hrest⟩, ⟨⟨H0, H1, H2, H3⟩, Hsems⟩, HW⟩
  iapply (wp_wand frame) $$ [Hlv Hin Hs HI HP HH HO H0 H1 H2 H3 HW]
  · iapply (tile_run m d L O W hI)
    isplitl [Hlv]; · iapply ((K (F := F)).mayWaits_none (thr := thr d L) hO); iexact Hlv
    isplitl [Hin]; · iexact Hin
    isplitl [Hs]; · iexact Hs
    isplitr [HW]
    · unfold scr
      isplitl [HI]; · iexact HI
      isplitl [HP]; · iexact HP
      isplitl [HH]; · iexact HH
      isplitl [HO]; · iexact HO
      isplitl [H0]; · iexact H0
      isplitl [H1]; · iexact H1
      isplitl [H2]; · iexact H2
      iexact H3
    · iexact HW
  · unfold scr
    iintro %_ ⟨Hin, Hs, ⟨HI, HP, HH, HO, H0, H1, H2, H3⟩, %W', %hW', HW⟩
    isplitl [Hin Hs]
    · unfold tdR
      isplitl [Hin]; · iexact Hin
      iexact Hs
    isplitl [HI HP HH HO Hrest]
    · isplitr [Hrest]
      · isplitl [HI]; · iexact HI
        isplitl [HP]; · iexact HP
        isplitl [HH]; · iexact HH
        iexact HO
      · iexact Hrest
    isplitl [H0 H1 H2 H3 Hsems]
    · isplitr [Hsems]
      · isplitl [H0]; · iexact H0
        isplitl [H1]; · iexact H1
        isplitl [H2]; · iexact H2
        iexact H3
      · iexact Hsems
    iexists W'; isplitr
    · ipureintro; exact fun p hp => (hW' p hp).imp_right Or.inl
    · iexact HW

end Own

theorem defs_tile (c : Fin τ.nSC) (s : Fin τ.nSub) :
    defs₀ (F := F) (.scVector c s) 0 ()
      = SparseCore.onTile hcore0 hsub0 (fun c s => cc0_sck (tileAt c s)
          hV (Memref.isWhole_whole _) iV (Memref.isWhole_whole _) pV (Memref.isWhole_whole _) sV (Memref.isWhole_whole _)
            sI (Memref.isWhole_whole _) sP (Memref.isWhole_whole _) sH (Memref.isWhole_whole _) sO (Memref.isWhole_whole _)
            cc0_scoped0 cc0_scoped1 cc0_scoped2 cc0_scoped3) ⟨⟩ c s := rfl

set_option maxRecDepth 4096 in
theorem tileObl (hF : (K (F := F)).Facts) (hI : ∀ (d : Dev nD) j, (m (iLoc d) j : BitVec 32).toNat < 4096) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs_tile]; simp only [SparseCore.onTile, hc, and_self, ↓reduceDIte]
  exact tile_body m d (tileAt ⟨_, hc.1⟩ ⟨_, hc.2⟩) hF O W hO (hI d)

/-! Dealing the whole arrays to the tiles. -/

omit [FloatOps F] in
/-- A conjunction over the tiles' numbers, tile by tile. -/
theorem over_tiles (Φ : Fin 32 → sProp 𝕄) :
    (bigSep Finset.univ Φ) = bigSep Finset.univ fun c : Fin ((K (F := F)).nCore 0) => bigSep Finset.univ fun i : Fin ((K (F := F)).nSub 0) => Φ ⟨wid (tileAt c i), wid_lt _⟩ := by
  rw [bigSep_univ_equiv (finProdFinEquiv : Fin 16 × Fin 2 ≃ Fin (16 * 2)) Φ, bigSep_univ_prod, bigSep_univ_comm]
  show (bigSep Finset.univ fun c : Fin 2 => bigSep Finset.univ fun i : Fin 16 => Φ (finProdFinEquiv (i, c)))
    = bigSep Finset.univ fun c : Fin 2 => bigSep Finset.univ fun i : Fin 16 => Φ ⟨wid (tileAt c i), wid_lt _⟩
  refine bigSep_congr fun c _ => bigSep_congr fun i _ => congrArg Φ (Fin.ext ?_)
  show c.val + 2 * i.val = 2 * i.val + c.val
  omega

theorem rows_disjoint : ∀ i ∈ (Finset.univ : Finset (Fin 32)), ∀ j ∈ (Finset.univ : Finset (Fin 32)), i ≠ j → Disjoint (rows i.val) (rows j.val) :=
  fun i _ j _ h => Finset.disjoint_left.mpr fun x hi hj => h (Fin.ext ((mem_rows.mp hi).symm.trans (mem_rows.mp hj)))

theorem rows_cover : (Finset.univ : Finset (Fin 32)).biUnion (fun w => rows w.val) = Finset.univ := by
  refine Finset.eq_univ_iff_forall.mpr fun j => Finset.mem_biUnion.mpr ?_
  have h : (j 0).val < 2048 := (j 0).isLt
  exact ⟨⟨(j 0).val / 64, by omega⟩, Finset.mem_univ _, mem_rows.mpr rfl⟩

omit [FloatOps F] in
theorem s_rows (f : Buf (Elt F) (sLoc d)) : (sLoc d ↦{fullShare} f : sProp 𝕄) = bigSep Finset.univ fun w : Fin 32 => sLoc d ↦[rows w.val]{fullShare} f := by
  rw [← pointsTo_biUnion Finset.univ (ℓ := sLoc d) (fun w : Fin 32 => rows w.val) rows_disjoint, rows_cover]

omit [FloatOps F] in
theorem dealt (ℓ : Loc nD τ sig) (f : Buf (Elt F) ℓ) : (ℓ ↦{fullShare} f : sProp 𝕄) = bigSep Finset.univ fun w : Fin 32 => ℓ ↦{shr w} f :=
  Transfers.pointsTo_deal Finset.univ ⟨0, Finset.mem_univ _⟩ fullShare

theorem deal_out_at (g : Buf (Elt F) (sLoc d)) (L : grid0.Coords) :
    iprop((hLoc d ↦{shr ⟨wid L, wid_lt L⟩} m (hLoc d)) ∗ (iLoc d ↦{shr ⟨wid L, wid_lt L⟩} m (iLoc d)) ∗ (pLoc d ↦{shr ⟨wid L, wid_lt L⟩} m (pLoc d))
      ∗ (sLoc d ↦[rows (wid L)]{fullShare} g)) ⊢ goR m d L := by
  unfold goR ins
  iintro ⟨Hh, Hi, Hp, Hs⟩
  isplitl [Hh Hi Hp]
  · isplitl [Hh]; · iexact Hh
    isplitl [Hi]; · iexact Hi
    iexact Hp
  · iexists g; iexact Hs

theorem deal_back_at (L : grid0.Coords) :
    tdR m d L ⊢ iprop((hLoc d ↦{shr ⟨wid L, wid_lt L⟩} m (hLoc d)) ∗ (iLoc d ↦{shr ⟨wid L, wid_lt L⟩} m (iLoc d)) ∗ (pLoc d ↦{shr ⟨wid L, wid_lt L⟩} m (pLoc d))
      ∗ (sLoc d ↦[rows (wid L)]{fullShare} sVal m d)) := by
  unfold tdR ins
  iintro ⟨⟨Hh, Hi, Hp⟩, Hs⟩
  isplitl [Hh]; · iexact Hh
  isplitl [Hi]; · iexact Hi
  isplitl [Hp]; · iexact Hp
  iexact Hs

theorem deal_out (g : Buf (Elt F) (sLoc d)) :
    iprop((hLoc d ↦{fullShare} m (hLoc d)) ∗ (iLoc d ↦{fullShare} m (iLoc d)) ∗ (pLoc d ↦{fullShare} m (pLoc d)) ∗ (sLoc d ↦{fullShare} g))
      ⊢ (bigSep Finset.univ fun c : Fin ((K (F := F)).nCore 0) => (P m).st 0 d c : sProp 𝕄) := by
  show _ ⊢ (bigSep Finset.univ fun c : Fin ((K (F := F)).nCore 0) => bigSep Finset.univ fun i : Fin ((K (F := F)).nSub 0) => goR m d (tileAt c i))
  rw [dealt (hLoc d), dealt (iLoc d), dealt (pLoc d), s_rows, over_tiles, over_tiles, over_tiles, over_tiles]
  simp only [← bigSep_sep']
  exact bigSep_mono fun c _ => bigSep_mono fun i _ => deal_out_at m d g (tileAt c i)

theorem deal_back :
    (bigSep Finset.univ fun c : Fin ((K (F := F)).nCore 0) => (P m).dn 0 d c : sProp 𝕄)
      ⊢ iprop((hLoc d ↦{fullShare} m (hLoc d)) ∗ (iLoc d ↦{fullShare} m (iLoc d)) ∗ (pLoc d ↦{fullShare} m (pLoc d)) ∗ (sLoc d ↦{fullShare} sVal m d)) := by
  show (bigSep Finset.univ fun c : Fin ((K (F := F)).nCore 0) => bigSep Finset.univ fun i : Fin ((K (F := F)).nSub 0) => tdR m d (tileAt c i)) ⊢ _
  rw [dealt (hLoc d), dealt (iLoc d), dealt (pLoc d), s_rows, over_tiles, over_tiles, over_tiles, over_tiles]
  simp only [← bigSep_sep']
  exact bigSep_mono fun c _ => bigSep_mono fun i _ => deal_back_at m d (tileAt c i)

end Cert.KernelIdeal.Sck

end
-- ==== Proof.IdealOutBody.lean ====
/- The projection call: its tiles' contents, and its body at a point of its grid. -/
module

public import Idealize.ShloMosaic.Lib.Pipeline.RegionArraysS
public import Idealize.ShloMosaic.Lib.Pipeline.ValueKit
public import proofs.«01_k».proof.Proof.Gen.KernelIdeal.Launch
public import proofs.«01_k».proof.Proof.Gen.KernelIdeal.Points
public import proofs.«01_k».proof.Proof.IdealSckTile

@[expose] public section

set_option synthInstance.maxSize 4096

noncomputable section

namespace Cert.KernelIdeal.Sck

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.SparseCore.Cfg (HIx)

variable {F : FTy → Type} [FloatOps F]

local notation "𝕄" => MT nD τ sig (HIx 1) (Elt F) ℕ UU ℕ

section Access
variable {s : Shape} {e : EltTy} (d : Dev nD) (M : Memref sig .tc .vmem s e) {α : Type}

theorem emb_at_zero {off : Fin s.rank → ℕ} (h0 : off = fun _ => 0) {inb : ∀ a, off a + s.size a ≤ s.size a} (y : s.Idx) :
    (Rect.unit (s := s) off s.size inb).emb y = y := by
  subst h0; funext a; apply Fin.ext; rw [Rect.emb_apply]; show 0 + 1 * (y a).val = (y a).val; omega

/-- Loading a whole tile gives what it holds. -/
theorem load_tile (Φ : α → sProp 𝕄) {off : Fin s.rank → ℕ} (h0 : off = fun _ => 0) {inb : ∀ a, off a + s.size a ≤ s.size a}
    {hl : M.view.LoadsAt (Rect.unit (s := s) off s.size inb).toLoadRect}
    {k : (s.Idx → Elt F e) → Prog (TpuEff nD τ sig (Elt F) Λ₀ .tc) α} (q : PosShare TreeShare) (x : s.Idx → Elt F e) :
    (owns (d : Thread nD τ) M q x : sProp 𝕄)
      ⊢ iprop(((owns (d : Thread nD τ) M q x : sProp 𝕄) -∗ wp frame (wpE (defs₀ (F := F)) 𝒱₀ (d : Thread nD τ) none) Set.univ (k x) Φ)
        -∗ wp frame (wpE (defs₀ (F := F)) 𝒱₀ (d : Thread nD τ) none) Set.univ (.op (.load M (Rect.unit (s := s) off s.size inb).toLoadRect hl) k) Φ) := by
  unfold owns
  iintro ⟨%f, %hf, H⟩ Hk
  have h := wp_load (Γ := PendingWaitsCtx.empty) (defs := defs₀ (F := F)) (Ix := HIx 1) (Name := ℕ) (U := UU) (Lvl := ℕ) (Q := Φ) (hl := hl) (q := q) (f := f) 𝒱₀ (d : Thread nD τ) none Set.univ (m := M)
    (r := (Rect.unit (s := s) off s.size inb).toLoadRect) (S := M.view.set) (k := k) (M.view.setOn_subset_set _)
  have e : M.view.readAt (Elt F) (Rect.unit (s := s) off s.size inb).toLoadRect f = x :=
    funext fun y => (congrArg (M.view.read (Elt F) f) (emb_at_zero h0 y)).trans (congrFun hf y)
  iapply h $$ H
  rw [e]
  iintro H
  iapply Hk
  iexists f
  isplitr; · ipureintro; exact hf
  iexact H

/-- Storing a whole tile leaves what is stored. -/
theorem store_tile (Φ : α → sProp 𝕄) {off : Fin s.rank → ℕ} (h0 : off = fun _ => 0) {inb : ∀ a, off a + s.size a ≤ s.size a}
    {w : s.Idx → Elt F e} {hx : (M.access (Rect.unit (s := s) off s.size inb)).Stores Finset.univ}
    {hm : (Finset.univ : Finset (Rect.unit (s := s) off s.size inb).shape.Idx) = Finset.univ ∨ ∀ a, (Rect.unit (s := s) off s.size inb).stride a = 1}
    {k : PUnit → Prog (TpuEff nD τ sig (Elt F) Λ₀ .tc) α} (x : s.Idx → Elt F e) :
    (owns (d : Thread nD τ) M fullShare x : sProp 𝕄)
      ⊢ iprop(((owns (d : Thread nD τ) M fullShare w : sProp 𝕄) -∗ wp frame (wpE (defs₀ (F := F)) 𝒱₀ (d : Thread nD τ) none) Set.univ (k ⟨⟩) Φ)
        -∗ wp frame (wpE (defs₀ (F := F)) 𝒱₀ (d : Thread nD τ) none) Set.univ (.op (.store M (Rect.unit (s := s) off s.size inb) w Finset.univ hx hm) k) Φ) := by
  unfold owns
  iintro ⟨%f, %hf, H⟩ Hk
  have h := wp_store (Γ := PendingWaitsCtx.empty) (defs := defs₀ (F := F)) (Ix := HIx 1) (Name := ℕ) (U := UU) (Lvl := ℕ) (Q := Φ) (hx := hx) (hm := hm) (w := w) (f := f) 𝒱₀ (d : Thread nD τ) none Set.univ (m := M)
    (r := Rect.unit (s := s) off s.size inb) (S := M.view.set) (k := k) (View.setOn_slice_subset_set _ _ _)
  have e : M.view.read (Elt F) ((M.access (Rect.unit (s := s) off s.size inb)).write (Elt F) f w Finset.univ) = w := by
    have h1 := View.read_write_univ (v := M.access (Rect.unit (s := s) off s.size inb)) (Val := Elt F) f w
    refine funext fun y => ?_
    refine Eq.trans ?_ (congrFun h1 y)
    exact (congrArg (M.view.read (Elt F) _) (emb_at_zero h0 y)).symm
  iapply h $$ H
  iintro H
  iapply Hk
  iexists _
  isplitr; swap
  · iexact H
  ipureintro; exact e

end Access

variable (X : S2048x4096.Idx → F .f32) (Y : S4096x1024.Idx → F .bf16) (Z : S2048x1024.Idx → F .f32)

/-- The rows of `s` at a point. -/
def sBlk (t : Fin cfg1.N) : S256x4096.Idx → F .f32 := (win1_0.blk t).view.read (Elt F) X
/-- The projection's matrix, at every point the whole of it. -/
def yBlk (t : Fin cfg1.N) : S4096x1024.Idx → F .bf16 := (win1_1.blk t).view.read (Elt F) Y

/-- The call's data: what its tiles hold after the body at each point. -/
def dat (d : Dev nD) : Dat τ (Elt F) (HIx 1) ℕ UU ℕ cfg1 d where
  A w := match w with
    | ⟨0, _⟩ => X
    | ⟨1, _⟩ => Y
    | ⟨2, _⟩ => Z
  after w t := match w with
    | ⟨0, _⟩ => sBlk X t
    | ⟨1, _⟩ => yBlk Y t
    | ⟨2, _⟩ => k1_pay1 (sBlk X t) (yBlk Y t)
  Φ _ := iprop(emp)
  q _ := fullShare
  owed _ := 0

theorem before_s (d : Dev nD) (t : Fin cfg1.N) (x) : (dat X Y Z d).before (0 : Fin 3) t x = sBlk X t :=
  (dat X Y Z d).before_in_eq_fetched (0 : Fin 3) rfl (fun _ => rfl) (fun _ _ _ => rfl) (fun _ => rfl) t x
theorem before_y (d : Dev nD) (t : Fin cfg1.N) (x) : (dat X Y Z d).before (1 : Fin 3) t x = yBlk Y t :=
  (dat X Y Z d).before_in_eq_fetched (1 : Fin 3) rfl (fun _ => rfl) (fun _ _ _ => rfl) (fun _ => rfl) t x

theorem out_body (d : Dev nD) (i : grid1.Coords) (a1 : Memref sig .tc .vmem S256x4096 .f32) (h1 : a1.IsWhole)
    (a2 : Memref sig .tc .vmem S4096x1024 .bf16) (h2 : a2.IsWhole) (a3 : Memref sig .tc .vmem S256x1024 .f32) (h3 : a3.IsWhole)
    (x : S256x4096.Idx → F .f32) (y : S4096x1024.Idx → F .bf16) (z : S256x1024.Idx → F .f32) :
    iprop((owns (d : Thread nD τ) a1 fullShare x : sProp 𝕄) ∗ (owns (d : Thread nD τ) a2 fullShare y : sProp 𝕄) ∗ (owns (d : Thread nD τ) a3 fullShare z : sProp 𝕄))
      ⊢ wp frame (wpE (defs₀ (F := F)) 𝒱₀ (d : Thread nD τ) none) Set.univ (cc1__out_body i a1 h1 a2 h2 a3 h3) fun _ =>
        iprop((owns (d : Thread nD τ) a1 fullShare x : sProp 𝕄) ∗ (owns (d : Thread nD τ) a2 fullShare y : sProp 𝕄) ∗ (owns (d : Thread nD τ) a3 fullShare (k1_pay1 x y) : sProp 𝕄)) := by
  have hz : (![0, 0] : Fin 2 → ℕ) = fun _ => 0 := funext fun a => by fin_cases a <;> rfl
  rw [cc1__out_body_eq_skeleton]; unfold cc1__out_body_skel
  simp only [Prog.lift, Prog.bind_op, Prog.bind_ret]
  iintro ⟨H1, H2, H3⟩
  iapply (load_tile d a1 _ hz fullShare x) $$ H1
  iintro H1
  iapply (load_tile d a2 _ hz fullShare y) $$ H2
  iintro H2
  iapply (load_tile d a3 _ hz fullShare z) $$ H3
  iintro H3
  iapply (store_tile d a3 _ hz z) $$ H3
  iintro H3
  rw [Prog.pure_eq_ret, wp_ret]
  imodintro
  isplitl [H1]; · iexact H1
  isplitl [H2]; · iexact H2
  iexact H3

theorem body_obligation (d : Dev nD) : BodyObligationLoose (dat X Y Z d) (defs₀ (F := F)) 𝒱₀ (none : HIx 1) Set.univ := fun t => by
  rw [bigSep_W1, bigSep_W1]
  simp only
  rw [show (dat X Y Z d).Φ t.succ = (dat X Y Z d).Φ t.castSucc from rfl,
    show (dat X Y Z d).owesAt (none : HIx 1) t.succ = (dat X Y Z d).owesAt none t.castSucc from rfl]
  iintro ⟨HΦ, Ho, ⟨%d0, H0⟩, ⟨%d1, H1⟩, ⟨%d2, H2⟩⟩
  rw [before_s X Y Z d t d0, before_y X Y Z d t d1]
  have hb := out_body d (grid1.coords t) (win1_0.stage (cfg1.slots t 0)) (hstage1_0 ((cfg1.slots t 0).cast nbuf1_0))
    (win1_1.stage (cfg1.slots t 1)) (hstage1_1 ((cfg1.slots t 1).cast nbuf1_1)) (win1_2.stage (cfg1.slots t 2)) (hstage1_2 ((cfg1.slots t 2).cast nbuf1_2))
    (sBlk X t) (yBlk Y t) ((dat X Y Z d).before (2 : Fin 3) t d2)
  iapply wp_wand $$ [H0 H1 H2]
  · iapply hb
    isplitl [H0]; · iexact H0
    isplitl [H1]; · iexact H1
    iexact H2
  iintro %_ ⟨H0, H1, H2⟩
  isplitl [HΦ]; · iexact HΦ
  isplitl [Ho]; · iexact Ho
  isplitl [H0]; · iexact H0
  isplitl [H1]; · iexact H1
  iexact H2

end Cert.KernelIdeal.Sck

end
-- ==== Proof.IdealOutRegion.lean ====
/- The projection call as a region of the run: what it is entered with and what it leaves. -/
module

public import Idealize.ShloMosaic.Lib.Pipeline.ValueKit
public import proofs.«01_k».proof.Proof.IdealOutBody

@[expose] public section

set_option synthInstance.maxSize 4096

noncomputable section

namespace Cert.KernelIdeal.Sck

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.SparseCore.Cfg (HIx)

variable {F : FTy → Type} [FloatOps F]

local notation "𝕄" => MT nD τ sig (HIx 1) (Elt F) ℕ UU ℕ

/-! ## What the call leaves -/

section Value
variable (X : S2048x4096.Idx → F .f32) (Y : S4096x1024.Idx → F .bf16) (Z : S2048x1024.Idx → F .f32)

/-- The 256 rows of an array that row `r` is among. -/
def rowsOf (r : Fin 2048) : S256x4096.Idx → F .f32 := fun i =>
  X (ix2 (n := 2048) ⟨r.val / 256 * 256 + (i 0).val, by have := r.isLt; have : (i 0).val < 256 := (i 0).isLt; omega⟩ (i 1))

/-- What the call leaves in its result. -/
def oVal : S2048x1024.Idx → F .f32 := fun j =>
  k1_pay1 (rowsOf X (j 0)) Y (ix2 (n := 256) ⟨(j 0).val % 256, Nat.mod_lt _ (by decide)⟩ (j 1))

theorem tr0 (t : Fin cfg1.N) : cc1_transform_0 (grid1.coords t) 0 = t.val := by
  rcases fin_N1 t with rfl | rfl | rfl | rfl | rfl | rfl | rfl | rfl <;> decide
theorem tr2 (t : Fin cfg1.N) : cc1_transform_2 (grid1.coords t) 0 = t.val := by
  rcases fin_N1 t with rfl | rfl | rfl | rfl | rfl | rfl | rfl | rfl <;> decide

theorem sBlk_rows (t : Fin cfg1.N) (r : Fin 2048) (h : r.val / 256 = t.val) : sBlk X t = rowsOf X r := by
  funext i
  unfold sBlk rowsOf
  refine congrArg X (funext fun a => ?_)
  apply Fin.ext
  refine (Window.rect_emb_val win1_0 t i a).trans ?_
  fin_cases a
  · show (cc1_transform_0 (grid1.coords t) 0) * 256 + _ = r.val / 256 * 256 + (i 0).val
    rw [h, tr0]
    rfl
  · show 0 * 4096 + (i 1).val = (i 1).val
    omega

theorem yBlk_all (t : Fin cfg1.N) : yBlk Y t = Y := by
  funext i
  unfold yBlk
  refine congrArg Y (funext fun a => ?_)
  apply Fin.ext
  refine (Window.rect_emb_val win1_1 t i a).trans ?_
  fin_cases a
  · show 0 * 4096 + (i 0).val = (i 0).val
    omega
  · show 0 * 1024 + (i 1).val = (i 1).val
    omega

theorem arr_out (d : Dev nD) : (dat X Y Z d).arrAt (2 : Fin 3) cfg1.N = oVal X Y := by
  refine (dat X Y Z d).arrAt_eq_of_covers (2 : Fin 3) (oVal X Y) (by decide +kernel) fun t hf y => ?_
  have e0 : ((((cfg1.win (2 : Fin 3)).blk t).view.emb y : S2048x1024.Idx) 0).val = t.val * 256 + (y 0).val := by
    refine (Window.rect_emb_val win1_2 t y (0 : Fin 2)).trans ?_
    show (cc1_transform_2 (grid1.coords t) 0) * 256 + _ = _
    rw [tr2]
  have e1 : ((((cfg1.win (2 : Fin 3)).blk t).view.emb y : S2048x1024.Idx) 1).val = (y 1).val := by
    refine (Window.rect_emb_val win1_2 t y (1 : Fin 2)).trans ?_
    show 0 * 1024 + _ = _
    omega
  have hy : (y 0).val < 256 := (y 0).isLt
  show k1_pay1 (sBlk X t) (yBlk Y t) y = oVal X Y _
  unfold oVal
  rw [sBlk_rows X t _ (by refine (congrArg (· / 256) e0).trans ?_; show (t.val * 256 + (y 0).val) / 256 = t.val; omega), yBlk_all]
  refine congrArg _ (funext fun a => ?_)
  apply Fin.ext
  fin_cases a
  · refine Eq.trans ?_ (congrArg (· % 256) e0.symm)
    show (y 0).val = (t.val * 256 + (y 0).val) % 256
    omega
  · exact e1.symm

theorem arr_in0 (d : Dev nD) (n : ℕ) : (dat X Y Z d).arrAt (0 : Fin 3) n = X := (dat X Y Z d).arrAt_in (0 : Fin 3) rfl n
theorem arr_in1 (d : Dev nD) (n : ℕ) : (dat X Y Z d).arrAt (1 : Fin 3) n = Y := (dat X Y Z d).arrAt_in (1 : Fin 3) rfl n

end Value

/-! ## The region -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev y' : DevRef τ sig := Proc.devRef .tc (main_v0 : Ref sig .tc)
abbrev s' : DevRef τ sig := Proc.devRef .tc (main_v1 : Ref sig .tc)
abbrev o' : DevRef τ sig := Proc.devRef .tc (main_v2 : Ref sig .tc)

/-- The arrays of `@main`. -/
abbrev SA : Finset (DevRef τ sig) := {a0', a1', a2', a3', y', s', o'}

abbrev adm : (p : Fin 1) → (pcfgs (F := F) p).Adm := fun p => (cfgs p).toPCfg_adm

variable (W : Dev nD → Valuation τ sig (Elt F))

/-- The call's data at the arrays' contents on entry. -/
abbrev pdats (_ : Fin 1) (d : Dev nD) : Dat τ (Elt F) (HIx 1) ℕ UU ℕ cfg1 d := dat (W d s') (W d y') (W d o') d

theorem cut : LevelCut (nD := nD) (τ := τ) (pcfgs (F := F)) adm (none : HIx 1) (K (F := F)).L (K (F := F)).lev 0 (fun _ => 0) (fun _ => 0) where
  hι _ _ _ := Finset.mem_univ _
  hιb _ _ _ := le_refl _
  hD _ _ _ h := absurd h (lt_irrefl _)

def region : RegionSeg (pcfgs (F := F)) adm (pdats W) (none : HIx 1) (defs₀ (F := F)) 𝒱₀ (K (F := F)).L (K (F := F)).lev 0 :=
  RegionSeg.ofHeldIn (pcfgs (F := F)) adm (pdats W) (none : HIx 1) (defs₀ (F := F)) 𝒱₀ (K (F := F)).L (K (F := F)).lev 0 (fun _ => 0) SA
    (fun _ => iprop(emp)) (fun _ => iprop(emp)) (launch1.toP) rfl (fun d => body_obligation _ _ _ d) (fun _ _ => rfl) (fun _ => rfl)
    (fun d w => match w with | ⟨0, _⟩ => rfl | ⟨1, _⟩ => rfl | ⟨2, _⟩ => rfl)
    (fun d => by
      show iprop(scopedRest spec1 d ∗ emp) ⊢ (BI.emp : sProp 𝕄)
      rw [scopedRest1_eq]; iintro _; iempintro)
    (fun d => by
      show (BI.emp : sProp 𝕄) ⊢ iprop(scopedRest spec1 d ∗ emp)
      rw [scopedRest1_eq]; iintro _; isplitl <;> iempintro)
    (fun _ => 0) cut (fun _ => iprop(emp)) W
    (fun d w => match w with | ⟨0, _⟩ => rfl | ⟨1, _⟩ => rfl | ⟨2, _⟩ => rfl)

theorem arrs_in : arrRefs (τ := τ) spec1 ⊆ SA := by decide
theorem arrs_sub : arrRefs (τ := τ) (pcfgs (F := F) 0).spec ⊆ SA := arrs_in

theorem region_pre (d : Dev nD) :
    iprop(StableHlo.held (d.tc : Thread nD τ) SA (W d) ∗ (∃ Wd, owes (d : Thread nD τ) (0 : CellTallies nD τ sig (HIx 1)) Wd)) ⊢ (region W).pre d := by
  refine BIBase.Entails.trans ?_ (RegionSeg.ofHeldIn_pre (arrs_sub (F := F)) d)
  iintro ⟨H, HO⟩
  isplitl [H]; · iexact H
  isplitl [HO]; · iexact HO
  isplitl <;> iempintro

/-- What the region leaves the arrays at: the result at `oVal`, the rest unchanged. -/
def Wo (d : Dev nD) : Valuation τ sig (Elt F) := Function.update (W d) o' (oVal (W d s') (W d y'))

theorem region_post (d : Dev nD) :
    (region W).post d ⊢ iprop(StableHlo.held (d.tc : Thread nD τ) SA (Wo W d) ∗ (∃ Wd, owes (d : Thread nD τ) (0 : CellTallies nD τ sig (HIx 1)) Wd)) := by
  refine (RegionSeg.ofHeldIn_post (arrs_sub (F := F)) d).trans ?_
  have hv : ∀ b ∈ SA, afterRegion (pdats W 0 d) (W d) b = Wo W d b := by
    intro b hb
    have hk0 := fun w => afterRegion_arr (pdats W 0 d) (W d) winFacts1.arr_inj w
    simp only [SA, Finset.mem_insert, Finset.mem_singleton] at hb
    have hoff : ∀ b ∈ SA \ arrRefs (τ := τ) spec1, afterRegion (pdats W 0 d) (W d) b = W d b := afterRegion_off (pdats W 0 d) (W d) SA
    rcases hb with rfl | rfl | rfl | rfl | rfl | rfl | rfl
    · exact (hoff a0' (by decide)).trans (Function.update_of_ne (show a0' ≠ o' by decide) _ _).symm
    · exact (hoff a1' (by decide)).trans (Function.update_of_ne (show a1' ≠ o' by decide) _ _).symm
    · exact (hoff a2' (by decide)).trans (Function.update_of_ne (show a2' ≠ o' by decide) _ _).symm
    · exact (hoff a3' (by decide)).trans (Function.update_of_ne (show a3' ≠ o' by decide) _ _).symm
    · exact (hk0 1).trans ((arr_in1 _ _ _ d _).trans (Function.update_of_ne (show y' ≠ o' by decide) _ _).symm)
    · exact (hk0 0).trans ((arr_in0 _ _ _ d _).trans (Function.update_of_ne (show s' ≠ o' by decide) _ _).symm)
    · exact (hk0 2).trans ((arr_out _ _ _ d).trans (Function.update_self o' (oVal (W d s') (W d y')) (W d)).symm)
  rw [StableHlo.held_congr (d.tc : Thread nD τ) hv]
  iintro ⟨H, HO, -, -⟩
  isplitl [H]; · iexact H
  iexact HO

end Cert.KernelIdeal.Sck

end
-- ==== Proof.IdealSckRun.lean ====
/- The whole run: `@main` on the TensorCore, and what the arrays hold when every thread has stopped. -/
module

public import proofs.«01_k».proof.Proof.IdealOutRegion

@[expose] public section

set_option synthInstance.maxSize 4096

noncomputable section

namespace Cert.KernelIdeal.Sck

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.SparseCore.Cfg (HIx Pay)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch's ghost state -/

theorem pinj : Function.Injective (Pipeline.cellOf (nD := nD) (τ := τ) (Pipeline.pin (pcfgs (F := F)) adm)) := cellOf_inj

/-- The pipelined call's part. -/
def uP : UP := initOf (Pipeline.cells (Pipeline.pin (pcfgs (F := F)) adm) pinj) (Pipeline.launchToks (Pipeline.pin (pcfgs (F := F)) adm) pinj)

def u₀ : UU := (initOf (K (F := F)).hsCells (K (F := F)).hsToks, (uP (F := F), 1))

theorem own_split (a : UH) (b : UP) : (ownU (a, (b, 1)) : sProp 𝕄) ⊢ iprop(BI.own (EH a) ∗ BI.own (EP (F := F) b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- What a device's TensorCore is dealt for the pipelined call. -/
def G (d : Dev nD) : sProp 𝕄 :=
  iprop(Pipeline.cellsGhost (Pipeline.pin (pcfgs (F := F)) adm) EP 0 d ∗ Pipeline.toksInit (Pipeline.pin (pcfgs (F := F)) adm) EP 0 d)

theorem all_emp {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (own_split _ _) $$ Hu
  icases H with ⟨HH, HP⟩
  unfold uP
  imod (Pipeline.fund_ghost (Pipeline.pin (pcfgs (F := F)) adm) EP pinj) $$ HP with ⟨Hg, Ht⟩
  imodintro
  isplitl [HH]; · iexact HH
  isplitl [Hg Ht]
  · unfold G
    rw [bigSep_sep']
    isplitl [Hg]
    · iapply (Entails.of_eq (show (bigSep Finset.univ fun c : Dev nD => bigSep Finset.univ fun p : Fin 1 => Pipeline.cellsGhost (Pipeline.pin (pcfgs (F := F)) adm) EP p c)
        = bigSep Finset.univ fun c : Dev nD => (Pipeline.cellsGhost (Pipeline.pin (pcfgs (F := F)) adm) EP 0 c : sProp 𝕄) from
        bigSep_congr fun c _ => bigSep_univ_of_subsingleton (0 : Fin 1)))
      iexact Hg
    · iapply (Entails.of_eq (show (bigSep Finset.univ fun c : Dev nD => bigSep Finset.univ fun p : Fin 1 => Pipeline.toksInit (Pipeline.pin (pcfgs (F := F)) adm) EP p c)
        = bigSep Finset.univ fun c : Dev nD => (Pipeline.toksInit (Pipeline.pin (pcfgs (F := F)) adm) EP 0 c : sProp 𝕄) from
        bigSep_congr fun c _ => bigSep_univ_of_subsingleton (0 : Fin 1)))
      iexact Ht
  unfold P; dsimp only
  rw [show (bigSep Finset.univ fun _ : Thread nD τ => bigSep Finset.univ fun _ : Fin 1 => (iprop(emp) : sProp 𝕄)) = iprop(emp) from by
    rw [bigSep_congr fun _ _ => all_emp _, all_emp]]
  iempintro

/-! ## The arrays along `@main` -/

/-- The conversion of the projection's matrix. -/
abbrev opCvt : HloOp τ sig (Elt F) := StableHlo.unary main_arg3 main_v0 ((truncf .bf16 · bitsLt_bf16_f32) : (⟨S4096x1024, .f32⟩ : BufTy).Contents (Elt F) → (⟨S4096x1024, .bf16⟩ : BufTy).Contents (Elt F))

def V0 (d : Dev nD) : Valuation τ sig (Elt F) := fun b => m (d, b)
def V1 (d : Dev nD) : Valuation τ sig (Elt F) := (opCvt (F := F)).result (V0 m d)
def V2 (d : Dev nD) : Valuation τ sig (Elt F) := Function.update (V1 m d) s' (sVal m d)
def V3 (d : Dev nD) : Valuation τ sig (Elt F) := Wo (V2 m) d

/-- The launch's arrays, one by one. -/
theorem held_SA (d : Dev nD) (W : Valuation τ sig (Elt F)) :
    (held (SparseCore.T d) SA W : sProp 𝕄) = iprop((hLoc d ↦{fullShare} W a0') ∗ (iLoc d ↦{fullShare} W a1') ∗ (pLoc d ↦{fullShare} W a2')
      ∗ ((SparseCore.T d).loc main_arg3 ↦{fullShare} W a3') ∗ ((SparseCore.T d).loc main_v0 ↦{fullShare} W y') ∗ (sLoc d ↦{fullShare} W s') ∗ ((SparseCore.T d).loc main_v2 ↦{fullShare} W o')) := by
  unfold held SA
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (SparseCore.T d) SA (V0 m d) := by
  rw [held_SA]
  unfold unscopedBufs
  rw [show (Finset.univ.filter fun b : Ref sig .tc => ¬ b.isScoped) = {main_arg0, main_arg1, main_arg2, main_arg3, main_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

theorem V1_off (d : Dev nD) {b : DevRef τ sig} (h : b ∉ ({y'} : Finset (DevRef τ sig))) : V1 m d b = m (d, b) :=
  (opCvt (F := F)).result_of_not_mem (V0 m d) h

theorem hCvt : (opCvt (F := F)).bufs ⊆ SA := show ({a3', y'} : Finset (DevRef τ sig)) ⊆ SA by decide

/-- Before the call: the arrays it reads are the launch's. -/
theorem held_V1 (d : Dev nD) : (held (SparseCore.T d) SA (V1 m d) : sProp 𝕄)
    = iprop((hLoc d ↦{fullShare} m (hLoc d)) ∗ (iLoc d ↦{fullShare} m (iLoc d)) ∗ (pLoc d ↦{fullShare} m (pLoc d))
      ∗ ((SparseCore.T d).loc main_arg3 ↦{fullShare} V1 m d a3') ∗ ((SparseCore.T d).loc main_v0 ↦{fullShare} V1 m d y') ∗ (sLoc d ↦{fullShare} V1 m d s') ∗ ((SparseCore.T d).loc main_v2 ↦{fullShare} V1 m d o')) := by
  rw [held_SA, V1_off m d (b := a0') (by decide), V1_off m d (b := a1') (by decide), V1_off m d (b := a2') (by decide)]

theorem V2_off (d : Dev nD) {b : DevRef τ sig} (h : b ≠ s') : V2 m d b = V1 m d b := Function.update_of_ne h _ _

theorem V2_s (d : Dev nD) : V2 m d s' = sVal m d := Function.update_self (β := fun b : DevRef τ sig => b.ty.Contents (Elt F)) s' (sVal m d) (V1 m d)

/-- After the call: `s` at its value, the rest as before. -/
theorem held_V2 (d : Dev nD) : (held (SparseCore.T d) SA (V2 m d) : sProp 𝕄)
    = iprop((hLoc d ↦{fullShare} m (hLoc d)) ∗ (iLoc d ↦{fullShare} m (iLoc d)) ∗ (pLoc d ↦{fullShare} m (pLoc d))
      ∗ ((SparseCore.T d).loc main_arg3 ↦{fullShare} V1 m d a3') ∗ ((SparseCore.T d).loc main_v0 ↦{fullShare} V1 m d y') ∗ (sLoc d ↦{fullShare} sVal m d) ∗ ((SparseCore.T d).loc main_v2 ↦{fullShare} V1 m d o')) := by
  rw [held_SA, V2_off m d (b := a0') (by decide), V2_off m d (b := a1') (by decide), V2_off m d (b := a2') (by decide),
    V2_off m d (b := a3') (by decide), V2_off m d (b := y') (by decide), V2_off m d (b := o') (by decide),
    V1_off m d (b := a0') (by decide), V1_off m d (b := a1') (by decide), V1_off m d (b := a2') (by decide),
    V2_s]

/-! ## `@main` -/

/-- What `@main` leaves the claim: its arrays at what they end at. -/
abbrev FIN (d : Dev nD) : sProp 𝕄 := held (SparseCore.T d) SA (V3 m d)

theorem owe_none (d : Dev nD) : (K (F := F)).Otc (nD := nD) d 1 = 0 := by
  unfold SparseCore.Cfg.Otc
  exact Finset.sum_eq_zero fun q _ => if_neg (by have := q.isLt; omega)

theorem below_any (thr : Thread nD τ) (W : Waits sig (HIx 1)) : (K (F := F)).WBelow thr W (8 * 1) := by
  intro p _
  match p with
  | (g, none) => exact Nat.zero_le _
  | (g, some q) =>
    have h := (K (F := F)).lev_some_le (thr, g) q
    have hq := q.isLt
    exact h.trans (by omega)

/-- The projection call, from its arrays at `W`. -/
theorem out_call [∀ e, Nonempty (Elt F e)] (W : Dev nD → Valuation τ sig (Elt F)) (d : Dev nD) (Φ : PUnit.{1} → sProp 𝕄) :
    iprop((iprop(boundary (d.tc : Thread nD τ) ∗ (region W).post d) -∗ wp frame (wpE (D (F := F)) 𝒱 (d.tc : Thread nD τ) none) Set.univ (.ret ⟨⟩) Φ)
        ∗ boundary (d.tc : Thread nD τ) ∗ (region W).pre d ∗ levAts (K (F := F)).L (K (F := F)).lev ∗ G d)
      ⊢ wp frame (wpE (D (F := F)) 𝒱 (d.tc : Thread nD τ) none) Set.univ (.op (.customCall (Pipeline.entry 0) ()) fun _ => .ret ⟨⟩) Φ :=
  Pipeline.RegionSeg.wp (pcfgs (F := F)) adm (pdats W) (none : HIx 1) pinj EP (defs₀ (F := F)) 𝒱₀ (K (F := F)).L (K (F := F)).lev (region W) d none
    (fun _ h => nomatch h) (α := PUnit.{1}) (fun _ => .ret ⟨⟩) Φ

/-- The same call as `@main` makes it. -/
theorem out_step [∀ e, Nonempty (Elt F e)] (W : Dev nD → Valuation τ sig (Elt F)) (d : Dev nD) (Φ : PUnit.{1} → sProp 𝕄) :
    iprop((iprop(boundary (SparseCore.T d : Thread nD τ) ∗ (region W).post d) -∗ |={Set.univ}=> Φ ⟨⟩)
        ∗ boundary (SparseCore.T d : Thread nD τ) ∗ (region W).pre d ∗ levAts (K (F := F)).L (K (F := F)).lev ∗ G d)
      ⊢ wp frame (wpE ((K (F := F)).defs (D (F := F))) 𝒱 (SparseCore.T d) none) Set.univ (Prog.lift (.customCall (SparseCore.inner (Pipeline.entry 0)) ())) Φ := by
  have h1 := out_call W d Φ
  have h2 := (K (F := F)).wp_liftProg (Name := ℕ) (U := UU) (D (F := F)) 𝒱 (SparseCore.T d) Set.univ none (.op (.customCall (Pipeline.entry 0) ()) fun _ => .ret ⟨⟩) Φ
  rw [wp_ret] at h1
  exact h1.trans h2

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, HG⟩
  -- the conversion
  iapply (wp_hlo_within 𝒱 (SparseCore.T d) none Set.univ (op := opCvt) (S := SA) hCvt (V := V0 m d)) $$ [Hb Hheld]
  · isplitl [Hb] <;> iassumption
  iintro ⟨Hb, Hheld⟩
  rw [wp_ret]; imodintro
  ihave Hh := (Entails.of_eq (show held (SparseCore.T d) SA ((opCvt (F := F)).result (V0 m d)) = _ from held_V1 m d)) $$ Hheld
  icases Hh with ⟨Hh, Hi, Hp, H3, Hy, Hs, Ho⟩
  -- the SparseCore call
  iapply ((K (F := F)).wp_run (D (F := F)) 𝒱 (EH := EH) (P := P m) κ d 0) $$ [Hst Hh Hi Hp H3 Hy Hs Ho Hb Hts HG]
  isplitr; · iexact Hctx
  isplitl [Hst]; · iexact Hst
  isplitl [Hh Hi Hp Hs]
  · iapply (deal_out m d (V1 m d s'))
    isplitl [Hh]; · iexact Hh
    isplitl [Hi]; · iexact Hi
    isplitl [Hp]; · iexact Hp
    iexact Hs
  iintro ⟨Hst, Hdn⟩
  ihave Hdn' := (deal_back m d) $$ Hdn
  icases Hdn' with ⟨Hh, Hi, Hp, Hs⟩
  ihave Hheld := (Entails.of_eq (held_V2 m d).symm) $$ [Hh Hi Hp H3 Hy Hs Ho]
  · isplitl [Hh]; · iexact Hh
    isplitl [Hi]; · iexact Hi
    isplitl [Hp]; · iexact Hp
    isplitl [H3]; · iexact H3
    isplitl [Hy]; · iexact Hy
    isplitl [Hs]; · iexact Hs
    iexact Ho
  -- the projection
  ihave Hlev := (SparseCore.Cfg.ctx_levAts κ) $$ Hctx
  unfold SparseCore.Cfg.tcSt
  icases Hst with ⟨⟨%W, -, HO⟩, Hat, Hrd, Hrs, Hcalls⟩
  iapply (out_step (V2 m) d)
  isplitl [Hat Hrd Hrs Hcalls Hts]
  · iintro ⟨Hb, Hpost⟩
    ihave Hq := (region_post (V2 m) d) $$ Hpost
    icases Hq with ⟨Hheld, %W', HO⟩
    imodintro
    imodintro
    isplitl [HO Hat Hrd Hrs Hcalls]
    · isplitl [HO]
      · iexists W'
        isplitr; · ipureintro; exact below_any _ W'
        rw [owe_none]; iexact HO
      isplitl [Hat]; · iexact Hat
      isplitl [Hrd]; · iexact Hrd
      isplitl [Hrs]; · iexact Hrs
      iexact Hcalls
    isplitl [Hheld]; · iexact Hheld
    isplitl [Hb] <;> iassumption
  isplitl [Hb]; · iexact Hb
  isplitl [Hheld HO]
  · iapply (region_pre (V2 m) d)
    isplitl [Hheld]; · iexact Hheld
    iexists W
    rw [← owe_none (F := F) d]; iexact HO
  isplitl [Hlev]; · iexact Hlev
  iexact HG

/-! ## The run -/

/-- What a device's arrays end at. -/
def fq (d : Dev nD) (st : Phys nD τ sig (Elt F)) : Prop := ∀ b ∈ SA, st.mem.mem (d, b) = V3 m d b

theorem hfin (d : Dev nD) (st : Phys nD τ sig (Elt F)) : iprop(FIN m d ∗ SI st) ⊢ (⌜fq m d st⌝ : sProp 𝕄) := by
  have one : ∀ b : {b // b ∈ SA}, iprop(FIN m d ∗ SI st) ⊢ (⌜st.mem.mem (d, b.1) = V3 m d b.1⌝ : sProp 𝕄) := fun b => by
    refine (sep_mono_left (show FIN m d ⊢ (((d, b.1) : Loc nD τ sig) ↦{fullShare} V3 m d b.1) from bigSep_elim (Φ := fun b : DevRef τ sig => (((d, b) : Loc nD τ sig) ↦{fullShare} V3 m d b)) b.2)).trans ?_
    iintro ⟨H, HSI⟩
    ihave H := (SI_pointsTo_agree (st := st) (ℓ := (d, b.1)) (I := Finset.univ) (q := fullShare) (f := V3 m d b.1)) $$ [HSI H]
    · isplitl [HSI] <;> iassumption
    icases H with %hx
    ipureintro; exact funext fun i => hx i (Finset.mem_univ i)
  exact ((forall_intro one).trans pure_forall.2).trans (Laws.pure_mono fun all b hb => all ⟨b, hb⟩)

/-- The end: every array of every device at its value, every semaphore at zero. -/
def QC : PUnit × MemSt nD τ sig (Elt F) → Prop := fun r => (∀ c : Dev nD, ∀ b ∈ SA, r.2.mem (c, b) = V3 m c b) ∧ r.2.sem = fun _ => 0

theorem run_main [∀ e, Nonempty (Elt F e)] (hI : ∀ d j, (m (iLoc d) j : BitVec 32).toNat < 4096) :
    θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hI)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

/-! ## The arrays at the end -/

theorem V3_off (d : Dev nD) {b : DevRef τ sig} (h0 : b ≠ o') (h1 : b ≠ s') (h2 : b ∉ ({y'} : Finset (DevRef τ sig))) : V3 m d b = m (d, b) :=
  ((Function.update_of_ne h0 _ _).trans (V2_off m d h1)).trans (V1_off m d h2)

theorem V2_y (d : Dev nD) : V2 m d y' = truncf .bf16 (m ((SparseCore.T d).loc main_arg3) : FVec F S4096x1024 .f32) bitsLt_bf16_f32 := by
  rw [V2_off m d (by decide)]
  exact StableHlo.unary_result main_arg3 main_v0 _ _ _ (V0 m d)

/-- The result: `s`'s rows, narrowed, against the narrowed matrix. -/
theorem V3_o (d : Dev nD) : V3 m d o' = oVal (sVal m d) (truncf .bf16 (m ((SparseCore.T d).loc main_arg3) : FVec F S4096x1024 .f32) bitsLt_bf16_f32) := by
  refine (Function.update_self (β := fun b : DevRef τ sig => b.ty.Contents (Elt F)) o' (oVal (V2 m d s') (V2 m d y')) (V2 m d)).trans ?_
  rw [V2_s, V2_y]

end Cert.KernelIdeal.Sck

end
-- ==== Proof.Range.lean ====
/- What the two preconditions say of the arguments: the expert numbers lie below 4096, and the float arguments are finite. -/
module

public import proofs.«01_k».proof.Pre_in_range
public import proofs.«01_k».proof.Pre_pre
public import Idealize.ShloMosaic.Lib.ReduceAll
public import Idealize.ShloMosaic.Lib.IdealHost
public import Idealize.ShloMosaic.PureOps.Ideal

@[expose] public section

noncomputable section

namespace Cert.Range

open Idealize.ShloMosaic

abbrev HShape : Shape := ⟨2, ![2048, 4096]⟩
abbrev IShape : Shape := ⟨2, ![2048, 16]⟩
abbrev DShape : Shape := ⟨2, ![4096, 1024]⟩
abbrev Unit0 : Shape := ⟨0, ![]⟩

instance : Subsingleton Unit0.Idx := ⟨fun a b => funext fun x => x.elim0⟩

/-- A word that is at least zero and below 4096 as a signed number is below 4096 as a natural number. -/
theorem lt_of_signed (x : BitVec 32) (h0 : IntOp.cmpi .sge x 0#32 = 1#1) (h1 : IntOp.cmpi .slt x 4096#32 = 1#1) : x.toNat < 4096 := by
  have a := IntOp.cmpi_sge.1 h0
  have b := IntOp.cmpi_slt.1 h1
  have c : (0#32 : BitVec 32).toInt = 0 := by decide
  have d : (4096#32 : BitVec 32).toInt = 4096 := by decide
  rw [c] at a; rw [d] at b
  rw [BitVec.toInt_eq_toNat_cond] at a b
  split at a <;> omega

theorem and_one {a b : BitVec 1} (h : IntOp.andi a b = 1#1) : a = 1#1 ∧ b = 1#1 := by
  revert a b; decide

/-- `jnp.all` of the two comparisons: every expert number lies below 4096. -/
theorem range_of_all (hb : Unit0.BroadcastsInDim IShape ![]) (hr : IShape.ReducesTo [0, 1] Unit0) (hu : 0 < Unit0.numel) (x : IVec IShape 32) (j : Unit0.Idx)
    (h : Host.reduce IntOp.andi (andi (cmpi .sge x (broadcastInDim IShape ![] hb (constantI Unit0 32 0#32)))
        (cmpi .slt x (broadcastInDim IShape ![] hb (constantI Unit0 32 4096#32)))) (constantI Unit0 1 1#1) hr hu j = 1#1) (i : IShape.Idx) :
    (x i).toNat < 4096 := by
  have e := and_one (Host.reduce_andi_all _ _ _ _ j h i)
  exact lt_of_signed _ e.1 e.2

/-- Every expert number lies below 4096. -/
theorem range_of_in_range {F : FTy → Type} [FloatOps F] [Cert.Pre_in_range.Facts] (h2 : FVec F HShape .f32) (x : IVec IShape 32) (p : FVec F IShape .f32) (D : FVec F DShape .f32)
    (h : Cert.Pre_in_range.fn (F := F) h2 x p D = fun _ => 1#1) (i : IShape.Idx) : (x i).toNat < 4096 := by
  have h0 := congrFun h (fun a => a.elim0)
  unfold Cert.Pre_in_range.fn at h0
  exact range_of_all _ _ _ x _ h0 i

/-- A number whose absolute value is below infinity is a real number. -/
theorem real_of_lt (x : EReal) (h : Ideal.cmp .olt (max x (-x)) (Ideal.ofBits .f32 0x7F800000#32) = 1#1) : ∃ r : ℝ, x = (r : EReal) := by
  have t : Ideal.ofBits .f32 0x7F800000#32 = (⊤ : EReal) := by simp [Ideal.ofBits, Ideal.ieee]
  rw [t] at h
  induction x using EReal.rec with
  | bot => simp [Ideal.cmp] at h
  | top => simp [Ideal.cmp] at h
  | coe r => exact ⟨r, rfl⟩

/-- `jnp.all(jnp.abs(x) < jnp.inf)`: every element is a real number. -/
theorem real_of_all {s : Shape} (axes : List (Fin s.rank)) (hb : Unit0.BroadcastsInDim s ![]) (hr : s.ReducesTo axes Unit0) (hu : 0 < Unit0.numel) (x : FVec Ideal s .f32) (j : Unit0.Idx)
    (h : Host.reduce IntOp.andi (cmpf .olt (Host.absf x) (broadcastInDim s ![] hb (constant Unit0 .f32 0x7F800000#32))) (constantI Unit0 1 1#1) hr hu j = 1#1) (i : s.Idx) :
    ∃ r : ℝ, (x i : EReal) = (r : EReal) :=
  real_of_lt _ (Host.reduce_andi_all _ _ _ _ j h i)

/-- All that `pre` says. -/
theorem all_of_pre [Cert.Pre_pre.Facts] (h2 : FVec Ideal HShape .f32) (x : IVec IShape 32) (p : FVec Ideal IShape .f32) (D : FVec Ideal DShape .f32)
    (h : Cert.Pre_pre.fn (F := Ideal) h2 x p D = fun _ => 1#1) :
    (∀ i, (x i).toNat < 4096) ∧ (∀ i, ∃ r : ℝ, (h2 i : EReal) = (r : EReal)) ∧ (∀ i, ∃ r : ℝ, (p i : EReal) = (r : EReal))
      ∧ ∀ i, ∃ r : ℝ, (D i : EReal) = (r : EReal) := by
  have h0 := congrFun h (fun a => a.elim0)
  unfold Cert.Pre_pre.fn at h0
  have a := and_one h0
  have b := and_one a.1
  have c := and_one b.1
  exact ⟨range_of_all _ _ _ x _ c.1, real_of_all _ _ _ _ h2 _ c.2, real_of_all _ _ _ _ p _ b.2, real_of_all _ _ _ _ D _ a.2⟩

end Cert.Range

end
-- ==== Proof.Combine.lean ====
/- The arithmetic of the claim: over real inputs, adding each token's sixteen gated weights into a row of 4096 numbers and
   multiplying that row with the matrix is the sum over the sixteen experts of weight times matrix row. -/
module

public import proofs.«01_k».proof.Proof.IdealSckSetup
public import Idealize.ShloMosaic.Lib.IdealHost
public import Idealize.ShloMosaic.PureOps.Ideal

@[expose] public section

noncomputable section

namespace Cert.KernelIdeal.Sck

open Idealize.ShloMosaic
open scoped BigOperators

/-- The gated weight of a real hidden value `x` with a real weight `p`. -/
def gateR (x p : ℝ) : ℝ := x * p / (1 + Real.exp (-x))

theorem one_add_exp_ne (x : ℝ) : (1 : ℝ) + Real.exp (-x) ≠ 0 := by positivity

theorem word_one : (Ideal.ofBits .f32 0x3F800000#32 : EReal) = ((1 : ℝ) : EReal) := by
  simp [Ideal.ofBits, Ideal.ieee]
  norm_num
  rw [← EReal.coe_mul]; norm_num

theorem zro_eq : (zro (F := Ideal) : EReal) = 0 := Ideal.ofBits_zero_f32

/-- The quotient of two real numbers, the second not zero. -/
theorem div_real (a b : ℝ) (hb : b ≠ 0) : Ideal.div (a : EReal) (b : EReal) = ((a / b : ℝ) : EReal) := by
  rw [Ideal.div_coe hb, ← EReal.coe_mul]; congr 1; ring

/-- The gated weight that the kernel computes. -/
theorem gate_real (x p : ℝ) : (gate (F := Ideal) (x : EReal) (p : EReal) : EReal) = (gateR x p : EReal) := by
  have e : (gate (F := Ideal) (x : EReal) (p : EReal) : EReal)
      = Ideal.div ((x : EReal) * (p : EReal)) (Ideal.ofBits .f32 0x3F800000#32 + Ideal.exp ((zro (F := Ideal) : EReal) - (x : EReal))) := rfl
  rw [e, zro_eq, word_one, zero_sub, ← EReal.coe_neg, Ideal.exp_coe, ← EReal.coe_mul, ← EReal.coe_add, div_real _ _ (one_add_exp_ne x)]
  rfl

/-- The gated weight as a reference writes it: `x · (1 / (1 + e⁻ˣ)) · p`. -/
theorem silu_real (x p : ℝ) :
    (x : EReal) * Ideal.div (Ideal.ofBits .f32 0x3F800000#32) (Ideal.ofBits .f32 0x3F800000#32 + Ideal.exp (-(x : EReal))) * (p : EReal) = (gateR x p : EReal) := by
  rw [word_one, ← EReal.coe_neg, Ideal.exp_coe, ← EReal.coe_add, div_real _ _ (one_add_exp_ne x), ← EReal.coe_mul, ← EReal.coe_mul]
  congr 1; unfold gateR; ring

/-- Adding those terms of a list that a condition picks. -/
theorem fold_pick {ι : Type} (c : ι → Prop) [DecidablePred c] (w : ι → ℝ) :
    ∀ (l : List ι) (z : ℝ), l.foldl (fun (acc : EReal) k => if c k then acc + (w k : EReal) else acc) (z : EReal)
      = ((z + (l.map fun k => if c k then w k else 0).sum : ℝ) : EReal)
  | [], z => by simp
  | k :: l, z => by
    rw [List.foldl_cons, List.map_cons, List.sum_cons]
    by_cases h : c k
    · rw [if_pos h, if_pos h, ← EReal.coe_add, fold_pick c w l]; congr 1; ring
    · rw [if_neg h, if_neg h, fold_pick c w l]; congr 1; ring

/-- Adding a number per list entry. -/
theorem fold_add {ι : Type} (f : ι → EReal → EReal) (w : ι → ℝ) (hf : ∀ g (z : ℝ), f g (z : EReal) = ((z + w g : ℝ) : EReal)) :
    ∀ (l : List ι) (z : ℝ), l.foldl (fun (acc : EReal) g => f g acc) (z : EReal) = ((z + (l.map w).sum : ℝ) : EReal)
  | [], z => by simp
  | g :: l, z => by
    rw [List.foldl_cons, List.map_cons, List.sum_cons, hf, fold_add f w hf l]; congr 1; ring

/-- One number of a row of `s`: the sum of the weights of the lanes that name the expert. -/
theorem addRow_real (ix : Fin 16 → ℕ) (w : Fin 16 → ℝ) (e : ℕ) :
    (addRow (F := Ideal) ix (fun k => (w k : EReal)) e (zro (F := Ideal)) : EReal) = ((∑ k : Fin 16, if e = ix k then w k else 0 : ℝ) : EReal) := by
  have h := fold_add (fun (g : Fin 4) (acc : EReal) =>
      (List.finRange 16).foldl (fun (acc : EReal) (k : Fin 16) => if k.val / 4 = g.val ∧ e = ix k then acc + (w k : EReal) else acc) acc)
    (fun g => ((List.finRange 16).map fun k : Fin 16 => if k.val / 4 = g.val ∧ e = ix k then w k else 0).sum)
    (fun g z => fold_pick (fun k : Fin 16 => k.val / 4 = g.val ∧ e = ix k) w _ z) (List.finRange 4) 0
  have z0 : (zro (F := Ideal) : EReal) = ((0 : ℝ) : EReal) := zro_eq
  unfold addRow
  rw [z0]
  refine h.trans ?_
  congr 1
  rw [zero_add, ← List.ofFn_eq_map, List.sum_ofFn]
  simp only [← List.ofFn_eq_map, List.sum_ofFn]
  rw [Finset.sum_comm]
  refine Finset.sum_congr rfl fun k _ => ?_
  rw [Finset.sum_eq_single (⟨k.val / 4, by omega⟩ : Fin 4)]
  · simp
  · intro g _ hg
    rw [if_neg]
    rintro ⟨h1, -⟩
    exact hg (Fin.ext h1.symm)
  · intro h; exact absurd (Finset.mem_univ _) h

/-- A sum of real numbers, as an extended real. -/
theorem coe_sum {ι : Type} (s : Finset ι) (f : ι → ℝ) : ((∑ i ∈ s, f i : ℝ) : EReal) = ∑ i ∈ s, (f i : EReal) := by
  classical
  induction s using Finset.induction with
  | empty => simp
  | insert a s ha ih => rw [Finset.sum_insert ha, Finset.sum_insert ha, EReal.coe_add, ih]

/-- The row of summed weights times a column of the matrix is the sum over the sixteen lanes. -/
theorem scatter_dot (ix : Fin 16 → Fin 4096) (w : Fin 16 → ℝ) (D : Fin 4096 → ℝ) :
    ∑ e : Fin 4096, ((∑ k : Fin 16, if e.val = (ix k).val then w k else 0 : ℝ) : EReal) * (D e : EReal) = ∑ k : Fin 16, (w k : EReal) * (D (ix k) : EReal) := by
  have h : ∑ e : Fin 4096, (∑ k : Fin 16, if e.val = (ix k).val then w k else 0) * D e = ∑ k : Fin 16, w k * D (ix k) := by
    simp only [Finset.sum_mul]
    rw [Finset.sum_comm]
    refine Finset.sum_congr rfl fun k _ => ?_
    rw [Finset.sum_eq_single (ix k)]
    · simp
    · intro e _ he
      rw [if_neg fun h => he (Fin.ext h), zero_mul]
    · intro h; exact absurd (Finset.mem_univ _) h
  simp only [← EReal.coe_mul]
  rw [← coe_sum, ← coe_sum, h]

end Cert.KernelIdeal.Sck

end
-- ==== Proof.Product.lean ====
/- What the kernel's two calls compute over real arguments: at token `t` and column `c`, the sum over the token's sixteen experts
   of the gated weight times the expert's row of the matrix. -/
module

public import proofs.«01_k».proof.Proof.Combine
public import proofs.«01_k».proof.Proof.IdealOutRegion
public import Idealize.ShloMosaic.Lib.MatmulPlain

@[expose] public section

noncomputable section

namespace Cert.KernelIdeal.Sck

open Cert.KernelIdeal Cert.KernelIdeal.Gen
open Idealize.ShloMosaic Idealize.SL.Sem
open scoped BigOperators

theorem ix2_eq {n k : ℕ} (a : Fin n) (b : Fin k) : ix2 a b = ValueIdx.ix2 a b := funext fun | 0 => rfl | 1 => rfl

/-- The projection's block at an element: the row times the column. -/
theorem pay_at (X : FVec Ideal S256x4096 .f32) (Y : FVec Ideal S4096x1024 .bf16) (r : Fin 256) (c : Fin 1024) :
    (k1_pay1 (F := Ideal) X Y (ValueIdx.ix2 r c) : EReal) = ∑ e : Fin 4096, (X (ValueIdx.ix2 r e) : EReal) * (Y (ValueIdx.ix2 e c) : EReal) := by
  have e1 : k1_pay1 (F := Ideal) X Y (ValueIdx.ix2 r c)
      = FloatOps.matmul (DotDims.plain 256 4096 1024) none (truncf .bf16 (shapeCast S256x4096 X shapeCasts_S256x4096_S256x4096) bitsLt_bf16_f32)
          (shapeCast S4096x1024 Y shapeCasts_S4096x1024_S4096x1024) (constant S256x1024 .f32 0x00000000#32) (ValueIdx.ix2 r c) := rfl
  rw [e1, Ideal.matmul_plain_apply, shapeCast_self, shapeCast_self]
  have z : (constant S256x1024 .f32 0x00000000#32 : FVec Ideal S256x1024 .f32) (ValueIdx.ix2 r c) = (0 : EReal) := Ideal.ofBits_zero_f32
  rw [z, zero_add]
  rfl

/-- The result at an element: the row of `s` times the column. -/
theorem oVal_at (X : FVec Ideal S2048x4096 .f32) (Y : FVec Ideal S4096x1024 .bf16) (t : Fin 2048) (c : Fin 1024) :
    (oVal (F := Ideal) X Y (ValueIdx.ix2 t c) : EReal) = ∑ e : Fin 4096, (X (ValueIdx.ix2 t e) : EReal) * (Y (ValueIdx.ix2 e c) : EReal) := by
  refine (pay_at (rowsOf (F := Ideal) X t) Y ⟨t.val % 256, Nat.mod_lt _ (by decide)⟩ c).trans ?_
  refine Finset.sum_congr rfl fun e _ => ?_
  refine congrArg (fun v : EReal => v * _) (congrArg X (funext fun a => Fin.ext ?_))
  match a with
  | ⟨0, _⟩ => show t.val / 256 * 256 + t.val % 256 = t.val; omega
  | ⟨1, _⟩ => rfl

/-- Over real arguments with expert numbers in range. -/
theorem product_at (m : (ℓ : Loc nD τ sig) → Buf (Elt Ideal) ℓ) (d : Dev nD) (hr : S2048x4096.Idx → ℝ) (pr : S2048x16.Idx → ℝ) (Dr : S4096x1024.Idx → ℝ)
    (hx : ∀ i, (m (iLoc d) i : BitVec 32).toNat < 4096)
    (hh : m (hLoc d) = fun i => ((hr i : ℝ) : EReal)) (hp : m (pLoc d) = fun i => ((pr i : ℝ) : EReal))
    (Y : FVec Ideal S4096x1024 .bf16) (hY : ∀ i, (Y i : EReal) = ((Dr i : ℝ) : EReal)) (t : Fin 2048) (c : Fin 1024) :
    (oVal (F := Ideal) (sVal m d) Y (ValueIdx.ix2 t c) : EReal)
      = ∑ k : Fin 16, (gateR (hr (ValueIdx.ix2 t ⟨(m (iLoc d) (ValueIdx.ix2 t k) : BitVec 32).toNat, hx _⟩)) (pr (ValueIdx.ix2 t k)) : EReal)
          * (Dr (ValueIdx.ix2 ⟨(m (iLoc d) (ValueIdx.ix2 t k) : BitVec 32).toNat, hx _⟩ c) : EReal) := by
  rw [oVal_at]
  have h := scatter_dot (fun k => (⟨(m (iLoc d) (ValueIdx.ix2 t k) : BitVec 32).toNat, hx _⟩ : Fin 4096))
    (fun k => gateR (hr (ValueIdx.ix2 t ⟨(m (iLoc d) (ValueIdx.ix2 t k) : BitVec 32).toNat, hx _⟩)) (pr (ValueIdx.ix2 t k))) (fun e => Dr (ValueIdx.ix2 e c))
  refine Eq.trans (Finset.sum_congr rfl fun e _ => ?_) h
  rw [hY]
  refine congrArg (fun v : EReal => v * _) ?_
  refine Eq.trans ?_ (addRow_real (fun k => (m (iLoc d) (ValueIdx.ix2 t k) : BitVec 32).toNat) _ e.val)
  have ew : (fun k : Fin 16 => gate (F := Ideal) (m (hLoc d) (ValueIdx.ix2 t (ex (m (iLoc d) (ValueIdx.ix2 t k))))) (m (pLoc d) (ValueIdx.ix2 t k)))
      = fun k => ((gateR (hr (ValueIdx.ix2 t ⟨(m (iLoc d) (ValueIdx.ix2 t k) : BitVec 32).toNat, hx _⟩)) (pr (ValueIdx.ix2 t k)) : ℝ) : EReal) := by
    funext k
    have eh : ex (m (iLoc d) (ValueIdx.ix2 t k)) = ⟨(m (iLoc d) (ValueIdx.ix2 t k) : BitVec 32).toNat, hx _⟩ :=
      Fin.ext (Nat.mod_eq_of_lt (hx (ValueIdx.ix2 t k)))
    rw [eh, hh, hp]
    exact gate_real _ _
  show row (F := Ideal) (fun e => m (hLoc d) (ix2 (n := 2048) t e)) (fun k => m (iLoc d) (ix2 (n := 2048) t k)) (fun k => m (pLoc d) (ix2 (n := 2048) t k)) e.val = _
  unfold row
  simp only [ix2_eq]
  exact congrArg (fun w => addRow (F := Ideal) _ w e.val (zro (F := Ideal))) ew

end Cert.KernelIdeal.Sck

end
-- ==== Proof.RefValue.lean ====
/- What the reference computes: at token `t` and column `c`, the sum over the token's sixteen experts of the gated weight times the
   expert's row of the matrix. -/
module

public import proofs.«01_k».proof.Proof.Gen.ReferenceIdeal.Run
public import proofs.«01_k».proof.Proof.Range
public import proofs.«01_k».proof.Proof.Combine
public import Idealize.ShloMosaic.Lib.Pipeline.Value
public import Idealize.ShloMosaic.PureOps.Ideal.Laws

@[expose] public section

noncomputable section

namespace Cert.ReferenceIdeal.Combined

open Cert.ReferenceIdeal Cert.ReferenceIdeal.Gen
open Idealize.ShloMosaic Idealize.ShloMosaic.ValueIdx Idealize.SL.Sem
open scoped BigOperators

variable (h2 : FVec Ideal S2048x4096 .f32) (x : IVec S2048x16 32) (p : FVec Ideal S2048x16 .f32) (D : FVec Ideal S4096x1024 .f32)

/-! ## The expert numbers -/

/-- The expert numbers after the wrapping of negative ones. -/
def wrapped : IVec S2048x16 32 :=
  select (cmpi .slt x (broadcastInDim S2048x16 ![] bcast_S_S2048x16 (constantI S_ 32 0#32))) (addi x (broadcastInDim S2048x16 ![] bcast_S_S2048x16 (constantI S_ 32 4096#32))) x

/-- Which of the numbers `y` name a row. -/
def named (y : IVec S2048x16x1 32) : IVec S2048x16 1 :=
  Host.reduce IntOp.andi (andi (cmpi .sge y (broadcastInDim S2048x16x1 ![] bcast_S_S2048x16x1 (constantI S_ 32 0#32)))
    (cmpi .sle y (broadcastInDim S2048x16x1 ![0, 1, 2] bcast_S1x1x1_S2048x16x1_0_1_2 (broadcastInDim S1x1x1 ![2] bcast_S1_S1x1x1_2 (constantI S1 32 4095#32))))) (constantI S_ 1 1#1) reducesTo_S2048x16x1_S2048x16_d2 h_S_

theorem small_toInt (v : BitVec 32) (h : v.toNat < 4096) : v.toInt = (v.toNat : ℤ) := by
  rw [BitVec.toInt_eq_toNat_cond, if_pos (by omega)]

variable {x}

/-- A number in range is not wrapped. -/
theorem wrapped_eq (hx : ∀ i, (x i).toNat < 4096) : wrapped x = x := by
  funext i
  have h : IntOp.cmpi .slt (x i) 0#32 ≠ 1#1 := fun h => by
    have a := IntOp.cmpi_slt.1 h
    rw [small_toInt _ (hx i)] at a
    have c : (0#32 : BitVec 32).toInt = 0 := by decide
    omega
  show Scalar.select (IntOp.cmpi .slt (x i) 0#32) _ (x i) = x i
  rw [eq_zero_of_ne_one h, select_zero]

/-- Numbers in range name rows. -/
theorem named_eq (y : IVec S2048x16x1 32) (hy : ∀ i, (y i).toNat < 4096) (j : S2048x16.Idx) : named y j = 1#1 := by
  refine Host.reduce_andi_one _ _ _ _ _ rfl fun i => ?_
  have a : IntOp.cmpi .sge (y i) 0#32 = 1#1 := IntOp.cmpi_sge.2 (by
    rw [small_toInt _ (hy i)]
    have c : (0#32 : BitVec 32).toInt = 0 := by decide
    omega)
  have b : IntOp.cmpi .sle (y i) 4095#32 = 1#1 := IntOp.cmpi_sle.2 (by
    rw [small_toInt _ (hy i)]
    have c : (4095#32 : BitVec 32).toInt = 4095 := by decide
    have := hy i
    omega)
  show IntOp.andi (IntOp.cmpi .sge (y i) 0#32) (IntOp.cmpi .sle (y i) 4095#32) = 1#1
  rw [a, b]; rfl

/-! ## The two gathers -/

theorem axis_two (a : Fin 2) : a = 0 ∨ a = 1 := by omega

theorem clamp_eq (v : BitVec 32) (h : v.toNat < 4096) : min v.toInt.toNat 4095 = v.toNat := by
  rw [small_toInt v h]; omega

/-- Row `t`'s element at the number that `y` holds for `(t, k)`. -/
theorem hidden_at (y : IVec S2048x16x1 32) (t : Fin 2048) (k : Fin 16) (hy : (y (ix3 t k 0)).toNat < 4096) :
    Host.gather gather_S2048x4096_S2048x16x1_S2048x16_n_1_0_0_1_2_11 h2 y (ix2 t k) = h2 (ix2 t ⟨(y (ix3 t k 0)).toNat, hy⟩) := by
  unfold Host.gather
  refine congrArg h2 (funext fun a => Fin.ext ?_)
  show GatherDims.start gather_S2048x4096_S2048x16x1_S2048x16_n_1_0_0_1_2_11 (ix2 t k) y a + GatherDims.batchCoord gather_S2048x4096_S2048x16x1_S2048x16_n_1_0_0_1_2_11 (ix2 t k) a + GatherDims.offCoord gather_S2048x4096_S2048x16x1_S2048x16_n_1_0_0_1_2_11 (ix2 t k) a = _
  rcases axis_two a with rfl | rfl
  · have hb : (0 : Fin 2) ∈ gather_S2048x4096_S2048x16x1_S2048x16_n_1_0_0_1_2_11.operandBatchingDims := List.mem_singleton.2 rfl
    rw [GatherDims.start_batching _ _ _ _ hb, GatherDims.offCoord_eq_zero _ _ _ fun h => ((GatherDims.mem_sKept _ _).1 h).2 hb]
    unfold GatherDims.batchCoord
    rw [dif_pos hb]
    simp only [Nat.zero_add, Nat.add_zero]
    rfl
  · have hs : (1 : Fin 2) ∈ gather_S2048x4096_S2048x16x1_S2048x16_n_1_0_0_1_2_11.startIndexMap := List.mem_singleton.2 rfl
    have hc : (1 : Fin 2) ∈ gather_S2048x4096_S2048x16x1_S2048x16_n_1_0_0_1_2_11.collapsedSliceDims := List.mem_singleton.2 rfl
    rw [GatherDims.batchCoord_eq_zero _ _ _ (fun h => absurd (List.mem_singleton.1 h) (by decide)),
      GatherDims.offCoord_eq_zero _ _ _ fun h => ((GatherDims.mem_sKept _ _).1 h).1 hc]
    unfold GatherDims.start
    rw [dif_pos hs]
    simp only [Nat.add_zero]
    refine Eq.trans (congrArg (fun v : BitVec 32 => min v.toInt.toNat 4095) (congrArg y (?_ : _ = ix3 t k 0))) (clamp_eq _ hy)
    funext b
    match b with
    | ⟨0, _⟩ => rfl
    | ⟨1, _⟩ => rfl
    | ⟨2, _⟩ => rfl

/-- Column `c` of the matrix's row at the number that `y` holds for `(t, k)`. -/
theorem matrix_at (y : IVec S2048x16x1 32) (t : Fin 2048) (k : Fin 16) (c : Fin 1024) (hy : (y (ix3 t k 0)).toNat < 4096) :
    Host.gather gather_S4096x1024_S2048x16x1_S2048x16x1024_2_0_n_n_0_2_11024 D y (ix3 t k c) = D (ix2 ⟨(y (ix3 t k 0)).toNat, hy⟩ c) := by
  unfold Host.gather
  refine congrArg D (funext fun a => Fin.ext ?_)
  show GatherDims.start gather_S4096x1024_S2048x16x1_S2048x16x1024_2_0_n_n_0_2_11024 (ix3 t k c) y a + GatherDims.batchCoord gather_S4096x1024_S2048x16x1_S2048x16x1024_2_0_n_n_0_2_11024 (ix3 t k c) a + GatherDims.offCoord gather_S4096x1024_S2048x16x1_S2048x16x1024_2_0_n_n_0_2_11024 (ix3 t k c) a = _
  rcases axis_two a with rfl | rfl
  · have hs : (0 : Fin 2) ∈ gather_S4096x1024_S2048x16x1_S2048x16x1024_2_0_n_n_0_2_11024.startIndexMap := List.mem_singleton.2 rfl
    have hc : (0 : Fin 2) ∈ gather_S4096x1024_S2048x16x1_S2048x16x1024_2_0_n_n_0_2_11024.collapsedSliceDims := List.mem_singleton.2 rfl
    rw [GatherDims.batchCoord_eq_zero _ _ _ List.not_mem_nil, GatherDims.offCoord_eq_zero _ _ _ fun h => ((GatherDims.mem_sKept _ _).1 h).1 hc]
    unfold GatherDims.start
    rw [dif_pos hs]
    simp only [Nat.add_zero]
    refine Eq.trans (congrArg (fun v : BitVec 32 => min v.toInt.toNat 4095) (congrArg y (?_ : _ = ix3 t k 0))) (clamp_eq _ hy)
    funext b
    match b with
    | ⟨0, _⟩ => rfl
    | ⟨1, _⟩ => rfl
    | ⟨2, _⟩ => rfl
  · have hs : (1 : Fin 2) ∉ gather_S4096x1024_S2048x16x1_S2048x16x1024_2_0_n_n_0_2_11024.startIndexMap := fun h => absurd (List.mem_singleton.1 h) (by decide)
    rw [GatherDims.batchCoord_eq_zero _ _ _ List.not_mem_nil]
    unfold GatherDims.start
    rw [dif_neg hs]
    simp only [Nat.add_zero, Nat.zero_add]
    rfl

/-! ## The whole term -/

/-- The expert numbers with a last axis of one, as the first gather takes them. -/
def cast3 (y : IVec S2048x16 32) : IVec S2048x16x1 32 := shapeCast _ y shapeCasts_S2048x16_S2048x16x1
/-- The same, as the second gather takes them. -/
def wide3 (y : IVec S2048x16 32) : IVec S2048x16x1 32 := broadcastInDim S2048x16x1 ![0, 1] bcast_S2048x16_S2048x16x1_0_1 y

theorem cast3_at (y : IVec S2048x16 32) (i : S2048x16x1.Idx) : cast3 y i = y (ix2 (i 0) (i 1)) := by
  refine shapeCast_apply y _ i _ ?_
  have h2 : (i 2).val = 0 := by have : (i 2).val < 1 := (i 2).isLt; omega
  rw [Shape.rowMajor_val_two, Shape.rowMajor_val_three]
  show (i 0).val * 16 + (i 1).val = _
  simp [h2]

theorem wide3_at (y : IVec S2048x16 32) (i : S2048x16x1.Idx) : wide3 y i = y (ix2 (i 0) (i 1)) := by
  refine broadcastInDim_apply _ _ y i _ fun a => ?_
  match a with
  | ⟨0, _⟩ => rfl
  | ⟨1, _⟩ => rfl

/-- The hidden values taken along the rows. -/
def hid : FVec Ideal S2048x16 .f32 :=
  select (named (cast3 (wrapped x))) (Host.gather gather_S2048x4096_S2048x16x1_S2048x16_n_1_0_0_1_2_11 h2 (cast3 (wrapped x)))
    (broadcastInDim S2048x16 ![] bcast_S_S2048x16 (constant S_ .f32 0x7FC00000#32))

/-- The rows of the matrix taken. -/
def taken : FVec Ideal S2048x16x1024 .f32 :=
  select (broadcastInDim S2048x16x1024 ![0, 1] bcast_S2048x16_S2048x16x1024_0_1 (named (wide3 (wrapped x))))
    (Host.gather gather_S4096x1024_S2048x16x1_S2048x16x1024_2_0_n_n_0_2_11024 D (wide3 (wrapped x)))
    (broadcastInDim S2048x16x1024 ![] bcast_S_S2048x16x1024 (constant S_ .f32 0x7FC00000#32))

/-- The gated weights. -/
def gated (h : FVec Ideal S2048x16 .f32) : FVec Ideal S2048x16 .f32 :=
  mulf (mulf h (Host.divf (broadcastInDim S2048x16 ![] bcast_S_S2048x16 (constant S_ .f32 0x3F800000#32))
    (addf (broadcastInDim S2048x16 ![] bcast_S_S2048x16 (constant S_ .f32 0x3F800000#32)) (Host.exp (Host.negf h))))) p

theorem res_eq (m : (ℓ : Loc nD τ sig) → Buf (Elt Ideal) ℓ) (d : Dev nD) :
    Value.res_main_v4 m d = Host.dotGeneral dot_S2048x16_S2048x16x1024_S2048x1024_1_1_n_2_0_0 none
      (gated (m ((d.tc : Thread nD τ).loc main_arg2)) (hid (x := m ((d.tc : Thread nD τ).loc main_arg1)) (m ((d.tc : Thread nD τ).loc main_arg0))))
      (taken (x := m ((d.tc : Thread nD τ).loc main_arg1)) (m ((d.tc : Thread nD τ).loc main_arg3))) := rfl

theorem hid_at (hx : ∀ i, (x i).toNat < 4096) (t : Fin 2048) (k : Fin 16) : hid (x := x) h2 (ix2 t k) = h2 (ix2 t ⟨(x (ix2 t k)).toNat, hx _⟩) := by
  have hc : ∀ i, (cast3 x i).toNat < 4096 := fun i => by rw [cast3_at]; exact hx _
  unfold hid
  rw [wrapped_eq hx, select_apply, named_eq _ hc, select_one, hidden_at h2 _ _ _ (hc _)]
  exact congrArg (fun v => h2 (ix2 t v)) (Fin.ext (congrArg BitVec.toNat (cast3_at x (ix3 t k 0))))

theorem taken_at (hx : ∀ i, (x i).toNat < 4096) (t : Fin 2048) (k : Fin 16) (c : Fin 1024) :
    taken (x := x) D (ix3 t k c) = D (ix2 ⟨(x (ix2 t k)).toNat, hx _⟩ c) := by
  have hc : ∀ i, (wide3 x i).toNat < 4096 := fun i => by rw [wide3_at]; exact hx _
  unfold taken
  rw [wrapped_eq hx, select_apply,
    broadcastInDim_apply _ _ _ (ix3 t k c) (ix2 t k) (fun a => by match a with | ⟨0, _⟩ => rfl | ⟨1, _⟩ => rfl),
    named_eq _ hc, select_one, matrix_at D _ _ _ _ (hc _)]
  exact congrArg (fun v => D (ix2 v c)) (Fin.ext (congrArg BitVec.toNat (wide3_at x (ix3 t k 0))))

/-- The sum over the sixteen experts. -/
theorem dot_at (A : FVec Ideal S2048x16 .f32) (B : FVec Ideal S2048x16x1024 .f32) (t : Fin 2048) (c : Fin 1024) :
    (Host.dotGeneral dot_S2048x16_S2048x16x1024_S2048x1024_1_1_n_2_0_0 none A B (ix2 t c) : EReal) = ∑ k : Fin 16, (A (ix2 t k) : EReal) * (B (ix3 t k c) : EReal) := by
  show FloatOps.dotGeneral _ none _ A B (ix2 t c) = _
  rw [Ideal.dotGeneral_apply, ← Equiv.sum_comp (contrEquiv1 dot_S2048x16_S2048x16x1024_S2048x1024_1_1_n_2_0_0 16 rfl rfl).symm]
  refine Finset.sum_congr rfl fun k _ => ?_
  have hk := contrEquiv1_symm_val dot_S2048x16_S2048x16x1024_S2048x1024_1_1_n_2_0_0 16 rfl rfl k
  have l : dot_S2048x16_S2048x16x1024_S2048x1024_1_1_n_2_0_0.lhsIdx (ix2 t c) ((contrEquiv1 _ 16 rfl rfl).symm k) = ix2 t k := by
    funext a; apply Fin.ext
    match a with
    | ⟨0, _⟩ => rfl
    | ⟨1, _⟩ => exact hk
  have r : dot_S2048x16_S2048x16x1024_S2048x1024_1_1_n_2_0_0.rhsIdx (ix2 t c) ((contrEquiv1 _ 16 rfl rfl).symm k) = ix3 t k c := by
    funext a; apply Fin.ext
    match a with
    | ⟨0, _⟩ => rfl
    | ⟨1, _⟩ => exact hk
    | ⟨2, _⟩ => rfl
  rw [l, r]

/-- Over real arguments with expert numbers in range. -/
theorem result_at (m : (ℓ : Loc nD τ sig) → Buf (Elt Ideal) ℓ) (d : Dev nD) (hr : S2048x4096.Idx → ℝ) (pr : S2048x16.Idx → ℝ) (Dr : S4096x1024.Idx → ℝ)
    (hx : ∀ i, (m ((d.tc : Thread nD τ).loc main_arg1) i : BitVec 32).toNat < 4096)
    (hh : m ((d.tc : Thread nD τ).loc main_arg0) = fun i => ((hr i : ℝ) : EReal)) (hp : m ((d.tc : Thread nD τ).loc main_arg2) = fun i => ((pr i : ℝ) : EReal))
    (hD : m ((d.tc : Thread nD τ).loc main_arg3) = fun i => ((Dr i : ℝ) : EReal)) (t : Fin 2048) (c : Fin 1024) :
    @Eq EReal (Value.res_main_v4 m d (ix2 t c))
      (∑ k : Fin 16, (Cert.KernelIdeal.Sck.gateR (hr (ix2 t ⟨(m ((d.tc : Thread nD τ).loc main_arg1) (ix2 t k) : BitVec 32).toNat, hx _⟩)) (pr (ix2 t k)) : EReal)
          * (Dr (ix2 ⟨(m ((d.tc : Thread nD τ).loc main_arg1) (ix2 t k) : BitVec 32).toNat, hx _⟩ c) : EReal)) := by
  rw [res_eq, dot_at]
  refine Finset.sum_congr rfl fun k _ => ?_
  have g : ∀ (h : FVec Ideal S2048x16 .f32) (p : FVec Ideal S2048x16 .f32) (i : S2048x16.Idx), (gated p h i : EReal)
      = (h i : EReal) * Ideal.div (Ideal.ofBits .f32 0x3F800000#32) (Ideal.ofBits .f32 0x3F800000#32 + Ideal.exp (-(h i : EReal))) * (p i : EReal) := fun _ _ _ => rfl
  rw [g, hid_at _ hx, taken_at _ hx, hh, hp, hD]
  exact congrArg (· * _) (Cert.KernelIdeal.Sck.silu_real _ _)

end Cert.ReferenceIdeal.Combined

end
-- ==== Proof.HiddenValue.lean ====
/- What the first call computes over real arguments: a token's row times the up projection, each place times its logistic, times the
   down projection. -/
module

public import proofs.«01_k».proof.Proof.Gen.HiddenIdeal.Value
public import proofs.«01_k».proof.Proof.Gen.HiddenReferenceIdeal.Run
public import Idealize.ShloMosaic.Lib.MatmulPlain
public import Idealize.ShloMosaic.Lib.IdealHost
public import Idealize.ShloMosaic.Lib.Pipeline.ValueKit
public import Idealize.ShloMosaic.Lib.ValueIdx
public import Idealize.ShloMosaic.Lib.ValueLayout

@[expose] public section

noncomputable section

namespace Cert.HiddenIdeal.Sck

open Cert.HiddenIdeal Cert.HiddenIdeal.Gen
open Idealize.ShloMosaic Idealize.ShloMosaic.TcCoe Idealize.SL.Sem
open scoped BigOperators

/-- One place of the middle layer: the sum `s` times its logistic. -/
def mid (x : Fin 1024 → EReal) (w : Fin 1024 → EReal) : EReal := (∑ k, x k * w k) * Ideal.logistic (∑ k, x k * w k)

/-- The call's result at an element, from the token's row, the up projection and the column of the down projection. -/
def hid (x : Fin 1024 → EReal) (W : Fin 1024 → Fin 4096 → EReal) (Z : Fin 4096 → EReal) : EReal := ∑ e, mid x (fun k => W k e) * Z e

theorem zero_f32 {s : Shape} (i : s.Idx) : ((constant s .f32 0x00000000#32 : FVec Ideal s .f32) i : EReal) = 0 := Ideal.ofBits_zero_f32

/-- The block at an element. -/
theorem pay_at (X : FVec Ideal S256x1024 .f32) (Y : FVec Ideal S1024x4096 .bf16) (Z : FVec Ideal S4096x1024 .bf16) (r : Fin 256) (c : Fin 1024) :
    @Eq EReal (k0_pay1 (F := Ideal) X Y Z (ValueIdx.ix2 r c))
      (hid (fun k => X (ValueIdx.ix2 r k)) (fun k e => Y (ValueIdx.ix2 k e)) (fun e => Z (ValueIdx.ix2 e c))) := by
  unfold k0_pay1
  simp only [shapeCast_self]
  refine (Ideal.matmul_plain_apply (M := 256) (K := 4096) (N := 1024) none _ _ _ r c).trans ?_
  rw [zero_f32, zero_add]
  refine Finset.sum_congr rfl fun e _ => congrArg (fun v : EReal => v * _) ?_
  have q : @Eq EReal (matmul dot_S256x1024_S1024x4096_S256x4096_1_0_0_1_n_n none (truncf .bf16 X bitsLt_bf16_f32) Y (constant S256x4096 .f32 0x00000000#32) (ValueIdx.ix2 r e))
      (∑ k : Fin 1024, (X (ValueIdx.ix2 r k) : EReal) * (Y (ValueIdx.ix2 k e) : EReal)) := by
    refine (Ideal.matmul_plain_apply (M := 256) (K := 1024) (N := 4096) none _ _ _ r e).trans ?_
    rw [zero_f32, zero_add]
    rfl
  exact congrArg (fun v : EReal => v * Ideal.logistic v) q

variable (m : (ℓ : Loc nD τ sig) → Buf (Elt Ideal) ℓ) (c : Dev nD)

theorem hz : (![0, 0] : Fin 2 → Nat) = fun _ => 0 := funext fun a => by fin_cases a <;> rfl

theorem tr0 : ∀ t : Fin cfg0.N, win0_0.index t (0 : Fin 2) = t.val ∧ win0_0.index t (1 : Fin 2) = 0 := (by decide +kernel : ∀ t : Fin grid0.N, _)
theorem tr1 : ∀ t : Fin cfg0.N, win0_1.index t (0 : Fin 2) = 0 ∧ win0_1.index t (1 : Fin 2) = 0 := (by decide +kernel : ∀ t : Fin grid0.N, _)
theorem tr2 : ∀ t : Fin cfg0.N, win0_2.index t (0 : Fin 2) = 0 ∧ win0_2.index t (1 : Fin 2) = 0 := (by decide +kernel : ∀ t : Fin grid0.N, _)
theorem tr3 : ∀ t : Fin cfg0.N, win0_3.index t (0 : Fin 2) = t.val ∧ win0_3.index t (1 : Fin 2) = 0 := (by decide +kernel : ∀ t : Fin grid0.N, _)

/-- The token that row `r` of block `t` is. -/
def tok (t : Fin cfg0.N) (r : Fin 256) : Fin 2048 := ⟨t.val * 256 + r.val, by have : t.val < 8 := t.isLt; have := r.isLt; omega⟩

theorem V_x : V m c main_v0 = shapeCast S2048x1024 (m ((c : Thread nD τ).loc main_arg0) : FVec Ideal S1x2048x1024 .f32) shapeCasts_S1x2048x1024_S2048x1024 := by
  show StableHlo.after hostOps0 (fun b => m (c, b)) main_v0 = _
  simp only [hostOps0]; after_results <;> rfl

theorem V_up : V m c main_v1 = (truncf .bf16 (m ((c : Thread nD τ).loc main_arg1) : FVec Ideal S1024x4096 .f32) bitsLt_bf16_f32 : FVec Ideal S1024x4096 .bf16) := by
  show StableHlo.after hostOps0 (fun b => m (c, b)) main_v1 = _
  simp only [hostOps0]; after_results <;> rfl

theorem V_down : V m c main_v2 = (truncf .bf16 (m ((c : Thread nD τ).loc main_arg2) : FVec Ideal S4096x1024 .f32) bitsLt_bf16_f32 : FVec Ideal S4096x1024 .bf16) := by
  show StableHlo.after hostOps0 (fun b => m (c, b)) main_v2 = _
  simp only [hostOps0]; after_results <;> rfl

theorem blk_x (t : Fin cfg0.N) (r : Fin 256) (k : Fin 1024) :
    @Eq EReal (iblk m c 0 t (ValueIdx.ix2 r k)) (m ((c : Thread nD τ).loc main_arg0) (ValueIdx.ix3 (0 : Fin 1) (tok t r) k)) := by
  have e : ((cfg0.win 0).blk t).view.emb (ValueIdx.ix2 r k) = ValueIdx.ix2 (tok t r) k := by
    obtain ⟨e0, e1⟩ := tr0 t
    funext a; apply Fin.ext
    match a with
    | ⟨0, _⟩ => show win0_0.index t (0 : Fin 2) * 256 + 1 * r.val = t.val * 256 + r.val; omega
    | ⟨1, _⟩ => show win0_0.index t (1 : Fin 2) * 1024 + 1 * k.val = k.val; omega
  show V m c main_v0 (((cfg0.win 0).blk t).view.emb (ValueIdx.ix2 r k)) = _
  rw [e, V_x]
  exact ValueIdx.shapeCast_1ab_ab_apply (a := 2048) (b := 1024) _ _ _ _

theorem blk_up (t : Fin cfg0.N) (k : Fin 1024) (e : Fin 4096) :
    @Eq EReal (iblk m c 1 t (ValueIdx.ix2 k e)) (m ((c : Thread nD τ).loc main_arg1) (ValueIdx.ix2 k e)) := by
  have h : ((cfg0.win 1).blk t).view.emb (ValueIdx.ix2 k e) = ValueIdx.ix2 k e := by
    obtain ⟨e0, e1⟩ := tr1 t
    funext a; apply Fin.ext
    match a with
    | ⟨0, _⟩ => show win0_1.index t (0 : Fin 2) * 1024 + 1 * k.val = k.val; omega
    | ⟨1, _⟩ => show win0_1.index t (1 : Fin 2) * 4096 + 1 * e.val = e.val; omega
  show V m c main_v1 (((cfg0.win 1).blk t).view.emb (ValueIdx.ix2 k e)) = _
  rw [h, V_up]
  rfl

theorem blk_down (t : Fin cfg0.N) (e : Fin 4096) (k : Fin 1024) :
    @Eq EReal (iblk m c 2 t (ValueIdx.ix2 e k)) (m ((c : Thread nD τ).loc main_arg2) (ValueIdx.ix2 e k)) := by
  have h : ((cfg0.win 2).blk t).view.emb (ValueIdx.ix2 e k) = ValueIdx.ix2 e k := by
    obtain ⟨e0, e1⟩ := tr2 t
    funext a; apply Fin.ext
    match a with
    | ⟨0, _⟩ => show win0_2.index t (0 : Fin 2) * 4096 + 1 * e.val = e.val; omega
    | ⟨1, _⟩ => show win0_2.index t (1 : Fin 2) * 1024 + 1 * k.val = k.val; omega
  show V m c main_v2 (((cfg0.win 2).blk t).view.emb (ValueIdx.ix2 e k)) = _
  rw [h, V_down]
  rfl

theorem out_eq (x0 : FVec Ideal S256x1024 .f32) (x1 : FVec Ideal S1024x4096 .bf16) (x2 : FVec Ideal S4096x1024 .bf16) :
    out0_3 (F := Ideal) x0 x1 x2 = (k0_pay1 (F := Ideal) x0 x1 x2 : FVec Ideal S256x1024 .f32) := by
  unfold out0_3
  rw [View.canon_unit_zero hz, View.ld_unit_zero hz, View.ld_unit_zero hz, View.ld_unit_zero hz]

/-- What the call leaves in its result. -/
def hVal : S2048x1024.Idx → EReal := fun j =>
  hid (fun k => m ((c : Thread nD τ).loc main_arg0) (ValueIdx.ix3 (0 : Fin 1) (j 0) k)) (fun k e => m ((c : Thread nD τ).loc main_arg1) (ValueIdx.ix2 k e))
    (fun e => m ((c : Thread nD τ).loc main_arg2) (ValueIdx.ix2 e (j 1)))

theorem blk_out (t : Fin cfg0.N) (y0 : Fin 256) (y1 : Fin 1024) :
    out0_3 (F := Ideal) (iblk m c 0 t) (iblk m c 1 t) (iblk m c 2 t) (ValueIdx.ix2 y0 y1) = hVal m c (ValueIdx.ix2 (tok t y0) y1) := by
  rw [out_eq]
  refine (pay_at _ _ _ y0 y1).trans ?_
  have h0 : (fun k => iblk m c 0 t (ValueIdx.ix2 y0 k) : Fin 1024 → EReal) = fun k => m ((c : Thread nD τ).loc main_arg0) (ValueIdx.ix3 (0 : Fin 1) (tok t y0) k) :=
    funext fun k => blk_x m c t y0 k
  have h1 : (fun k e => iblk m c 1 t (ValueIdx.ix2 k e) : Fin 1024 → Fin 4096 → EReal) = fun k e => m ((c : Thread nD τ).loc main_arg1) (ValueIdx.ix2 k e) :=
    funext fun k => funext fun e => blk_up m c t k e
  have h2 : (fun e => iblk m c 2 t (ValueIdx.ix2 e y1) : Fin 4096 → EReal) = fun e => m ((c : Thread nD τ).loc main_arg2) (ValueIdx.ix2 e y1) :=
    funext fun e => blk_down m c t e y1
  exact congr (congr (congrArg hid h0) h1) h2

theorem arr_hidden : (dats m 0 c).arrAt 3 cfg0.N = hVal m c := by
  refine (dats m 0 c).arrAt_eq_of_covers (3 : Fin 4) (hVal m c) (by decide +kernel) fun t hf y => ?_
  obtain ⟨y0, y1, rfl⟩ : ∃ (r : Fin 256) (k : Fin 1024), y = ValueIdx.ix2 r k := ⟨y 0, y 1, by funext a; match a with | ⟨0, _⟩ => rfl | ⟨1, _⟩ => rfl⟩
  have e : ((cfg0.win 3).blk t).view.emb (ValueIdx.ix2 y0 y1) = ValueIdx.ix2 (tok t y0) y1 := by
    obtain ⟨e0, e1⟩ := tr3 t
    funext a; apply Fin.ext
    match a with
    | ⟨0, _⟩ => show win0_3.index t (0 : Fin 2) * 256 + 1 * y0.val = t.val * 256 + y0.val; omega
    | ⟨1, _⟩ => show win0_3.index t (1 : Fin 2) * 1024 + 1 * y1.val = y1.val; omega
  refine Eq.trans ?_ (congrArg (hVal m c) e.symm)
  refine Eq.trans ?_ (blk_out m c t y0 y1)
  refine Eq.trans ?_ (congrFun (after0_3 m c t) _)
  rfl

end Cert.HiddenIdeal.Sck

namespace Cert.HiddenReferenceIdeal.Sck

open Cert.HiddenReferenceIdeal Cert.HiddenReferenceIdeal.Gen
open Idealize.ShloMosaic hiding ix1 ix2 ix3 ix4
open Idealize.ShloMosaic.TcCoe Idealize.SL.Sem
open Idealize.ShloMosaic.ValueIdx
open scoped BigOperators

theorem up_at (A : FVec Ideal S1x2048x1024 .f32) (B : FVec Ideal S1024x4096 .f32) (t : Fin 2048) (e : Fin 4096) :
    (Host.dotGeneral dot_S1x2048x1024_S1024x4096_S1x2048x4096_2_0_01_1_n_n none A B (ix3 (0 : Fin 1) t e) : EReal)
      = ∑ k : Fin 1024, (A (ix3 (0 : Fin 1) t k) : EReal) * (B (ix2 k e) : EReal) := by
  show FloatOps.dotGeneral _ none _ A B (ix3 (0 : Fin 1) t e) = _
  rw [Ideal.dotGeneral_apply, ← Equiv.sum_comp (contrEquiv1 dot_S1x2048x1024_S1024x4096_S1x2048x4096_2_0_01_1_n_n 1024 rfl rfl).symm]
  refine Finset.sum_congr rfl fun k _ => ?_
  have hk := contrEquiv1_symm_val dot_S1x2048x1024_S1024x4096_S1x2048x4096_2_0_01_1_n_n 1024 rfl rfl k
  have l : dot_S1x2048x1024_S1024x4096_S1x2048x4096_2_0_01_1_n_n.lhsIdx (ix3 (0 : Fin 1) t e) ((contrEquiv1 _ 1024 rfl rfl).symm k) = ix3 (0 : Fin 1) t k := by
    funext a; apply Fin.ext
    match a with
    | ⟨0, _⟩ => rfl
    | ⟨1, _⟩ => rfl
    | ⟨2, _⟩ => exact hk
  have r : dot_S1x2048x1024_S1024x4096_S1x2048x4096_2_0_01_1_n_n.rhsIdx (ix3 (0 : Fin 1) t e) ((contrEquiv1 _ 1024 rfl rfl).symm k) = ix2 k e := by
    funext a; apply Fin.ext
    match a with
    | ⟨0, _⟩ => exact hk
    | ⟨1, _⟩ => rfl
  rw [l, r]

theorem down_at (A : FVec Ideal S1x2048x4096 .f32) (B : FVec Ideal S4096x1024 .f32) (t : Fin 2048) (c : Fin 1024) :
    (Host.dotGeneral dot_S1x2048x4096_S4096x1024_S1x2048x1024_2_0_01_1_n_n none A B (ix3 (0 : Fin 1) t c) : EReal)
      = ∑ e : Fin 4096, (A (ix3 (0 : Fin 1) t e) : EReal) * (B (ix2 e c) : EReal) := by
  show FloatOps.dotGeneral _ none _ A B (ix3 (0 : Fin 1) t c) = _
  rw [Ideal.dotGeneral_apply, ← Equiv.sum_comp (contrEquiv1 dot_S1x2048x4096_S4096x1024_S1x2048x1024_2_0_01_1_n_n 4096 rfl rfl).symm]
  refine Finset.sum_congr rfl fun k _ => ?_
  have hk := contrEquiv1_symm_val dot_S1x2048x4096_S4096x1024_S1x2048x1024_2_0_01_1_n_n 4096 rfl rfl k
  have l : dot_S1x2048x4096_S4096x1024_S1x2048x1024_2_0_01_1_n_n.lhsIdx (ix3 (0 : Fin 1) t c) ((contrEquiv1 _ 4096 rfl rfl).symm k) = ix3 (0 : Fin 1) t k := by
    funext a; apply Fin.ext
    match a with
    | ⟨0, _⟩ => rfl
    | ⟨1, _⟩ => rfl
    | ⟨2, _⟩ => exact hk
  have r : dot_S1x2048x4096_S4096x1024_S1x2048x1024_2_0_01_1_n_n.rhsIdx (ix3 (0 : Fin 1) t c) ((contrEquiv1 _ 4096 rfl rfl).symm k) = ix2 k c := by
    funext a; apply Fin.ext
    match a with
    | ⟨0, _⟩ => exact hk
    | ⟨1, _⟩ => rfl
  rw [l, r]

/-- The reference's term at an element. -/
theorem term_at (x : FVec Ideal S1x2048x1024 .f32) (W : FVec Ideal S1024x4096 .f32) (Z : FVec Ideal S4096x1024 .f32) (t : Fin 2048) (c : Fin 1024) :
    @Eq EReal (shapeCast S2048x1024 (Host.dotGeneral dot_S1x2048x4096_S4096x1024_S1x2048x1024_2_0_01_1_n_n none
        (mulf (Host.dotGeneral dot_S1x2048x1024_S1024x4096_S1x2048x4096_2_0_01_1_n_n none x W)
          (Host.divf (broadcastInDim S1x2048x4096 ![] bcast_S_S1x2048x4096 (constant S_ .f32 0x3F800000#32))
            (addf (broadcastInDim S1x2048x4096 ![] bcast_S_S1x2048x4096 (constant S_ .f32 0x3F800000#32))
              (Host.exp (Host.negf (Host.dotGeneral dot_S1x2048x1024_S1024x4096_S1x2048x4096_2_0_01_1_n_n none x W)))))) Z)
        shapeCasts_S1x2048x1024_S2048x1024 (ix2 t c))
      (Cert.HiddenIdeal.Sck.hid (fun k => x (ix3 (0 : Fin 1) t k)) (fun k e => W (ix2 k e)) (fun e => Z (ix2 e c))) := by
  rw [shapeCast_1ab_ab_apply, down_at]
  refine Finset.sum_congr rfl fun e _ => congrArg (fun v : EReal => v * _) ?_
  have q := up_at x W t e
  have f : ∀ s : EReal, s * Ideal.div (Ideal.ofBits .f32 0x3F800000#32) (Ideal.ofBits .f32 0x3F800000#32 + Ideal.exp (-s)) = s * Ideal.logistic s :=
    fun s => by rw [Ideal.ofBits_one_f32]; rfl
  refine Eq.trans ?_ ((f _).trans (congrArg (fun s : EReal => s * Ideal.logistic s) q))
  rfl

/-- The reference's term as one function. -/
theorem term_eq (x : FVec Ideal S1x2048x1024 .f32) (W : FVec Ideal S1024x4096 .f32) (Z : FVec Ideal S4096x1024 .f32) :
    (shapeCast S2048x1024 (Host.dotGeneral dot_S1x2048x4096_S4096x1024_S1x2048x1024_2_0_01_1_n_n none
        (mulf (Host.dotGeneral dot_S1x2048x1024_S1024x4096_S1x2048x4096_2_0_01_1_n_n none x W)
          (Host.divf (broadcastInDim S1x2048x4096 ![] bcast_S_S1x2048x4096 (constant S_ .f32 0x3F800000#32))
            (addf (broadcastInDim S1x2048x4096 ![] bcast_S_S1x2048x4096 (constant S_ .f32 0x3F800000#32))
              (Host.exp (Host.negf (Host.dotGeneral dot_S1x2048x1024_S1024x4096_S1x2048x4096_2_0_01_1_n_n none x W)))))) Z)
        shapeCasts_S1x2048x1024_S2048x1024 : FVec Ideal S2048x1024 .f32)
      = fun j => Cert.HiddenIdeal.Sck.hid (fun k => x (ix3 (0 : Fin 1) (j 0) k)) (fun k e => W (ix2 k e)) (fun e => Z (ix2 e (j 1))) := by
  funext j
  obtain ⟨t, c, rfl⟩ : ∃ (t : Fin 2048) (c : Fin 1024), j = ix2 t c := ⟨j 0, j 1, by funext a; match a with | ⟨0, _⟩ => rfl | ⟨1, _⟩ => rfl⟩
  exact term_at x W Z t c

end Cert.HiddenReferenceIdeal.Sck

end
-- ==== Proof.RouteRounds.lean ====
/- The values the routing call's body works with, named over its similarities: a row's largest value and its first place, the row with
   that place dropped, the sums and joint numbers of the places found, and what is read at them; and that the printed values are these. -/
module

public import proofs.«01_k».proof.Proof.Gen.RouteIdeal.Frame
public import Idealize.ShloMosaic.Lib.Pipeline.ValueKit

@[expose] public section

noncomputable section

namespace Cert.RouteIdeal.Sck

open Cert.RouteIdeal Cert.RouteIdeal.Gen
open Idealize.ShloMosaic Idealize.SL.Sem

/-- The shape of `n` columns over a block's rows. -/
abbrev Wide (n : Nat) : Shape := ⟨2, ![256, n]⟩

/-- The shape facts the rounds use. -/
class Fits (n : Nat) : Prop where
  red : (Wide n).Reduces [1] S256
  io : (Wide n).Iotas .tc 32 [1]
  bc : S256x1.Broadcasts (Wide n)

instance : Fits 64 := ⟨reduces_S256x64_S256, iota_S256x64_d1_w32, broadcasts_S256x1_S256x64⟩
instance : Fits 16 := ⟨reduces_S256x16_S256, iota_S256x16_d1_w32, broadcasts_S256x1_S256x16⟩

variable {F : FTy → Type} [FloatOps F] {n : Nat} [Fits n]

/-- Each row's largest value, without its column axis. -/
def vred (s : FVec F (Wide n) .f32) : FVec F S256 .f32 := multiReduction .maximumf [1] S256 s 0xFF800000#32 Fits.red (.inl rfl) rfl
/-- Each row's largest value. -/
def vmax (s : FVec F (Wide n) .f32) : FVec F S256x1 .f32 := shapeCast S256x1 (vred s) shapeCasts_S256_S256x1
/-- Each row's largest value along the row. -/
def vmaxB (s : FVec F (Wide n) .f32) : FVec F (Wide n) .f32 := broadcastTo (Wide n) (vmax s) Fits.bc
/-- The column numbers. -/
def vio (n : Nat) [Fits n] : IVec (Wide n) 32 := iota .tc (Wide n) 32 [1] Fits.io
/-- Whether a place holds its row's largest value. -/
def vhit (s : FVec F (Wide n) .f32) : IVec (Wide n) 1 := cmpf .oeq s (vmaxB s)
/-- A place's number if it holds its row's largest value, the width otherwise. -/
def vcand (s : FVec F (Wide n) .f32) : IVec (Wide n) 32 := select (vhit s) (vio n) (broadcast (Wide n) (BitVec.ofNat 32 n))
/-- The first place of each row's largest value, without its column axis. -/
def vminr (s : FVec F (Wide n) .f32) : IVec S256 32 := multiReductionI .minsi [1] S256 (vcand s) 2147483647#32 Fits.red rfl
/-- The first place of each row's largest value. -/
def vpos (s : FVec F (Wide n) .f32) : IVec S256x1 32 := shapeCast S256x1 (vminr s) shapeCasts_S256_S256x1
/-- That place along the row. -/
def vposB (s : FVec F (Wide n) .f32) : IVec (Wide n) 32 := broadcastTo (Wide n) (vpos s) Fits.bc
/-- Whether a place is that place. -/
def vat (s : FVec F (Wide n) .f32) : IVec (Wide n) 1 := cmpi .eq (vio n) (vposB s)
/-- The rows with that place dropped. -/
def vmask (s : FVec F (Wide n) .f32) : FVec F (Wide n) .f32 := select (vat s) (broadcast (Wide n) (Scalar.ofBits .f32 0xFF800000#32 : F .f32)) s
/-- What stands in `a` at the first place of each row's largest value. -/
def vlook (s : FVec F (Wide n) .f32) (a : IVec (Wide n) 32) : IVec S256x1 32 :=
  shapeCast S256x1 (multiReductionI .add [1] S256 (select (vat s) a (broadcast (Wide n) 0#32)) 0#32 Fits.red rfl) shapeCasts_S256_S256x1

/-- A sum of two largest values. -/
def add2 (a b : FVec F S256x64 .f32) : FVec F S256x1 .f32 := addf (vmax (n := 64) a) (vmax (n := 64) b)
/-- The joint number of two places. -/
def code (a b : FVec F S256x64 .f32) : IVec S256x1 32 := addi (muli (vpos (n := 64) a) (broadcast S256x1 64#32)) (vpos (n := 64) b)
/-- The similarities with one, two, three places dropped. -/
def m1 (a : FVec F (Wide n) .f32) : FVec F (Wide n) .f32 := vmask a
def m2 (a : FVec F (Wide n) .f32) : FVec F (Wide n) .f32 := vmask (m1 a)
def m3 (a : FVec F (Wide n) .f32) : FVec F (Wide n) .f32 := vmask (m2 a)

/-- The sixteen sums of the four largest values of both halves. -/
def sums (a b : FVec F S256x64 .f32) : FVec F S256x16 .f32 :=
  concatenate S256x16 1 [⟨S256x1, add2 a b⟩, ⟨S256x1, add2 a (m1 b)⟩, ⟨S256x1, add2 a (m2 b)⟩, ⟨S256x1, add2 a (m3 b)⟩, ⟨S256x1, add2 (m1 a) b⟩, ⟨S256x1, add2 (m1 a) (m1 b)⟩, ⟨S256x1, add2 (m1 a) (m2 b)⟩, ⟨S256x1, add2 (m1 a) (m3 b)⟩, ⟨S256x1, add2 (m2 a) b⟩, ⟨S256x1, add2 (m2 a) (m1 b)⟩, ⟨S256x1, add2 (m2 a) (m2 b)⟩, ⟨S256x1, add2 (m2 a) (m3 b)⟩, ⟨S256x1, add2 (m3 a) b⟩, ⟨S256x1, add2 (m3 a) (m1 b)⟩, ⟨S256x1, add2 (m3 a) (m2 b)⟩, ⟨S256x1, add2 (m3 a) (m3 b)⟩] concatenates_S256x1_S256x1_S256x1_S256x1_S256x1_S256x1_S256x1_S256x1_S256x1_S256x1_S256x1_S256x1_S256x1_S256x1_S256x1_S256x1_S256x16_d1
/-- The sixteen joint numbers of their places. -/
def codes (a b : FVec F S256x64 .f32) : IVec S256x16 32 :=
  concatenate S256x16 1 [⟨S256x1, code a b⟩, ⟨S256x1, code a (m1 b)⟩, ⟨S256x1, code a (m2 b)⟩, ⟨S256x1, code a (m3 b)⟩, ⟨S256x1, code (m1 a) b⟩, ⟨S256x1, code (m1 a) (m1 b)⟩, ⟨S256x1, code (m1 a) (m2 b)⟩, ⟨S256x1, code (m1 a) (m3 b)⟩, ⟨S256x1, code (m2 a) b⟩, ⟨S256x1, code (m2 a) (m1 b)⟩, ⟨S256x1, code (m2 a) (m2 b)⟩, ⟨S256x1, code (m2 a) (m3 b)⟩, ⟨S256x1, code (m3 a) b⟩, ⟨S256x1, code (m3 a) (m1 b)⟩, ⟨S256x1, code (m3 a) (m2 b)⟩, ⟨S256x1, code (m3 a) (m3 b)⟩] concatenates_S256x1_S256x1_S256x1_S256x1_S256x1_S256x1_S256x1_S256x1_S256x1_S256x1_S256x1_S256x1_S256x1_S256x1_S256x1_S256x1_S256x16_d1
/-- The four largest sums. -/
def four (s : FVec F S256x16 .f32) : FVec F S256x4 .f32 :=
  concatenate S256x4 1 [⟨S256x1, vmax (n := 16) s⟩, ⟨S256x1, vmax (n := 16) (m1 s)⟩, ⟨S256x1, vmax (n := 16) (m2 s)⟩, ⟨S256x1, vmax (n := 16) (m3 s)⟩] concatenates_S256x1_S256x1_S256x1_S256x1_S256x4_d1
/-- The exponentials of a row less its largest value. -/
def ex (s : FVec F S256x4 .f32) : FVec F S256x4 .f32 :=
  exp (subf s (broadcastTo S256x4 (shapeCast S256x1 (multiReduction .maximumf [1] S256 s 0xFF800000#32 reduces_S256x4_S256 (.inl rfl) rfl) shapeCasts_S256_S256x1) broadcasts_S256x1_S256x4))
/-- Those over their row's sum. -/
def pw (s : FVec F S256x4 .f32) : FVec F S256x4 .f32 :=
  divf (ex s) (broadcastTo S256x4 (shapeCast S256x1 (multiReduction .add [1] S256 (ex s) 0x00000000#32 reduces_S256x4_S256 (.inl rfl) rfl) shapeCasts_S256_S256x1) broadcasts_S256x1_S256x4)

/-- The queries of a block. -/
def qry (x0 : Vec F S256x1024 .f32) (x1 : Vec F S1024x4096 .bf16) : FVec F S256x4096 .f32 :=
  matmul dot_S256x1024_S1024x4096_S256x4096_1_0_0_1_n_n none (truncf .bf16 (View.ld x0 r0_0) bitsLt_bf16_f32) (shapeCast S1024x4096 (View.ld x1 r0_1) shapeCasts_S1024x4096_S1024x4096) (constant S256x4096 .f32 0x00000000#32)
/-- A part of the queries against one table of keys. -/
def simOf (o : Fin 2 → Nat) (h : S256x4096.Slices o S256x512) (q : FVec F S256x4096 .f32) (k : Vec F S1x1x512x64 .bf16) : FVec F S256x64 .f32 :=
  matmul dot_S256x512_S512x64_S256x64_1_0_0_1_n_n none (truncf .bf16 (extractStridedSlice S256x512 o q h) bitsLt_bf16_f32) (shapeCast S512x64 k shapeCasts_S1x1x512x64_S512x64) (constant S256x64 .f32 0x00000000#32)

/-- Head 0, half 0. -/
def S00 (x0 : Vec F S256x1024 .f32) (x1 : Vec F S1024x4096 .bf16) (x2 : Vec F S2x4x512x64 .bf16) : FVec F S256x64 .f32 :=
  simOf ![0, 0] slices_S256x4096_o0_0_S256x512 (qry x0 x1) (View.ld x2 r0_4)

/-- Head 0, half 1. -/
def S10 (x0 : Vec F S256x1024 .f32) (x1 : Vec F S1024x4096 .bf16) (x2 : Vec F S2x4x512x64 .bf16) : FVec F S256x64 .f32 :=
  simOf ![0, 2048] slices_S256x4096_o0_2048_S256x512 (qry x0 x1) (View.ld x2 r0_5)

/-- Head 1, half 0. -/
def S01 (x0 : Vec F S256x1024 .f32) (x1 : Vec F S1024x4096 .bf16) (x2 : Vec F S2x4x512x64 .bf16) : FVec F S256x64 .f32 :=
  simOf ![0, 512] slices_S256x4096_o0_512_S256x512 (qry x0 x1) (View.ld x2 r0_6)

/-- Head 1, half 1. -/
def S11 (x0 : Vec F S256x1024 .f32) (x1 : Vec F S1024x4096 .bf16) (x2 : Vec F S2x4x512x64 .bf16) : FVec F S256x64 .f32 :=
  simOf ![0, 2560] slices_S256x4096_o0_2560_S256x512 (qry x0 x1) (View.ld x2 r0_7)

/-- Head 2, half 0. -/
def S02 (x0 : Vec F S256x1024 .f32) (x1 : Vec F S1024x4096 .bf16) (x2 : Vec F S2x4x512x64 .bf16) : FVec F S256x64 .f32 :=
  simOf ![0, 1024] slices_S256x4096_o0_1024_S256x512 (qry x0 x1) (View.ld x2 r0_8)

/-- Head 2, half 1. -/
def S12 (x0 : Vec F S256x1024 .f32) (x1 : Vec F S1024x4096 .bf16) (x2 : Vec F S2x4x512x64 .bf16) : FVec F S256x64 .f32 :=
  simOf ![0, 3072] slices_S256x4096_o0_3072_S256x512 (qry x0 x1) (View.ld x2 r0_9)

/-- Head 3, half 0. -/
def S03 (x0 : Vec F S256x1024 .f32) (x1 : Vec F S1024x4096 .bf16) (x2 : Vec F S2x4x512x64 .bf16) : FVec F S256x64 .f32 :=
  simOf ![0, 1536] slices_S256x4096_o0_1536_S256x512 (qry x0 x1) (View.ld x2 r0_10)

/-- Head 3, half 1. -/
def S13 (x0 : Vec F S256x1024 .f32) (x1 : Vec F S1024x4096 .bf16) (x2 : Vec F S2x4x512x64 .bf16) : FVec F S256x64 .f32 :=
  simOf ![0, 3584] slices_S256x4096_o0_3584_S256x512 (qry x0 x1) (View.ld x2 r0_11)

theorem hz : (![0, 0] : Fin 2 → Nat) = fun _ => 0 := funext fun a => by fin_cases a <;> rfl

variable (x0 : Vec F S256x1024 .f32) (x1 : Vec F S1024x4096 .bf16) (x2 : Vec F S2x4x512x64 .bf16) (x3 : Vec F S4096x1024 .bf16)

theorem f225 : k0_pay225 x0 x1 x2 x3 = (vio 64) := by
  unfold k0_pay225; rfl

theorem f226 : k0_pay226 x0 x1 x2 x3 = (qry x0 x1) := by
  unfold k0_pay226; rfl

theorem f227 : k0_pay227 x0 x1 x2 x3 = (vpos (n := 64) (S00 x0 x1 x2)) := by
  unfold k0_pay227; rfl

theorem f228 : k0_pay228 x0 x1 x2 x3 = (m1 (S00 x0 x1 x2)) := by
  unfold k0_pay228; rfl

theorem f229 : k0_pay229 x0 x1 x2 x3 = (vpos (n := 64) (m1 (S00 x0 x1 x2))) := by
  unfold k0_pay229; rfl

theorem f230 : k0_pay230 x0 x1 x2 x3 = (vposB (n := 64) (m1 (S00 x0 x1 x2))) := by
  unfold k0_pay230; rfl

theorem f231 : k0_pay231 x0 x1 x2 x3 = (vio 64) := by
  unfold k0_pay231; rfl

theorem f232 : k0_pay232 x0 x1 x2 x3 = (vpos (n := 64) (m2 (S00 x0 x1 x2))) := by
  unfold k0_pay232; rw [f225, f228, f230]; rfl

theorem f233 : k0_pay233 x0 x1 x2 x3 = (vpos (n := 64) (m3 (S00 x0 x1 x2))) := by
  unfold k0_pay233; rw [f225, f228, f230]; rfl

theorem f234 : k0_pay234 x0 x1 x2 x3 = (vpos (n := 64) (S10 x0 x1 x2)) := by
  unfold k0_pay234; rw [f226]; rfl

theorem f235 : k0_pay235 x0 x1 x2 x3 = (m1 (S10 x0 x1 x2)) := by
  unfold k0_pay235; rw [f226]; rfl

theorem f236 : k0_pay236 x0 x1 x2 x3 = (vred (n := 64) (m1 (S10 x0 x1 x2))) := by
  unfold k0_pay236; rw [f226]; rfl

theorem f237 : k0_pay237 x0 x1 x2 x3 = (vpos (n := 64) (m1 (S10 x0 x1 x2))) := by
  unfold k0_pay237; rw [f231, f235, f236]; rfl

theorem f238 : k0_pay238 x0 x1 x2 x3 = (vpos (n := 64) (m2 (S10 x0 x1 x2))) := by
  unfold k0_pay238; rw [f231, f235, f236]; rfl

theorem f239 : k0_pay239 x0 x1 x2 x3 = (vpos (n := 64) (m3 (S10 x0 x1 x2))) := by
  unfold k0_pay239; rw [f231, f235, f236]; rfl

theorem f240 : k0_pay240 x0 x1 x2 x3 = (sums (S00 x0 x1 x2) (S10 x0 x1 x2)) := by
  unfold k0_pay240; rw [f225, f228, f230, f231, f226, f235, f236]; rfl

theorem f241 : k0_pay241 x0 x1 x2 x3 = (code (S00 x0 x1 x2) (S10 x0 x1 x2)) := by
  unfold k0_pay241; rw [f227, f234]; rfl

theorem f242 : k0_pay242 x0 x1 x2 x3 = (code (S00 x0 x1 x2) (m1 (S10 x0 x1 x2))) := by
  unfold k0_pay242; rw [f227, f237]; rfl

theorem f243 : k0_pay243 x0 x1 x2 x3 = (code (S00 x0 x1 x2) (m2 (S10 x0 x1 x2))) := by
  unfold k0_pay243; rw [f227, f238]; rfl

theorem f244 : k0_pay244 x0 x1 x2 x3 = (code (S00 x0 x1 x2) (m3 (S10 x0 x1 x2))) := by
  unfold k0_pay244; rw [f227, f239]; rfl

theorem f245 : k0_pay245 x0 x1 x2 x3 = (code (m1 (S00 x0 x1 x2)) (S10 x0 x1 x2)) := by
  unfold k0_pay245; rw [f229, f234]; rfl

theorem f246 : k0_pay246 x0 x1 x2 x3 = (code (m1 (S00 x0 x1 x2)) (m1 (S10 x0 x1 x2))) := by
  unfold k0_pay246; rw [f229, f237]; rfl

theorem f247 : k0_pay247 x0 x1 x2 x3 = (code (m1 (S00 x0 x1 x2)) (m2 (S10 x0 x1 x2))) := by
  unfold k0_pay247; rw [f229, f238]; rfl

theorem f248 : k0_pay248 x0 x1 x2 x3 = (code (m1 (S00 x0 x1 x2)) (m3 (S10 x0 x1 x2))) := by
  unfold k0_pay248; rw [f229, f239]; rfl

theorem f249 : k0_pay249 x0 x1 x2 x3 = (code (m2 (S00 x0 x1 x2)) (S10 x0 x1 x2)) := by
  unfold k0_pay249; rw [f232, f234]; rfl

theorem f250 : k0_pay250 x0 x1 x2 x3 = (code (m2 (S00 x0 x1 x2)) (m1 (S10 x0 x1 x2))) := by
  unfold k0_pay250; rw [f232, f237]; rfl

theorem f251 : k0_pay251 x0 x1 x2 x3 = (code (m2 (S00 x0 x1 x2)) (m2 (S10 x0 x1 x2))) := by
  unfold k0_pay251; rw [f232, f238]; rfl

theorem f252 : k0_pay252 x0 x1 x2 x3 = (code (m2 (S00 x0 x1 x2)) (m3 (S10 x0 x1 x2))) := by
  unfold k0_pay252; rw [f232, f239]; rfl

theorem f253 : k0_pay253 x0 x1 x2 x3 = (code (m3 (S00 x0 x1 x2)) (S10 x0 x1 x2)) := by
  unfold k0_pay253; rw [f233, f234]; rfl

theorem f254 : k0_pay254 x0 x1 x2 x3 = (code (m3 (S00 x0 x1 x2)) (m1 (S10 x0 x1 x2))) := by
  unfold k0_pay254; rw [f233, f237]; rfl

theorem f255 : k0_pay255 x0 x1 x2 x3 = (code (m3 (S00 x0 x1 x2)) (m2 (S10 x0 x1 x2))) := by
  unfold k0_pay255; rw [f233, f238]; rfl

theorem f256 : k0_pay256 x0 x1 x2 x3 = (broadcast S256x1 64#32) := by
  unfold k0_pay256; rfl

theorem f257 : k0_pay257 x0 x1 x2 x3 = (vio 16) := by
  unfold k0_pay257; rfl

theorem f258 : k0_pay258 x0 x1 x2 x3 = (codes (S00 x0 x1 x2) (S10 x0 x1 x2)) := by
  unfold k0_pay258; rw [f233, f239, f241, f242, f243, f244, f245, f246, f247, f248, f249, f250, f251, f252, f253, f254, f255, f256]; rfl

theorem f259 : k0_pay259 x0 x1 x2 x3 = (m2 (sums (S00 x0 x1 x2) (S10 x0 x1 x2))) := by
  unfold k0_pay259; rw [f240]; rfl

theorem f260 : k0_pay260 x0 x1 x2 x3 = (vcand (n := 16) (m2 (sums (S00 x0 x1 x2) (S10 x0 x1 x2)))) := by
  unfold k0_pay260; rw [f240]; rfl

theorem f261 : k0_pay261 x0 x1 x2 x3 = (vio 64) := by
  unfold k0_pay261; rfl

theorem f262 : k0_pay262 x0 x1 x2 x3 = (S01 x0 x1 x2) := by
  unfold k0_pay262; rw [f226]; rfl

theorem f263 : k0_pay263 x0 x1 x2 x3 = (vred (n := 64) (S01 x0 x1 x2)) := by
  unfold k0_pay263; rw [f226]; rfl

theorem f264 : k0_pay264 x0 x1 x2 x3 = (vpos (n := 64) (S01 x0 x1 x2)) := by
  unfold k0_pay264; rw [f262, f261, f263]; rfl

theorem f265 : k0_pay265 x0 x1 x2 x3 = (vpos (n := 64) (m1 (S01 x0 x1 x2))) := by
  unfold k0_pay265; rw [f262, f261, f263]; rfl

theorem f266 : k0_pay266 x0 x1 x2 x3 = (vpos (n := 64) (m2 (S01 x0 x1 x2))) := by
  unfold k0_pay266; rw [f262, f261, f263]; rfl

theorem f267 : k0_pay267 x0 x1 x2 x3 = (vpos (n := 64) (m3 (S01 x0 x1 x2))) := by
  unfold k0_pay267; rw [f262, f261, f263]; rfl

theorem f268 : k0_pay268 x0 x1 x2 x3 = (truncf .bf16 (extractStridedSlice S256x512 ![0, 2560] (qry x0 x1) slices_S256x4096_o0_2560_S256x512) bitsLt_bf16_f32) := by
  unfold k0_pay268; rw [f226]; rfl

theorem f269 : k0_pay269 x0 x1 x2 x3 = (vio 64) := by
  unfold k0_pay269; rfl

theorem f270 : k0_pay270 x0 x1 x2 x3 = (vpos (n := 64) (S11 x0 x1 x2)) := by
  unfold k0_pay270; rw [f268]; rfl

theorem f271 : k0_pay271 x0 x1 x2 x3 = (vpos (n := 64) (m1 (S11 x0 x1 x2))) := by
  unfold k0_pay271; rw [f268]; rfl

theorem f272 : k0_pay272 x0 x1 x2 x3 = (vpos (n := 64) (m2 (S11 x0 x1 x2))) := by
  unfold k0_pay272; rw [f268]; rfl

theorem f273 : k0_pay273 x0 x1 x2 x3 = (m3 (S11 x0 x1 x2)) := by
  unfold k0_pay273; rw [f268]; rfl

theorem f274 : k0_pay274 x0 x1 x2 x3 = (vmaxB (n := 64) (m3 (S11 x0 x1 x2))) := by
  unfold k0_pay274; rw [f268]; rfl

theorem f275 : k0_pay275 x0 x1 x2 x3 = (vpos (n := 64) (m3 (S11 x0 x1 x2))) := by
  unfold k0_pay275; rw [f269, f273, f274]; rfl

theorem f276 : k0_pay276 x0 x1 x2 x3 = (sums (S01 x0 x1 x2) (S11 x0 x1 x2)) := by
  unfold k0_pay276; rw [f263, f262, f261, f268]; rfl

theorem f277 : k0_pay277 x0 x1 x2 x3 = (code (S01 x0 x1 x2) (S11 x0 x1 x2)) := by
  unfold k0_pay277; rw [f264, f270]; rfl

theorem f278 : k0_pay278 x0 x1 x2 x3 = (code (S01 x0 x1 x2) (m1 (S11 x0 x1 x2))) := by
  unfold k0_pay278; rw [f264, f271]; rfl

theorem f279 : k0_pay279 x0 x1 x2 x3 = (code (S01 x0 x1 x2) (m2 (S11 x0 x1 x2))) := by
  unfold k0_pay279; rw [f264, f272]; rfl

theorem f280 : k0_pay280 x0 x1 x2 x3 = (code (S01 x0 x1 x2) (m3 (S11 x0 x1 x2))) := by
  unfold k0_pay280; rw [f264, f269, f273, f274]; rfl

theorem f281 : k0_pay281 x0 x1 x2 x3 = (code (m1 (S01 x0 x1 x2)) (S11 x0 x1 x2)) := by
  unfold k0_pay281; rw [f265, f270]; rfl

theorem f282 : k0_pay282 x0 x1 x2 x3 = (code (m1 (S01 x0 x1 x2)) (m1 (S11 x0 x1 x2))) := by
  unfold k0_pay282; rw [f265, f271]; rfl

theorem f283 : k0_pay283 x0 x1 x2 x3 = (code (m1 (S01 x0 x1 x2)) (m2 (S11 x0 x1 x2))) := by
  unfold k0_pay283; rw [f265, f272]; rfl

theorem f284 : k0_pay284 x0 x1 x2 x3 = (code (m1 (S01 x0 x1 x2)) (m3 (S11 x0 x1 x2))) := by
  unfold k0_pay284; rw [f265, f269, f273, f274]; rfl

theorem f285 : k0_pay285 x0 x1 x2 x3 = (code (m2 (S01 x0 x1 x2)) (S11 x0 x1 x2)) := by
  unfold k0_pay285; rw [f266, f270]; rfl

theorem f286 : k0_pay286 x0 x1 x2 x3 = (vio 16) := by
  unfold k0_pay286; rfl

theorem f287 : k0_pay287 x0 x1 x2 x3 = (codes (S01 x0 x1 x2) (S11 x0 x1 x2)) := by
  unfold k0_pay287; rw [f266, f267, f270, f271, f272, f275, f277, f278, f279, f280, f281, f282, f283, f284, f285]; rfl

theorem f288 : k0_pay288 x0 x1 x2 x3 = (m1 (sums (S01 x0 x1 x2) (S11 x0 x1 x2))) := by
  unfold k0_pay288; rw [f276]; rfl

theorem f289 : k0_pay289 x0 x1 x2 x3 = (vhit (n := 16) (m1 (sums (S01 x0 x1 x2) (S11 x0 x1 x2)))) := by
  unfold k0_pay289; rw [f276]; rfl

theorem f290 : k0_pay290 x0 x1 x2 x3 = (vio 64) := by
  unfold k0_pay290; rfl

theorem f291 : k0_pay291 x0 x1 x2 x3 = (vpos (n := 64) (S02 x0 x1 x2)) := by
  unfold k0_pay291; rw [f226]; rfl

theorem f292 : k0_pay292 x0 x1 x2 x3 = (m2 (S02 x0 x1 x2)) := by
  unfold k0_pay292; rw [f226]; rfl

theorem f293 : k0_pay293 x0 x1 x2 x3 = (vmaxB (n := 64) (m2 (S02 x0 x1 x2))) := by
  unfold k0_pay293; rw [f226]; rfl

theorem f294 : k0_pay294 x0 x1 x2 x3 = (vio 64) := by
  unfold k0_pay294; rfl

theorem f295 : k0_pay295 x0 x1 x2 x3 = (vpos (n := 64) (S12 x0 x1 x2)) := by
  unfold k0_pay295; rw [f226]; rfl

theorem f296 : k0_pay296 x0 x1 x2 x3 = (m1 (S12 x0 x1 x2)) := by
  unfold k0_pay296; rw [f226]; rfl

theorem f297 : k0_pay297 x0 x1 x2 x3 = (vminr (n := 64) (m1 (S12 x0 x1 x2))) := by
  unfold k0_pay297; rw [f226]; rfl

theorem f298 : k0_pay298 x0 x1 x2 x3 = (sums (S02 x0 x1 x2) (S12 x0 x1 x2)) := by
  unfold k0_pay298; rw [f226, f290, f292, f293, f294, f296, f297]; rfl

theorem f299 : k0_pay299 x0 x1 x2 x3 = (vio 16) := by
  unfold k0_pay299; rfl

theorem f300 : k0_pay300 x0 x1 x2 x3 = (codes (S02 x0 x1 x2) (S12 x0 x1 x2)) := by
  unfold k0_pay300; rw [f291, f226, f290, f292, f293, f295, f297, f294, f296]; rfl

theorem f301 : k0_pay301 x0 x1 x2 x3 = (vmaxB (n := 16) (sums (S02 x0 x1 x2) (S12 x0 x1 x2))) := by
  unfold k0_pay301; rw [f298]; rfl

theorem f302 : k0_pay302 x0 x1 x2 x3 = (m2 (sums (S02 x0 x1 x2) (S12 x0 x1 x2))) := by
  unfold k0_pay302; rw [f298, f299, f301]; rfl

theorem f303 : k0_pay303 x0 x1 x2 x3 = (vpos (n := 16) (m2 (sums (S02 x0 x1 x2) (S12 x0 x1 x2)))) := by
  unfold k0_pay303; rw [f298, f299, f301]; rfl

theorem f304 : k0_pay304 x0 x1 x2 x3 = (vio 64) := by
  unfold k0_pay304; rfl

theorem f305 : k0_pay305 x0 x1 x2 x3 = (S03 x0 x1 x2) := by
  unfold k0_pay305; rw [f226]; rfl

theorem f306 : k0_pay306 x0 x1 x2 x3 = (vmax (n := 64) (S03 x0 x1 x2)) := by
  unfold k0_pay306; rw [f226]; rfl

theorem f307 : k0_pay307 x0 x1 x2 x3 = (vminr (n := 64) (S03 x0 x1 x2)) := by
  unfold k0_pay307; rw [f226]; rfl

theorem f308 : k0_pay308 x0 x1 x2 x3 = (vio 64) := by
  unfold k0_pay308; rfl

theorem f309 : k0_pay309 x0 x1 x2 x3 = (vpos (n := 64) (S03 x0 x1 x2)) := by
  unfold k0_pay309; rw [f307]; rfl

theorem f310 : k0_pay310 x0 x1 x2 x3 = (vpos (n := 64) (m1 (S03 x0 x1 x2))) := by
  unfold k0_pay310; rw [f305, f304, f307]; rfl

theorem f311 : k0_pay311 x0 x1 x2 x3 = (vpos (n := 64) (m2 (S03 x0 x1 x2))) := by
  unfold k0_pay311; rw [f305, f304, f307]; rfl

theorem f312 : k0_pay312 x0 x1 x2 x3 = (vpos (n := 64) (m3 (S03 x0 x1 x2))) := by
  unfold k0_pay312; rw [f305, f304, f307]; rfl

theorem f313 : k0_pay313 x0 x1 x2 x3 = (S13 x0 x1 x2) := by
  unfold k0_pay313; rw [f226]; rfl

theorem f314 : k0_pay314 x0 x1 x2 x3 = (vpos (n := 64) (S13 x0 x1 x2)) := by
  unfold k0_pay314; rw [f313, f308]; rfl

theorem f315 : k0_pay315 x0 x1 x2 x3 = (vpos (n := 64) (m1 (S13 x0 x1 x2))) := by
  unfold k0_pay315; rw [f313, f308]; rfl

theorem f316 : k0_pay316 x0 x1 x2 x3 = (vpos (n := 64) (m2 (S13 x0 x1 x2))) := by
  unfold k0_pay316; rw [f313, f308]; rfl

theorem f317 : k0_pay317 x0 x1 x2 x3 = (vpos (n := 64) (m3 (S13 x0 x1 x2))) := by
  unfold k0_pay317; rw [f313, f308]; rfl

theorem f318 : k0_pay318 x0 x1 x2 x3 = (sums (S03 x0 x1 x2) (S13 x0 x1 x2)) := by
  unfold k0_pay318; rw [f306, f305, f304, f307, f313, f308]; rfl

theorem f319 : k0_pay319 x0 x1 x2 x3 = (code (S03 x0 x1 x2) (S13 x0 x1 x2)) := by
  unfold k0_pay319; rw [f309, f314]; rfl

theorem f320 : k0_pay320 x0 x1 x2 x3 = (code (S03 x0 x1 x2) (m1 (S13 x0 x1 x2))) := by
  unfold k0_pay320; rw [f309, f315]; rfl

theorem f321 : k0_pay321 x0 x1 x2 x3 = (code (S03 x0 x1 x2) (m2 (S13 x0 x1 x2))) := by
  unfold k0_pay321; rw [f309, f316]; rfl

theorem f322 : k0_pay322 x0 x1 x2 x3 = (code (S03 x0 x1 x2) (m3 (S13 x0 x1 x2))) := by
  unfold k0_pay322; rw [f309, f317]; rfl

theorem f323 : k0_pay323 x0 x1 x2 x3 = (code (m1 (S03 x0 x1 x2)) (S13 x0 x1 x2)) := by
  unfold k0_pay323; rw [f310, f314]; rfl

theorem f324 : k0_pay324 x0 x1 x2 x3 = (code (m1 (S03 x0 x1 x2)) (m1 (S13 x0 x1 x2))) := by
  unfold k0_pay324; rw [f310, f315]; rfl

theorem f325 : k0_pay325 x0 x1 x2 x3 = (code (m1 (S03 x0 x1 x2)) (m2 (S13 x0 x1 x2))) := by
  unfold k0_pay325; rw [f310, f316]; rfl

theorem f326 : k0_pay326 x0 x1 x2 x3 = (code (m1 (S03 x0 x1 x2)) (m3 (S13 x0 x1 x2))) := by
  unfold k0_pay326; rw [f310, f317]; rfl

theorem f327 : k0_pay327 x0 x1 x2 x3 = (code (m2 (S03 x0 x1 x2)) (S13 x0 x1 x2)) := by
  unfold k0_pay327; rw [f311, f314]; rfl

theorem f328 : k0_pay328 x0 x1 x2 x3 = (code (m2 (S03 x0 x1 x2)) (m1 (S13 x0 x1 x2))) := by
  unfold k0_pay328; rw [f311, f315]; rfl

theorem f329 : k0_pay329 x0 x1 x2 x3 = (code (m2 (S03 x0 x1 x2)) (m2 (S13 x0 x1 x2))) := by
  unfold k0_pay329; rw [f311, f316]; rfl

theorem f330 : k0_pay330 x0 x1 x2 x3 = (vio 16) := by
  unfold k0_pay330; rfl

theorem f331 : k0_pay331 x0 x1 x2 x3 = (codes (S03 x0 x1 x2) (S13 x0 x1 x2)) := by
  unfold k0_pay331; rw [f311, f312, f314, f315, f316, f317, f319, f320, f321, f322, f323, f324, f325, f326, f327, f328, f329]; rfl

theorem f332 : k0_pay332 x0 x1 x2 x3 = (m1 (sums (S03 x0 x1 x2) (S13 x0 x1 x2))) := by
  unfold k0_pay332; rw [f318]; rfl

theorem f333 : k0_pay333 x0 x1 x2 x3 = (vpos (n := 16) (m1 (sums (S03 x0 x1 x2) (S13 x0 x1 x2)))) := by
  unfold k0_pay333; rw [f318]; rfl

/-- The block of the second result. -/
def vIdx (x0 : Vec F S256x1024 .f32) (x1 : Vec F S1024x4096 .bf16) (x2 : Vec F S2x4x512x64 .bf16) : IVec S256x16 32 :=
  concatenate S256x16 1 [⟨S256x1, vlook (n := 16) (sums (S00 x0 x1 x2) (S10 x0 x1 x2)) (codes (S00 x0 x1 x2) (S10 x0 x1 x2))⟩, ⟨S256x1, vlook (n := 16) (m1 (sums (S00 x0 x1 x2) (S10 x0 x1 x2))) (codes (S00 x0 x1 x2) (S10 x0 x1 x2))⟩, ⟨S256x1, vlook (n := 16) (m2 (sums (S00 x0 x1 x2) (S10 x0 x1 x2))) (codes (S00 x0 x1 x2) (S10 x0 x1 x2))⟩, ⟨S256x1, vlook (n := 16) (m3 (sums (S00 x0 x1 x2) (S10 x0 x1 x2))) (codes (S00 x0 x1 x2) (S10 x0 x1 x2))⟩, ⟨S256x1, vlook (n := 16) (sums (S01 x0 x1 x2) (S11 x0 x1 x2)) (codes (S01 x0 x1 x2) (S11 x0 x1 x2))⟩, ⟨S256x1, vlook (n := 16) (m1 (sums (S01 x0 x1 x2) (S11 x0 x1 x2))) (codes (S01 x0 x1 x2) (S11 x0 x1 x2))⟩, ⟨S256x1, vlook (n := 16) (m2 (sums (S01 x0 x1 x2) (S11 x0 x1 x2))) (codes (S01 x0 x1 x2) (S11 x0 x1 x2))⟩, ⟨S256x1, vlook (n := 16) (m3 (sums (S01 x0 x1 x2) (S11 x0 x1 x2))) (codes (S01 x0 x1 x2) (S11 x0 x1 x2))⟩, ⟨S256x1, vlook (n := 16) (sums (S02 x0 x1 x2) (S12 x0 x1 x2)) (codes (S02 x0 x1 x2) (S12 x0 x1 x2))⟩, ⟨S256x1, vlook (n := 16) (m1 (sums (S02 x0 x1 x2) (S12 x0 x1 x2))) (codes (S02 x0 x1 x2) (S12 x0 x1 x2))⟩, ⟨S256x1, vlook (n := 16) (m2 (sums (S02 x0 x1 x2) (S12 x0 x1 x2))) (codes (S02 x0 x1 x2) (S12 x0 x1 x2))⟩, ⟨S256x1, vlook (n := 16) (m3 (sums (S02 x0 x1 x2) (S12 x0 x1 x2))) (codes (S02 x0 x1 x2) (S12 x0 x1 x2))⟩, ⟨S256x1, vlook (n := 16) (sums (S03 x0 x1 x2) (S13 x0 x1 x2)) (codes (S03 x0 x1 x2) (S13 x0 x1 x2))⟩, ⟨S256x1, vlook (n := 16) (m1 (sums (S03 x0 x1 x2) (S13 x0 x1 x2))) (codes (S03 x0 x1 x2) (S13 x0 x1 x2))⟩, ⟨S256x1, vlook (n := 16) (m2 (sums (S03 x0 x1 x2) (S13 x0 x1 x2))) (codes (S03 x0 x1 x2) (S13 x0 x1 x2))⟩, ⟨S256x1, vlook (n := 16) (m3 (sums (S03 x0 x1 x2) (S13 x0 x1 x2))) (codes (S03 x0 x1 x2) (S13 x0 x1 x2))⟩] concatenates_S256x1_S256x1_S256x1_S256x1_S256x1_S256x1_S256x1_S256x1_S256x1_S256x1_S256x1_S256x1_S256x1_S256x1_S256x1_S256x1_S256x16_d1

theorem out0_5_eq : out0_5 x0 x1 x2 x3 = vIdx x0 x1 x2 := by
  unfold out0_5; rw [View.canon_unit_zero hz]; rw [f233, f239, f240, f241, f242, f243, f244, f245, f246, f247, f248, f249, f250, f251, f252, f253, f254, f255, f256, f258, f257, f260, f259, f266, f267, f270, f271, f272, f275, f276, f277, f278, f279, f280, f281, f282, f283, f284, f285, f287, f286, f289, f288, f298, f300, f299, f301, f302, f303, f311, f312, f314, f315, f316, f317, f318, f319, f320, f321, f322, f323, f324, f325, f326, f327, f328, f329, f331, f330, f332, f333]; unfold vIdx; rfl

/-- The block of the third result. -/
def vPw (x0 : Vec F S256x1024 .f32) (x1 : Vec F S1024x4096 .bf16) (x2 : Vec F S2x4x512x64 .bf16) : FVec F S256x16 .f32 :=
  concatenate S256x16 1 [⟨S256x4, pw (four (sums (S00 x0 x1 x2) (S10 x0 x1 x2)))⟩, ⟨S256x4, pw (four (sums (S01 x0 x1 x2) (S11 x0 x1 x2)))⟩, ⟨S256x4, pw (four (sums (S02 x0 x1 x2) (S12 x0 x1 x2)))⟩, ⟨S256x4, pw (four (sums (S03 x0 x1 x2) (S13 x0 x1 x2)))⟩] concatenates_S256x4_S256x4_S256x4_S256x4_S256x16_d1

theorem out0_6_eq : out0_6 x0 x1 x2 x3 = vPw x0 x1 x2 := by
  unfold out0_6; rw [View.canon_unit_zero hz]; rw [f257, f240, f259, f260, f276, f286, f288, f289, f299, f298, f301, f302, f303, f330, f318, f332, f333]; unfold vPw; rfl

end Cert.RouteIdeal.Sck
-- ==== Proof.TopFour.lean ====
/- The first few places of a row by size, found one after the other with each found place dropped to minus infinity, are the first
   places of the row's stable sort. -/
module

public import Idealize.ShloMosaic.Lib.SortPrefix
public import Mathlib.Data.EReal.Basic

@[expose] public section

noncomputable section

namespace Cert.TopFour

open Idealize.ShloMosaic

variable {n : Nat}

/-- `p` holds the row's largest value and is the first place that does. -/
def IsTop (y : Fin n → EReal) (p : Fin n) : Prop := (∀ k, y k ≤ y p) ∧ ∀ k, k < p → y k < y p

theorem exists_top (h : 0 < n) (y : Fin n → EReal) : ∃ p, IsTop y p := by
  haveI : Nonempty (Fin n) := ⟨⟨0, h⟩⟩
  obtain ⟨q, -, hq⟩ := Finset.exists_max_image Finset.univ y Finset.univ_nonempty
  have hne : (Finset.univ.filter fun p : Fin n => ∀ k, y k ≤ y p).Nonempty := ⟨q, by rw [Finset.mem_filter]; exact ⟨Finset.mem_univ q, fun k => hq k (Finset.mem_univ k)⟩⟩
  have hm := Finset.min'_mem _ hne
  rw [Finset.mem_filter] at hm
  refine ⟨Finset.min' _ hne, hm.2, fun k hk => lt_of_le_of_ne (hm.2 k) fun e => ?_⟩
  refine absurd (Finset.min'_le _ k ?_) (not_le.mpr hk)
  rw [Finset.mem_filter]
  exact ⟨Finset.mem_univ _, fun j => e ▸ hm.2 j⟩

theorem IsTop.unique {y : Fin n → EReal} {p q : Fin n} (hp : IsTop y p) (hq : IsTop y q) : p = q := by
  rcases lt_trichotomy p q with h | h | h
  · exact absurd (hq.2 p h) (not_lt.mpr (hp.1 q))
  · exact h
  · exact absurd (hp.2 q h) (not_lt.mpr (hq.1 p))

/-- The first place of the row's largest value. -/
def topAt (y : Fin (n + 1) → EReal) : Fin (n + 1) := Classical.choose (exists_top (Nat.succ_pos n) y)

theorem topAt_spec (y : Fin (n + 1) → EReal) : IsTop y (topAt y) := Classical.choose_spec (exists_top (Nat.succ_pos n) y)

theorem topAt_eq {y : Fin (n + 1) → EReal} {p : Fin (n + 1)} (h : IsTop y p) : topAt y = p := (topAt_spec y).unique h

/-- The row with that place dropped. -/
def drop (y : Fin (n + 1) → EReal) : Fin (n + 1) → EReal := fun k => if k = topAt y then ⊥ else y k

/-- The row with its first `i` places dropped. -/
def left (x : Fin (n + 1) → EReal) : Nat → Fin (n + 1) → EReal
  | 0 => x
  | i + 1 => drop (left x i)

/-- The place found in round `i`. -/
def pick (x : Fin (n + 1) → EReal) (i : Nat) : Fin (n + 1) := topAt (left x i)

theorem left_of_ne (x : Fin (n + 1) → EReal) (i : Nat) (k : Fin (n + 1)) (h : ∀ j, j < i → pick x j ≠ k) : left x i k = x k := by
  induction i with
  | zero => rfl
  | succ i ih =>
    show drop (left x i) k = x k
    unfold drop
    rw [if_neg fun e => h i (Nat.lt_succ_self i) e.symm]
    exact ih fun j hj => h j (Nat.lt_succ_of_lt hj)

theorem left_of_eq (x : Fin (n + 1) → EReal) (i j : Nat) (hj : j < i) : left x i (pick x j) = ⊥ := by
  induction i with
  | zero => exact absurd hj (Nat.not_lt_zero j)
  | succ i ih =>
    show drop (left x i) (pick x j) = ⊥
    unfold drop
    split
    · rfl
    · rename_i hne
      refine ih (lt_of_le_of_ne (Nat.le_of_lt_succ hj) fun e => hne ?_)
      subst e; rfl

theorem pick_ne (x : Fin (n + 1) → EReal) (hx : ∀ k, x k ≠ ⊥) (i : Nat) (hi : i < n + 1) (j : Nat) (hj : j < i) : pick x j ≠ pick x i := by
  intro e
  obtain ⟨k, hk⟩ : ∃ k : Fin (n + 1), ∀ l : Fin i, pick x l.val ≠ k := by
    by_contra hc
    push Not at hc
    have hs : Function.Surjective fun l : Fin i => pick x l.val := fun k => by obtain ⟨l, hl⟩ := hc k; exact ⟨l, hl⟩
    have := Fintype.card_le_of_surjective _ hs
    simp only [Fintype.card_fin] at this
    omega
  have h1 := (topAt_spec (left x i)).1 k
  rw [left_of_ne x i k fun l hl => hk ⟨l, hl⟩] at h1
  have h2 : left x i (topAt (left x i)) = ⊥ := by
    have := left_of_eq x i j hj
    rw [e] at this
    exact this
  rw [h2] at h1
  exact hx k (le_bot_iff.mp h1)

theorem left_pick (x : Fin (n + 1) → EReal) (hx : ∀ k, x k ≠ ⊥) (i : Nat) (hi : i < n + 1) : left x i (pick x i) = x (pick x i) :=
  left_of_ne x i _ fun j hj => pick_ne x hx i hi j hj

/-- Place `p` goes before place `q`: its value is larger, or the values tie and it is the earlier place. -/
def before (x : Fin n → EReal) (p q : Fin n) : Bool := decide (x q < x p) || (decide (x p = x q) && decide (p < q))

theorem before_total (x : Fin n → EReal) : StrictTotalBefore (before x) :=
  StrictTotalBefore.of_key_then_position (fun a b : EReal => decide (b < a)) x (by simp)
    (by intro a b c h1 h2; simp only [decide_eq_true_eq] at *; exact lt_trans h2 h1)
    (by intro a b; simp only [decide_eq_true_eq]; rcases lt_trichotomy a b with h | h | h
        · exact .inr (.inr h)
        · exact .inr (.inl h)
        · exact .inl h)

theorem not_before (x : Fin (n + 1) → EReal) (hx : ∀ k, x k ≠ ⊥) (i : Nat) (hi : i < n + 1) (p : Fin (n + 1)) (h : ∀ j, j < i → pick x j ≠ p) :
    before x p (pick x i) = false := by
  have t := topAt_spec (left x i)
  have t1 := t.1 p
  have t2 := t.2 p
  change left x i p ≤ left x i (pick x i) at t1
  change p < pick x i → left x i p < left x i (pick x i) at t2
  rw [left_pick x hx i hi, left_of_ne x i p h] at t1 t2
  unfold before
  rw [Bool.or_eq_false_iff, Bool.and_eq_false_iff]
  refine ⟨decide_eq_false (not_lt.mpr t1), ?_⟩
  by_cases e : p < pick x i
  · exact .inl (decide_eq_false (ne_of_lt (t2 e)))
  · exact .inr (decide_eq_false e)

/-- The places found are the first places of the row sorted. -/
theorem sortedFrom_before (x : Fin (n + 1) → EReal) (hx : ∀ k, x k ≠ ⊥) {k : Nat} (hk : k ≤ n + 1) (i : Fin k) :
    sortedFrom (before x) (i.castLE hk) = pick x i.val := by
  refine (before_total x).sortedFrom_eq_of_prefix hk (fun j : Fin k => pick x j.val) ?_ ?_ ?_ i
  · intro a b e
    rcases lt_trichotomy a b with h | h | h
    · exact absurd e (pick_ne x hx b.val (by omega) a.val h)
    · exact h
    · exact absurd e.symm (pick_ne x hx a.val (by omega) b.val h)
  · intro a b h
    exact not_before x hx a.val (by omega) _ fun j hj => by
      exact pick_ne x hx b.val (by omega) j (lt_trans hj h)
  · intro a p h
    exact not_before x hx a.val (by omega) p fun j hj => h ⟨j, by omega⟩

theorem insertBefore_of_lt {R R' : Fin n → Fin n → Bool} (h : ∀ a b, a < b → R b a = R' b a) (a : Fin n) (l : List (Fin n)) (hl : ∀ b ∈ l, a < b) :
    insertBefore R a l = insertBefore R' a l :=
  insertBefore_congr R R' a l fun b hb => h a b (hl b hb)

theorem stableSort_of_lt {R R' : Fin n → Fin n → Bool} (h : ∀ a b, a < b → R b a = R' b a) (l : List (Fin n)) (hl : l.Pairwise (· < ·)) :
    stableSort R l = stableSort R' l := by
  induction l with
  | nil => rfl
  | cons a l ih =>
    rw [List.pairwise_cons] at hl
    unfold stableSort
    rw [ih hl.2]
    exact insertBefore_of_lt h a _ fun b hb => hl.1 b ((perm_stableSort R' l).mem_iff.mp hb)

theorem sortPositions_of_lt {R R' : Fin n → Fin n → Bool} (h : ∀ a b, a < b → R b a = R' b a) : sortPositions n R = sortPositions n R' :=
  stableSort_of_lt h _ (List.pairwise_lt_finRange n)

/-- The stable sort by value alone is the sort by value and then by place. -/
theorem sortedFrom_gt (x : Fin n → EReal) (R : Fin n → Fin n → Bool) (hR : ∀ p q, R p q = decide (x q < x p)) : sortedFrom R = sortedFrom (before x) := by
  funext k
  unfold sortedFrom
  rw [List.get_of_eq (sortPositions_of_lt (R := R) (R' := before x) fun a b hab => by
    rw [hR]; unfold before; simp [not_lt.mpr hab.le])]
  rfl

end Cert.TopFour
-- ==== Proof.RouteRows.lean ====
/- What the routing call's rounds find in one row of a block, over real arguments. -/
module

public import proofs.«01_k».proof.Proof.RouteRounds
public import proofs.«01_k».proof.Proof.TopFour
public import Idealize.ShloMosaic.Lib.MatmulPlain
public import Idealize.ShloMosaic.Lib.IdealHost
public import Idealize.ShloMosaic.Lib.ValueIdx
public import Idealize.ShloMosaic.Lib.ValueLayout
public import Idealize.ShloMosaic.Lib.ValueLayoutCasts
public import Mathlib.Data.BitVec

@[expose] public section

noncomputable section

namespace Cert.RouteIdeal.Sck

open Cert.RouteIdeal Cert.RouteIdeal.Gen Cert.TopFour
open Idealize.ShloMosaic hiding ix1 ix2 ix3 ix4
open Idealize.ShloMosaic.ValueIdx Idealize.SL.Sem
open scoped BigOperators

theorem ninf : (FloatOps.ofBits .f32 0xFF800000#32 : Ideal .f32) = (⊥ : EReal) := by
  show Ideal.ofBits .f32 0xFF800000#32 = ⊥
  simp [Ideal.ofBits, Ideal.ieee]

theorem fold_top {n : Nat} (f : Fin n → EReal) (p : Fin n) (h : ∀ k, f k ≤ f p) : Finset.univ.fold max ⊥ f = f p :=
  le_antisymm ((Finset.fold_max_le _).mpr ⟨bot_le, fun k _ => h k⟩) ((Finset.le_fold_max _).mpr (.inr ⟨p, Finset.mem_univ p, le_rfl⟩))

theorem toInt_minsi (x y : BitVec 32) : (IntOp.minsi x y).toInt = min x.toInt y.toInt := by
  simp only [IntOp.minsi, BitVec.slt, decide_eq_true_eq]
  split_ifs <;> omega

theorem fold_first {n : Nat} (f : Fin n → BitVec 32) (p : Fin n) (h : ∀ k, (f p).toInt ≤ (f k).toInt) :
    Finset.univ.fold (IKind.op .minsi) 2147483647#32 f = f p := by
  apply BitVec.eq_of_toInt_eq
  have e : (Finset.univ.fold (IKind.op .minsi) 2147483647#32 f).toInt = Finset.univ.fold min (2147483647#32 : BitVec 32).toInt (fun k => (f k).toInt) :=
    (Finset.fold_hom (op := IKind.op .minsi) (op' := (min : Int → Int → Int)) (m := BitVec.toInt) (f := f) (b := 2147483647#32) (s := Finset.univ) fun x y => toInt_minsi x y).symm
  rw [e]
  refine le_antisymm ((Finset.fold_min_le _).mpr (.inr ⟨p, Finset.mem_univ p, le_rfl⟩)) ((Finset.le_fold_min _).mpr ⟨?_, fun k _ => h k⟩)
  have := BitVec.toInt_lt (x := f p)
  rw [show (2147483647#32 : BitVec 32).toInt = 2147483647 by decide]
  omega

variable {N : Nat} [Fits (N + 1)]

/-- A row of a block. -/
def row {n : Nat} (s : FVec Ideal (Wide n) .f32) (r : Fin 256) : Fin n → EReal := fun k => s (ix2 r k)

theorem lift_at {n : Nat} (h : (Wide n).Reduces [1] S256) (r : Fin 256) (k : Fin n) : h.lift (ix1 r) k = ix2 r k := by
  funext a; apply Fin.ext
  match a with
  | ⟨0, _⟩ => rfl
  | ⟨1, _⟩ => rfl

theorem col_at {n : Nat} {α : Type} (x : S256x1.Idx → α) (h : S256x1.Broadcasts (Wide n)) (r : Fin 256) (k : Fin n) :
    broadcastTo (Wide n) x h (ix2 r k) = x (ix2 r (0 : Fin 1)) :=
  broadcastTo_apply x h (ix2 r k) (ix2 r (0 : Fin 1)) fun a => match a with
    | ⟨0, _⟩ => rfl
    | ⟨1, _⟩ => rfl

theorem vmax_at (s : FVec Ideal (Wide (N + 1)) .f32) (r : Fin 256) (u : Fin 1) : @Eq EReal (vmax s (ix2 r u)) (row s r (topAt (row s r))) := by
  unfold vmax vred
  rw [shapeCast_a_a1_apply]
  refine (Ideal.multiReduction_maximumf_single _ _ Fits.red _ _ _).trans ?_
  rw [ninf]
  have e : (s ∘ (Fits.red (n := N + 1)).lift (ix1 r) : Fin (N + 1) → EReal) = row s r := funext fun k => congrArg s (lift_at _ r k)
  refine Eq.trans (congrArg (fun f : Fin (N + 1) → EReal => Finset.univ.fold max ⊥ f) e) ?_
  exact fold_top _ _ (topAt_spec _).1

theorem vhit_at (s : FVec Ideal (Wide (N + 1)) .f32) (r : Fin 256) (k : Fin (N + 1)) :
    vhit s (ix2 r k) = if row s r k = row s r (topAt (row s r)) then 1#1 else 0#1 := by
  unfold vhit vmaxB
  have e : @Eq EReal (broadcastTo (Wide (N + 1)) (vmax s) Fits.bc (ix2 r k)) (row s r (topAt (row s r))) := (col_at _ _ r k).trans (vmax_at s r 0)
  show Ideal.cmp .oeq (s (ix2 r k)) (broadcastTo (Wide (N + 1)) (vmax s) Fits.bc (ix2 r k)) = _
  rw [e]
  show BitVec.ofBool (decide (row s r k = row s r (topAt (row s r)))) = _
  by_cases h : row s r k = row s r (topAt (row s r)) <;> simp [h]

theorem vcand_at (s : FVec Ideal (Wide (N + 1)) .f32) (r : Fin 256) (k : Fin (N + 1)) :
    vcand s (ix2 r k) = if row s r k = row s r (topAt (row s r)) then BitVec.ofNat 32 k.val else BitVec.ofNat 32 (N + 1) := by
  have e := vhit_at s r k
  have i : vio (N + 1) (ix2 r k) = BitVec.ofNat 32 k.val := by unfold vio; rw [iota_single_apply]; rfl
  show (if vhit s (ix2 r k) = 1#1 then vio (N + 1) (ix2 r k) else BitVec.ofNat 32 (N + 1)) = _
  rw [e, i]
  by_cases h : row s r k = row s r (topAt (row s r)) <;> simp [h]

theorem toInt_ofNat {k : Nat} (h : k ≤ 2 ^ 20) : (BitVec.ofNat 32 k).toInt = k := by
  have e : (BitVec.ofNat 32 k).toNat = k := by rw [BitVec.toNat_ofNat]; exact Nat.mod_eq_of_lt (by omega)
  rw [BitVec.toInt_eq_toNat_of_lt (by omega), e]

theorem vpos_at (hN : N + 1 ≤ 2 ^ 20) (s : FVec Ideal (Wide (N + 1)) .f32) (r : Fin 256) (u : Fin 1) :
    vpos s (ix2 r u) = BitVec.ofNat 32 (topAt (row s r)).val := by
  unfold vpos
  rw [shapeCast_a_a1_apply]
  refine (multiReductionI_eq_fold .minsi (vcand s) 2147483647#32 Fits.red rfl (ix1 r)).trans ?_
  rw [Shape.Reduces.fold_filter_drop_single]
  have t := topAt_spec (row s r)
  have e : (vcand s ∘ (Fits.red (n := N + 1)).lift (ix1 r) : Fin (N + 1) → BitVec 32) = fun k => vcand s (ix2 r k) := funext fun k => congrArg (vcand s) (lift_at _ r k)
  refine Eq.trans (congrArg (fun f : Fin (N + 1) → BitVec 32 => Finset.univ.fold (IKind.op .minsi) 2147483647#32 f) e) ?_
  have p : vcand s (ix2 r (topAt (row s r))) = BitVec.ofNat 32 (topAt (row s r)).val := by rw [vcand_at, if_pos rfl]
  refine (fold_first _ (topAt (row s r)) fun k => ?_).trans p
  rw [p, vcand_at, toInt_ofNat (by omega)]
  split
  · rename_i h
    rw [toInt_ofNat (by omega)]
    by_contra hc
    have : k < topAt (row s r) := by rw [Fin.lt_def]; omega
    exact absurd (t.2 k this) (by rw [h]; exact lt_irrefl _)
  · rw [toInt_ofNat (by omega)]; omega

theorem vat_at (hN : N + 1 ≤ 2 ^ 20) (s : FVec Ideal (Wide (N + 1)) .f32) (r : Fin 256) (k : Fin (N + 1)) :
    vat s (ix2 r k) = if k = topAt (row s r) then 1#1 else 0#1 := by
  have i : vio (N + 1) (ix2 r k) = BitVec.ofNat 32 k.val := by unfold vio; rw [iota_single_apply]; rfl
  have e : vposB s (ix2 r k) = BitVec.ofNat 32 (topAt (row s r)).val := (col_at _ _ r k).trans (vpos_at hN s r 0)
  show BitVec.ofBool (vio (N + 1) (ix2 r k) == vposB s (ix2 r k)) = _
  rw [i, e]
  by_cases h : k = topAt (row s r)
  · simp [h]
  · rw [if_neg h, show (BitVec.ofNat 32 k.val == BitVec.ofNat 32 (topAt (row s r)).val) = false from ?_]
    · rfl
    · rw [beq_eq_false_iff_ne]
      intro c
      have := congrArg BitVec.toInt c
      rw [toInt_ofNat (by omega), toInt_ofNat (by omega)] at this
      exact h (Fin.ext (by omega))

theorem row_mask (hN : N + 1 ≤ 2 ^ 20) (s : FVec Ideal (Wide (N + 1)) .f32) (r : Fin 256) : row (vmask s) r = drop (row s r) := by
  funext k
  have e := vat_at hN s r k
  show (if vat s (ix2 r k) = 1#1 then (FloatOps.ofBits .f32 0xFF800000#32 : Ideal .f32) else s (ix2 r k) : EReal) = _
  rw [e, ninf]
  unfold drop
  by_cases h : k = topAt (row s r) <;> simp [h, row]

theorem vlook_at (hN : N + 1 ≤ 2 ^ 20) (s : FVec Ideal (Wide (N + 1)) .f32) (a : IVec (Wide (N + 1)) 32) (r : Fin 256) (u : Fin 1) :
    vlook s a (ix2 r u) = a (ix2 r (topAt (row s r))) := by
  unfold vlook
  rw [shapeCast_a_a1_apply]
  refine (congrFun (multiReductionI_eq_reduceFold .add _ 0#32 (Fits.red (n := N + 1)) rfl) (ix1 r)).trans ?_
  refine (reduceFold_add_eq_sum (Fits.red (n := N + 1)) (0#32 : BitVec 32) _ (ix1 r)).trans ?_
  rw [Shape.Reduces.sum_filter_drop_single]
  refine (zero_add _).trans ?_
  refine (Finset.sum_eq_single (topAt (row s r)) (fun k _ hk => ?_) (fun h => absurd (Finset.mem_univ _) h)).trans ?_
  · show (if vat s ((Fits.red (n := N + 1)).lift (ix1 r) k) = 1#1 then _ else 0#32) = 0
    rw [lift_at, vat_at hN, if_neg hk]; rfl
  · show (if vat s ((Fits.red (n := N + 1)).lift (ix1 r) (topAt (row s r))) = 1#1 then a ((Fits.red (n := N + 1)).lift (ix1 r) (topAt (row s r))) else 0#32) = _
    rw [lift_at, vat_at hN, if_pos rfl]; rfl

/-! ## One head of a row -/

instance : Fits (63 + 1) := inferInstanceAs (Fits 64)
instance : Fits (15 + 1) := inferInstanceAs (Fits 16)

section rounds
variable (s : FVec Ideal (Wide (N + 1)) .f32) (hN : N + 1 ≤ 2 ^ 20) (r : Fin 256)
include hN

theorem row_m1 : row (m1 s) r = left (row s r) 1 := row_mask hN s r
theorem row_m2 : row (m2 s) r = left (row s r) 2 := (row_mask hN (m1 s) r).trans (congrArg drop (row_m1 s hN r))
theorem row_m3 : row (m3 s) r = left (row s r) 3 := (row_mask hN (m2 s) r).trans (congrArg drop (row_m2 s hN r))
end rounds

/-- The rows after `i` rounds. -/
def mi {n : Nat} [Fits n] (s : FVec Ideal (Wide n) .f32) (i : Fin 4) : FVec Ideal (Wide n) .f32 :=
  match i with
  | 0 => s
  | 1 => m1 s
  | 2 => m2 s
  | 3 => m3 s

theorem row_mi (s : FVec Ideal (Wide (N + 1)) .f32) (hN : N + 1 ≤ 2 ^ 20) (r : Fin 256) (i : Fin 4) : row (mi s i) r = left (row s r) i.val :=
  match i with
  | 0 => rfl
  | 1 => row_m1 s hN r
  | 2 => row_m2 s hN r
  | 3 => row_m3 s hN r

/-- The value found in round `i`. -/
def best {n : Nat} (X : Fin (n + 1) → EReal) (i : Nat) : EReal := left X i (pick X i)

theorem vmax_mi (s : FVec Ideal (Wide (N + 1)) .f32) (hN : N + 1 ≤ 2 ^ 20) (r : Fin 256) (i : Fin 4) (u : Fin 1) :
    @Eq EReal (vmax (mi s i) (ix2 r u)) (best (row s r) i.val) := by
  refine (vmax_at (mi s i) r u).trans ?_
  rw [row_mi s hN]; rfl

theorem vpos_mi (s : FVec Ideal (Wide (N + 1)) .f32) (hN : N + 1 ≤ 2 ^ 20) (r : Fin 256) (i : Fin 4) (u : Fin 1) :
    vpos (mi s i) (ix2 r u) = BitVec.ofNat 32 (pick (row s r) i.val).val := by
  rw [vpos_at hN, row_mi s hN]; rfl

/-- The round of the first, and of the second, half that the `m`-th sum takes. -/
def fst4 (m : Fin 16) : Fin 4 := ⟨m.val / 4, by omega⟩
def snd4 (m : Fin 16) : Fin 4 := ⟨m.val % 4, by omega⟩

/-- The sixteen sums. -/
def allRow (X Y : Fin 64 → EReal) : Fin 16 → EReal := fun m => best X (fst4 m).val + best Y (snd4 m).val
/-- The sixteen joint numbers. -/
def codeRow (X Y : Fin 64 → EReal) : Fin 16 → BitVec 32 := fun m => BitVec.ofNat 32 (pick X (fst4 m).val).val * 64#32 + BitVec.ofNat 32 (pick Y (snd4 m).val).val

theorem unit16 {α : Type} (f : Fin 16 → (S256x1.Idx → α)) (h) (r : Fin 256) (m : Fin 16) :
    concatenate S256x16 1 (List.ofFn fun n : Fin 16 => (⟨S256x1, f n⟩ : (s : Shape) × (s.Idx → α))) h (ix2 r m) = f m (ix2 r (0 : Fin 1)) :=
  concatenate_ofFn_unit_apply (t := S256x16) (s₁ := S256x1) (1 : Fin 2) f h rfl rfl (ix2 r m) m rfl (ix2 r (0 : Fin 1)) fun b hb => match b with
    | ⟨0, _⟩ => rfl
    | ⟨1, _⟩ => absurd rfl hb

theorem unit4 {α : Type} (f : Fin 4 → (S256x1.Idx → α)) (h) (r : Fin 256) (m : Fin 4) :
    concatenate S256x4 1 (List.ofFn fun n : Fin 4 => (⟨S256x1, f n⟩ : (s : Shape) × (s.Idx → α))) h (ix2 r m) = f m (ix2 r (0 : Fin 1)) :=
  concatenate_ofFn_unit_apply (t := S256x4) (s₁ := S256x1) (1 : Fin 2) f h rfl rfl (ix2 r m) m rfl (ix2 r (0 : Fin 1)) fun b hb => match b with
    | ⟨0, _⟩ => rfl
    | ⟨1, _⟩ => absurd rfl hb

theorem row_sums (a b : FVec Ideal S256x64 .f32) (r : Fin 256) : row (n := 16) (sums a b) r = allRow (row (n := 64) a r) (row (n := 64) b r) := by
  funext m
  refine Eq.trans (α := EReal) (unit16 (fun m => add2 (mi (n := 64) a (fst4 m)) (mi (n := 64) b (snd4 m))) concatenates_S256x1_S256x1_S256x1_S256x1_S256x1_S256x1_S256x1_S256x1_S256x1_S256x1_S256x1_S256x1_S256x1_S256x1_S256x1_S256x1_S256x16_d1 r m) ?_
  exact congr (congrArg (fun x y : EReal => x + y) (vmax_mi (N := 63) a (by norm_num) r (fst4 m) 0)) (vmax_mi (N := 63) b (by norm_num) r (snd4 m) 0)

theorem codes_at (a b : FVec Ideal S256x64 .f32) (r : Fin 256) (m : Fin 16) :
    codes a b (ix2 r m) = codeRow (row (n := 64) a r) (row (n := 64) b r) m := by
  refine (unit16 (fun m => code (mi (n := 64) a (fst4 m)) (mi (n := 64) b (snd4 m))) concatenates_S256x1_S256x1_S256x1_S256x1_S256x1_S256x1_S256x1_S256x1_S256x1_S256x1_S256x1_S256x1_S256x1_S256x1_S256x1_S256x1_S256x16_d1 r m).trans ?_
  exact congr (congrArg (fun x y : BitVec 32 => x * 64#32 + y) (vpos_mi (N := 63) a (by norm_num) r (fst4 m) 0)) (vpos_mi (N := 63) b (by norm_num) r (snd4 m) 0)

theorem look_at (a b : FVec Ideal S256x64 .f32) (r : Fin 256) (i : Fin 4) (u : Fin 1) :
    vlook (n := 16) (mi (n := 16) (sums a b) i) (codes a b) (ix2 r u)
      = codeRow (row (n := 64) a r) (row (n := 64) b r) (pick (allRow (row (n := 64) a r) (row (n := 64) b r)) i.val) := by
  refine (vlook_at (N := 15) (by norm_num) (mi (n := 16) (sums a b) i) (codes a b) r u).trans ?_
  rw [codes_at, row_mi (N := 15) _ (by norm_num), row_sums]
  rfl

theorem four_at (a b : FVec Ideal S256x64 .f32) (r : Fin 256) (i : Fin 4) :
    @Eq EReal (four (sums a b) (ix2 r i)) (best (allRow (row (n := 64) a r) (row (n := 64) b r)) i.val) := by
  refine (unit4 (fun i => vmax (n := 16) (mi (n := 16) (sums a b) i)) concatenates_S256x1_S256x1_S256x1_S256x1_S256x4_d1 r i).trans ?_
  refine (vmax_mi (N := 15) (sums a b) (by norm_num) r i 0).trans ?_
  rw [row_sums]

/-- The softmax of four values. -/
def soft (w : Fin 4 → EReal) (k : Fin 4) : EReal :=
  Ideal.div (Ideal.exp (w k - Finset.univ.fold max ⊥ w)) (∑ i, Ideal.exp (w i - Finset.univ.fold max ⊥ w))

theorem lift4 (h : S256x4.Reduces [1] S256) (r : Fin 256) (k : Fin 4) : h.lift (ix1 r) k = ix2 r k := lift_at (n := 4) h r k

theorem ex_at (s : FVec Ideal S256x4 .f32) (r : Fin 256) (k : Fin 4) :
    @Eq EReal (ex s (ix2 r k)) (Ideal.exp (row (n := 4) s r k - Finset.univ.fold max ⊥ (row (n := 4) s r))) := by
  have e : @Eq EReal (broadcastTo S256x4 (shapeCast S256x1 (multiReduction .maximumf [1] S256 s 0xFF800000#32 reduces_S256x4_S256 (.inl rfl) rfl) shapeCasts_S256_S256x1) broadcasts_S256x1_S256x4 (ix2 r k))
      (Finset.univ.fold max ⊥ (row (n := 4) s r)) := by
    refine Eq.trans (α := EReal) (col_at (n := 4) _ _ r k) ?_
    rw [shapeCast_a_a1_apply]
    refine (Ideal.multiReduction_maximumf_single _ _ reduces_S256x4_S256 _ _ _).trans ?_
    rw [ninf]
    have e : (s ∘ reduces_S256x4_S256.lift (ix1 r) : Fin 4 → EReal) = row (n := 4) s r := funext fun k => congrArg s (lift4 _ r k)
    exact congrArg (fun f : Fin 4 → EReal => Finset.univ.fold max ⊥ f) e
  exact congrArg (fun v : EReal => Ideal.exp (row (n := 4) s r k - v)) e

theorem pw_at (s : FVec Ideal S256x4 .f32) (r : Fin 256) (k : Fin 4) : @Eq EReal (pw s (ix2 r k)) (soft (row (n := 4) s r) k) := by
  have e : @Eq EReal (broadcastTo S256x4 (shapeCast S256x1 (multiReduction .add [1] S256 (ex s) 0x00000000#32 reduces_S256x4_S256 (.inl rfl) rfl) shapeCasts_S256_S256x1) broadcasts_S256x1_S256x4 (ix2 r k))
      (∑ i, Ideal.exp (row (n := 4) s r i - Finset.univ.fold max ⊥ (row (n := 4) s r))) := by
    refine Eq.trans (α := EReal) (col_at (n := 4) _ _ r k) ?_
    rw [shapeCast_a_a1_apply]
    refine (Ideal.multiReduction_add_single _ _ reduces_S256x4_S256 _ _ _).trans ?_
    exact Finset.sum_congr rfl fun i _ => (congrArg (ex s) (lift4 _ r i)).trans (ex_at s r i)
  exact congr (congrArg Ideal.div (ex_at s r k)) e

/-! ## The blocks of the two results -/

variable (x0 : Vec Ideal S256x1024 .f32) (x1 : Vec Ideal S1024x4096 .bf16) (x2 : Vec Ideal S2x4x512x64 .bf16)

/-- The similarities of a head's half. -/
def S (p : Fin 2) (g : Fin 4) : FVec Ideal S256x64 .f32 :=
  match p, g with
  | 0, 0 => S00 x0 x1 x2
  | 1, 0 => S10 x0 x1 x2
  | 0, 1 => S01 x0 x1 x2
  | 1, 1 => S11 x0 x1 x2
  | 0, 2 => S02 x0 x1 x2
  | 1, 2 => S12 x0 x1 x2
  | 0, 3 => S03 x0 x1 x2
  | 1, 3 => S13 x0 x1 x2

/-- A column's head, and its place in the head. -/
theorem vIdx_at (r : Fin 256) (m : Fin 16) :
    vIdx x0 x1 x2 (ix2 r m) = codeRow (row (n := 64) (S x0 x1 x2 0 (fst4 m)) r) (row (n := 64) (S x0 x1 x2 1 (fst4 m)) r)
      (pick (allRow (row (n := 64) (S x0 x1 x2 0 (fst4 m)) r) (row (n := 64) (S x0 x1 x2 1 (fst4 m)) r)) (snd4 m).val) := by
  refine Eq.trans ?_ (look_at (S x0 x1 x2 0 (fst4 m)) (S x0 x1 x2 1 (fst4 m)) r (snd4 m) 0)
  exact unit16 (fun m => vlook (n := 16) (mi (n := 16) (sums (S x0 x1 x2 0 (fst4 m)) (S x0 x1 x2 1 (fst4 m))) (snd4 m)) (codes (S x0 x1 x2 0 (fst4 m)) (S x0 x1 x2 1 (fst4 m)))) concatenates_S256x1_S256x1_S256x1_S256x1_S256x1_S256x1_S256x1_S256x1_S256x1_S256x1_S256x1_S256x1_S256x1_S256x1_S256x1_S256x1_S256x16_d1 r m

theorem vPw_at (r : Fin 256) (m : Fin 16) :
    @Eq EReal (vPw x0 x1 x2 (ix2 r m)) (soft (fun i => best (allRow (row (n := 64) (S x0 x1 x2 0 (fst4 m)) r) (row (n := 64) (S x0 x1 x2 1 (fst4 m)) r)) i.val) (snd4 m)) := by
  have e : row (n := 4) (four (sums (S x0 x1 x2 0 (fst4 m)) (S x0 x1 x2 1 (fst4 m)))) r = fun i => best (allRow (row (n := 64) (S x0 x1 x2 0 (fst4 m)) r) (row (n := 64) (S x0 x1 x2 1 (fst4 m)) r)) i.val :=
    funext fun i => four_at _ _ r i
  rw [← e]
  refine Eq.trans (α := EReal) ?_ (pw_at _ r (snd4 m))
  exact concatenate_ofFn_apply (t := S256x16) (s₁ := S256x4) (1 : Fin 2) (fun g : Fin 4 => pw (four (sums (S x0 x1 x2 0 g) (S x0 x1 x2 1 g))))
    concatenates_S256x4_S256x4_S256x4_S256x4_S256x16_d1 rfl 4 rfl (ix2 r m) (fst4 m) rfl (ix2 r (snd4 m)) rfl fun b hb => match b with
    | ⟨0, _⟩ => rfl
    | ⟨1, _⟩ => absurd rfl hb

end Cert.RouteIdeal.Sck
-- ==== Proof.RouteValue.lean ====
/- What the routing call leaves in its three results, over the arguments. -/
module

public import proofs.«01_k».proof.Proof.Gen.RouteIdeal.Value
public import proofs.«01_k».proof.Proof.RouteRows
public import Idealize.ShloMosaic.Lib.Pipeline.Value

@[expose] public section

noncomputable section

namespace Cert.RouteIdeal.Sck

open Cert.RouteIdeal Cert.RouteIdeal.Gen Cert.TopFour
open Idealize.ShloMosaic hiding ix1 ix2 ix3 ix4
open Idealize.ShloMosaic.TcCoe Idealize.SL.Sem
open Idealize.ShloMosaic.ValueIdx
open scoped BigOperators

/-- The column of the queries at place `k` of head `g`'s half `p`. -/
def spot (p : Fin 2) (g : Fin 4) (k : Fin 512) : Fin 4096 := ⟨(p.val * 4 + g.val) * 512 + k.val, by have := p.isLt; have := g.isLt; have := k.isLt; omega⟩

/-- The similarity of a token, given by its row, to key `j` of head `g`'s half `p`. -/
def sim (x : Fin 1024 → EReal) (W : Fin 1024 → Fin 4096 → EReal) (K : Fin 2 → Fin 4 → Fin 512 → Fin 64 → EReal) (p : Fin 2) (g : Fin 4) : Fin 64 → EReal :=
  fun j => ∑ k : Fin 512, (∑ d : Fin 1024, x d * W d (spot p g k)) * K p g k j

/-- A token's row times a row of the up projection. -/
def lin (x U : Fin 1024 → EReal) : EReal := ∑ d, x d * U d

theorem zero_f32 {s : Shape} (i : s.Idx) : ((constant s .f32 0x00000000#32 : FVec Ideal s .f32) i : EReal) = 0 := Ideal.ofBits_zero_f32

section
variable (x0 : Vec Ideal S256x1024 .f32) (x1 : Vec Ideal S1024x4096 .bf16) (x2 : Vec Ideal S2x4x512x64 .bf16) (x3 : Vec Ideal S4096x1024 .bf16)

theorem qry_at (r : Fin 256) (c : Fin 4096) : @Eq EReal (qry x0 x1 (ix2 r c)) (∑ d : Fin 1024, (x0 (ix2 r d) : EReal) * (x1 (ix2 d c) : EReal)) := by
  unfold qry
  rw [View.ld_unit_zero hz, View.ld_unit_zero hz]
  refine (Ideal.matmul_plain_apply (M := 256) (K := 1024) (N := 4096) none _ _ _ r c).trans ?_
  rw [zero_f32, zero_add]
  exact Finset.sum_congr rfl fun d _ => congrArg (fun v : EReal => (x0 (ix2 r d) : EReal) * v) (congrFun (shapeCast_self (x1 : S1024x4096.Idx → EReal) _) _)

theorem simOf_at (o : Fin 2 → Nat) (h : S256x4096.Slices o S256x512) (q : FVec Ideal S256x4096 .f32) (k : Vec Ideal S1x1x512x64 .bf16) (r : Fin 256) (j : Fin 64)
    (p : Fin 2) (g : Fin 4) (h0 : o 0 = 0) (h1 : o 1 = (p.val * 4 + g.val) * 512) :
    @Eq EReal (simOf o h q k (ix2 r j)) (∑ e : Fin 512, (q (ix2 r (spot p g e)) : EReal) * (k (ix4 (0 : Fin 1) (0 : Fin 1) e j) : EReal)) := by
  unfold simOf
  refine (Ideal.matmul_plain_apply (M := 256) (K := 512) (N := 64) none _ _ _ r j).trans ?_
  rw [zero_f32, zero_add]
  refine Finset.sum_congr rfl fun e _ => ?_
  have a : @Eq EReal (extractStridedSlice S256x512 o q h (ix2 r e)) (q (ix2 r (spot p g e))) := by
    refine extractStridedSlice_apply o q h _ _ fun a => ?_
    match a with
    | ⟨0, _⟩ => show r.val = o 0 + r.val; omega
    | ⟨1, _⟩ => show (p.val * 4 + g.val) * 512 + e.val = o 1 + e.val; omega
  have b : @Eq EReal (shapeCast S512x64 k shapeCasts_S1x1x512x64_S512x64 (ix2 e j)) (k (ix4 (0 : Fin 1) (0 : Fin 1) e j)) := by
    refine shapeCast_apply k _ _ _ ?_
    rw [Shape.rowMajor_val_two, Shape.rowMajor_val_four]
    show ((0 * 1 + 0) * 512 + e.val) * 64 + j.val = e.val * 64 + j.val
    omega
  exact congr (congrArg (fun u v : EReal => u * v) a) b

theorem keys_at (o : Fin 4 → Nat) (h : ∀ a, o a + S1x1x512x64.size a ≤ S2x4x512x64.size a) (e : Fin 512) (j : Fin 64)
    (p : Fin 2) (g : Fin 4) (h0 : o 0 = p.val) (h1 : o 1 = g.val) (h2 : o 2 = 0) (h3 : o 3 = 0) :
    View.ld x2 (Rect.unit (s := S2x4x512x64) o S1x1x512x64.size h) (ix4 (0 : Fin 1) (0 : Fin 1) e j) = x2 (ix4 p g e j) := by
  refine congrArg x2 (funext fun a => Fin.ext ?_)
  match a with
  | ⟨0, _⟩ => show o 0 + 1 * 0 = p.val; omega
  | ⟨1, _⟩ => show o 1 + 1 * 0 = g.val; omega
  | ⟨2, _⟩ => show o 2 + 1 * e.val = e.val; omega
  | ⟨3, _⟩ => show o 3 + 1 * j.val = j.val; omega

theorem part_at (c : Fin 2 → Nat) (hc : S256x4096.Slices c S256x512) (o : Fin 4 → Nat) (h : ∀ a, o a + S1x1x512x64.size a ≤ S2x4x512x64.size a) (r : Fin 256)
    (p : Fin 2) (g : Fin 4) (c0 : c 0 = 0) (c1 : c 1 = (p.val * 4 + g.val) * 512) (h0 : o 0 = p.val) (h1 : o 1 = g.val) (h2 : o 2 = 0) (h3 : o 3 = 0) :
    row (n := 64) (simOf c hc (qry x0 x1) (View.ld x2 (Rect.unit (s := S2x4x512x64) o S1x1x512x64.size h))) r
      = sim (fun d => x0 (ix2 r d)) (fun d e => x1 (ix2 d e)) (fun p g e j => x2 (ix4 p g e j)) p g := by
  funext j
  refine Eq.trans (α := EReal) (simOf_at c hc _ _ r j p g c0 c1) (Finset.sum_congr rfl fun e _ => ?_)
  exact congr (congrArg (fun u v : EReal => u * v) (qry_at x0 x1 r _)) (keys_at x2 o h e j p g h0 h1 h2 h3)

theorem row_S (p : Fin 2) (g : Fin 4) (r : Fin 256) :
    row (n := 64) (S x0 x1 x2 p g) r = sim (fun d => x0 (ix2 r d)) (fun d e => x1 (ix2 d e)) (fun p g e j => x2 (ix4 p g e j)) p g :=
  match p, g with
  | 0, 0 => part_at x0 x1 x2 _ _ _ _ r 0 0 rfl rfl rfl rfl rfl rfl
  | 1, 0 => part_at x0 x1 x2 _ _ _ _ r 1 0 rfl rfl rfl rfl rfl rfl
  | 0, 1 => part_at x0 x1 x2 _ _ _ _ r 0 1 rfl rfl rfl rfl rfl rfl
  | 1, 1 => part_at x0 x1 x2 _ _ _ _ r 1 1 rfl rfl rfl rfl rfl rfl
  | 0, 2 => part_at x0 x1 x2 _ _ _ _ r 0 2 rfl rfl rfl rfl rfl rfl
  | 1, 2 => part_at x0 x1 x2 _ _ _ _ r 1 2 rfl rfl rfl rfl rfl rfl
  | 0, 3 => part_at x0 x1 x2 _ _ _ _ r 0 3 rfl rfl rfl rfl rfl rfl
  | 1, 3 => part_at x0 x1 x2 _ _ _ _ r 1 3 rfl rfl rfl rfl rfl rfl

theorem out4_at (r : Fin 256) (e : Fin 4096) :
    @Eq EReal (out0_4 (F := Ideal) x0 x1 x2 x3 (ix2 r e)) (∑ d : Fin 1024, (x0 (ix2 r d) : EReal) * (x3 (ix2 e d) : EReal)) := by
  unfold out0_4
  rw [View.canon_unit_zero hz, View.ld_unit_zero hz, View.ld_unit_zero hz]
  unfold k0_pay5
  simp only [shapeCast_self]
  refine Eq.trans (α := EReal) (Ideal.matmul_constant_zero_apply dot_S256x1024_S4096x1024_S256x4096_1_1_0_0_n_n none (k0_pay3 (F := Ideal) x0) x3 (ix2 r e)) ?_
  rw [← Equiv.sum_comp (contrEquiv1 dot_S256x1024_S4096x1024_S256x4096_1_1_0_0_n_n 1024 rfl rfl).symm]
  refine Finset.sum_congr rfl fun k _ => ?_
  have hk := contrEquiv1_symm_val dot_S256x1024_S4096x1024_S256x4096_1_1_0_0_n_n 1024 rfl rfl k
  have l : dot_S256x1024_S4096x1024_S256x4096_1_1_0_0_n_n.lhsIdx (ix2 r e) ((contrEquiv1 _ 1024 rfl rfl).symm k) = ix2 r k := by
    funext a; apply Fin.ext
    match a with
    | ⟨0, _⟩ => rfl
    | ⟨1, _⟩ => exact hk
  have r' : dot_S256x1024_S4096x1024_S256x4096_1_1_0_0_n_n.rhsIdx (ix2 r e) ((contrEquiv1 _ 1024 rfl rfl).symm k) = ix2 e k := by
    funext a; apply Fin.ext
    match a with
    | ⟨0, _⟩ => rfl
    | ⟨1, _⟩ => exact hk
  rw [l, r']
  rfl

/-- The joint number in column `m` of a token's row, from its similarities. -/
def idxOf (s : Fin 2 → Fin 4 → Fin 64 → EReal) (m : Fin 16) : BitVec 32 :=
  codeRow (s 0 (fst4 m)) (s 1 (fst4 m)) (pick (allRow (s 0 (fst4 m)) (s 1 (fst4 m))) (snd4 m).val)
/-- The weight in column `m`. -/
def pwOf (s : Fin 2 → Fin 4 → Fin 64 → EReal) (m : Fin 16) : EReal :=
  soft (fun i => best (allRow (s 0 (fst4 m)) (s 1 (fst4 m))) i.val) (snd4 m)

theorem out5_at (r : Fin 256) (k : Fin 16) :
    out0_5 (F := Ideal) x0 x1 x2 x3 (ix2 r k) = idxOf (sim (fun d => x0 (ix2 r d)) (fun d e => x1 (ix2 d e)) (fun p g e j => x2 (ix4 p g e j))) k := by
  rw [out0_5_eq, vIdx_at, row_S, row_S]; rfl

theorem out6_at (r : Fin 256) (k : Fin 16) :
    @Eq EReal (out0_6 (F := Ideal) x0 x1 x2 x3 (ix2 r k)) (pwOf (sim (fun d => x0 (ix2 r d)) (fun d e => x1 (ix2 d e)) (fun p g e j => x2 (ix4 p g e j))) k) := by
  rw [out0_6_eq]
  refine (vPw_at x0 x1 x2 r k).trans ?_
  rw [row_S, row_S]; rfl
end

variable (m : (ℓ : Loc nD τ sig) → Buf (Elt Ideal) ℓ) (c : Dev nD)

theorem tr0 : ∀ t : Fin cfg0.N, win0_0.index t (0 : Fin 2) = t.val ∧ win0_0.index t (1 : Fin 2) = 0 := (by decide +kernel : ∀ t : Fin grid0.N, _)
theorem tr1 : ∀ t : Fin cfg0.N, win0_1.index t (0 : Fin 2) = 0 ∧ win0_1.index t (1 : Fin 2) = 0 := (by decide +kernel : ∀ t : Fin grid0.N, _)
theorem tr2 : ∀ t : Fin cfg0.N, win0_2.index t (0 : Fin 4) = 0 ∧ win0_2.index t (1 : Fin 4) = 0 ∧ win0_2.index t (2 : Fin 4) = 0 ∧ win0_2.index t (3 : Fin 4) = 0 := (by decide +kernel : ∀ t : Fin grid0.N, _)
theorem tr3 : ∀ t : Fin cfg0.N, win0_3.index t (0 : Fin 2) = 0 ∧ win0_3.index t (1 : Fin 2) = 0 := (by decide +kernel : ∀ t : Fin grid0.N, _)
theorem tr4 : ∀ t : Fin cfg0.N, win0_4.index t (0 : Fin 2) = t.val ∧ win0_4.index t (1 : Fin 2) = 0 := (by decide +kernel : ∀ t : Fin grid0.N, _)
theorem tr5 : ∀ t : Fin cfg0.N, win0_5.index t (0 : Fin 2) = t.val ∧ win0_5.index t (1 : Fin 2) = 0 := (by decide +kernel : ∀ t : Fin grid0.N, _)
theorem tr6 : ∀ t : Fin cfg0.N, win0_6.index t (0 : Fin 2) = t.val ∧ win0_6.index t (1 : Fin 2) = 0 := (by decide +kernel : ∀ t : Fin grid0.N, _)

/-- The token that row `r` of block `t` is. -/
def tok (t : Fin cfg0.N) (r : Fin 256) : Fin 2048 := ⟨t.val * 256 + r.val, by have : t.val < 8 := t.isLt; have := r.isLt; omega⟩

theorem V_q : V m c main_v0 = (truncf .bf16 (m ((c : Thread nD τ).loc main_arg1) : FVec Ideal S1024x4096 .f32) bitsLt_bf16_f32 : FVec Ideal S1024x4096 .bf16) := by
  show StableHlo.after hostOps0 (fun b => m (c, b)) main_v0 = _
  simp only [hostOps0]; after_results <;> rfl

theorem V_keys : V m c main_v2 = (truncf .bf16 (transpose S2x4x512x64 [2, 0, 3, 1] (m ((c : Thread nD τ).loc main_arg2) : FVec Ideal S4x64x2x512 .f32) transposes_S4x64x2x512_S2x4x512x64_2_0_3_1) bitsLt_bf16_f32 : FVec Ideal S2x4x512x64 .bf16) := by
  show StableHlo.after hostOps0 (fun b => m (c, b)) main_v2 = _
  simp only [hostOps0]; after_results <;> rfl

theorem V_up : V m c main_v3 = (truncf .bf16 (m ((c : Thread nD τ).loc main_arg3) : FVec Ideal S4096x1024 .f32) bitsLt_bf16_f32 : FVec Ideal S4096x1024 .bf16) := by
  show StableHlo.after hostOps0 (fun b => m (c, b)) main_v3 = _
  simp only [hostOps0]; after_results <;> rfl

theorem blk_x (t : Fin cfg0.N) (r : Fin 256) (k : Fin 1024) :
    @Eq EReal (iblk m c 0 t (ix2 r k)) (m ((c : Thread nD τ).loc main_arg0) (ix2 (tok t r) k)) := by
  have e : ((cfg0.win 0).blk t).view.emb (ix2 r k) = ix2 (tok t r) k := by
    obtain ⟨e0, e1⟩ := tr0 t
    funext a; apply Fin.ext
    match a with
    | ⟨0, _⟩ => show win0_0.index t (0 : Fin 2) * 256 + 1 * r.val = t.val * 256 + r.val; omega
    | ⟨1, _⟩ => show win0_0.index t (1 : Fin 2) * 1024 + 1 * k.val = k.val; omega
  show V m c main_arg0 (((cfg0.win 0).blk t).view.emb (ix2 r k)) = _
  rw [e, V_main_arg0]

theorem blk_q (t : Fin cfg0.N) (k : Fin 1024) (e : Fin 4096) :
    @Eq EReal (iblk m c 1 t (ix2 k e)) (m ((c : Thread nD τ).loc main_arg1) (ix2 k e)) := by
  have h : ((cfg0.win 1).blk t).view.emb (ix2 k e) = ix2 k e := by
    obtain ⟨e0, e1⟩ := tr1 t
    funext a; apply Fin.ext
    match a with
    | ⟨0, _⟩ => show win0_1.index t (0 : Fin 2) * 1024 + 1 * k.val = k.val; omega
    | ⟨1, _⟩ => show win0_1.index t (1 : Fin 2) * 4096 + 1 * e.val = e.val; omega
  show V m c main_v0 (((cfg0.win 1).blk t).view.emb (ix2 k e)) = _
  rw [h, V_q]
  rfl

theorem blk_keys (t : Fin cfg0.N) (p : Fin 2) (g : Fin 4) (e : Fin 512) (j : Fin 64) :
    @Eq EReal (iblk m c 2 t (ix4 p g e j)) (m ((c : Thread nD τ).loc main_arg2) (ix4 g j p e)) := by
  have h : ((cfg0.win 2).blk t).view.emb (ix4 p g e j) = ix4 p g e j := by
    obtain ⟨e0, e1, e2, e3⟩ := tr2 t
    funext a; apply Fin.ext
    match a with
    | ⟨0, _⟩ => show win0_2.index t (0 : Fin 4) * 2 + 1 * p.val = p.val; omega
    | ⟨1, _⟩ => show win0_2.index t (1 : Fin 4) * 4 + 1 * g.val = g.val; omega
    | ⟨2, _⟩ => show win0_2.index t (2 : Fin 4) * 512 + 1 * e.val = e.val; omega
    | ⟨3, _⟩ => show win0_2.index t (3 : Fin 4) * 64 + 1 * j.val = j.val; omega
  show V m c main_v2 (((cfg0.win 2).blk t).view.emb (ix4 p g e j)) = _
  rw [h, V_keys]
  refine transpose_apply (α := EReal) [2, 0, 3, 1] (m ((c : Thread nD τ).loc main_arg2) : FVec Ideal S4x64x2x512 .f32) transposes_S4x64x2x512_S2x4x512x64_2_0_3_1 (ix4 p g e j) (ix4 g j p e) fun b => ?_
  match b with
  | ⟨0, _⟩ => rfl
  | ⟨1, _⟩ => rfl
  | ⟨2, _⟩ => rfl
  | ⟨3, _⟩ => rfl

theorem blk_up (t : Fin cfg0.N) (e : Fin 4096) (k : Fin 1024) :
    @Eq EReal (iblk m c 3 t (ix2 e k)) (m ((c : Thread nD τ).loc main_arg3) (ix2 e k)) := by
  have h : ((cfg0.win 3).blk t).view.emb (ix2 e k) = ix2 e k := by
    obtain ⟨e0, e1⟩ := tr3 t
    funext a; apply Fin.ext
    match a with
    | ⟨0, _⟩ => show win0_3.index t (0 : Fin 2) * 4096 + 1 * e.val = e.val; omega
    | ⟨1, _⟩ => show win0_3.index t (1 : Fin 2) * 1024 + 1 * k.val = k.val; omega
  show V m c main_v3 (((cfg0.win 3).blk t).view.emb (ix2 e k)) = _
  rw [h, V_up]
  rfl

/-- A token's similarities, over the arguments. -/
def simV (t : Fin 2048) : Fin 2 → Fin 4 → Fin 64 → EReal :=
  sim (fun d => m ((c : Thread nD τ).loc main_arg0) (ix2 t d)) (fun d e => m ((c : Thread nD τ).loc main_arg1) (ix2 d e))
    (fun p g e j => m ((c : Thread nD τ).loc main_arg2) (ix4 g j p e))

theorem sim_blk (t : Fin cfg0.N) (r : Fin 256) :
    sim (fun d => iblk m c 0 t (ix2 r d)) (fun d e => iblk m c 1 t (ix2 d e)) (fun p g e j => iblk m c 2 t (ix4 p g e j)) = simV m c (tok t r) := by
  have h0 : (fun k => iblk m c 0 t (ix2 r k) : Fin 1024 → EReal) = fun k => m ((c : Thread nD τ).loc main_arg0) (ix2 (tok t r) k) :=
    funext fun k => blk_x m c t r k
  have h1 : (fun k e => iblk m c 1 t (ix2 k e) : Fin 1024 → Fin 4096 → EReal) = fun k e => m ((c : Thread nD τ).loc main_arg1) (ix2 k e) :=
    funext fun k => funext fun e => blk_q m c t k e
  have h2 : (fun p g e j => iblk m c 2 t (ix4 p g e j) : Fin 2 → Fin 4 → Fin 512 → Fin 64 → EReal) = fun p g e j => m ((c : Thread nD τ).loc main_arg2) (ix4 g j p e) :=
    funext fun p => funext fun g => funext fun e => funext fun j => blk_keys m c t p g e j
  exact congr (congr (congrArg sim h0) h1) h2

/-- What the call leaves in its three results. -/
def hidVal : S2048x4096.Idx → EReal := fun j =>
  lin (fun d => m ((c : Thread nD τ).loc main_arg0) (ix2 (j 0) d)) (fun d => m ((c : Thread nD τ).loc main_arg3) (ix2 (j 1) d))
def idxVal : S2048x16.Idx → BitVec 32 := fun j => idxOf (simV m c (j 0)) (j 1)
def pwVal : S2048x16.Idx → EReal := fun j => pwOf (simV m c (j 0)) (j 1)

theorem split2 {a b : Nat} (y : (⟨2, ![a, b]⟩ : Shape).Idx) : ∃ (r : Fin a) (k : Fin b), y = ix2 r k :=
  ⟨y 0, y 1, by funext a; match a with | ⟨0, _⟩ => rfl | ⟨1, _⟩ => rfl⟩

theorem arr_hid : (dats m 0 c).arrAt 4 cfg0.N = hidVal m c := by
  refine (dats m 0 c).arrAt_eq_of_covers (4 : Fin 7) (hidVal m c) (by decide +kernel) fun t hf y => ?_
  obtain ⟨y0, y1, rfl⟩ : ∃ (r : Fin 256) (k : Fin 4096), y = ix2 r k := split2 y
  have e : ((cfg0.win 4).blk t).view.emb (ix2 y0 y1) = ix2 (tok t y0) y1 := by
    obtain ⟨e0, e1⟩ := tr4 t
    funext a; apply Fin.ext
    match a with
    | ⟨0, _⟩ => show win0_4.index t (0 : Fin 2) * 256 + 1 * y0.val = t.val * 256 + y0.val; omega
    | ⟨1, _⟩ => show win0_4.index t (1 : Fin 2) * 4096 + 1 * y1.val = y1.val; omega
  refine Eq.trans ?_ (congrArg (hidVal m c) e.symm)
  have q : @Eq EReal (out0_4 (F := Ideal) (iblk m c 0 t) (iblk m c 1 t) (iblk m c 2 t) (iblk m c 3 t) (ix2 y0 y1)) (hidVal m c (ix2 (tok t y0) y1)) :=
    (out4_at _ _ _ _ y0 y1).trans (Finset.sum_congr rfl fun d _ => congr (congrArg (fun u v : EReal => u * v) (blk_x m c t y0 d)) (blk_up m c t y1 d))
  refine Eq.trans ?_ q
  refine Eq.trans ?_ (congrFun (after0_4 m c t) _)
  rfl

theorem arr_idx : (dats m 0 c).arrAt 5 cfg0.N = idxVal m c := by
  refine (dats m 0 c).arrAt_eq_of_covers (5 : Fin 7) (idxVal m c) (by decide +kernel) fun t hf y => ?_
  obtain ⟨y0, y1, rfl⟩ : ∃ (r : Fin 256) (k : Fin 16), y = ix2 r k := split2 y
  have e : ((cfg0.win 5).blk t).view.emb (ix2 y0 y1) = ix2 (tok t y0) y1 := by
    obtain ⟨e0, e1⟩ := tr5 t
    funext a; apply Fin.ext
    match a with
    | ⟨0, _⟩ => show win0_5.index t (0 : Fin 2) * 256 + 1 * y0.val = t.val * 256 + y0.val; omega
    | ⟨1, _⟩ => show win0_5.index t (1 : Fin 2) * 16 + 1 * y1.val = y1.val; omega
  refine Eq.trans ?_ (congrArg (idxVal m c) e.symm)
  have q : out0_5 (F := Ideal) (iblk m c 0 t) (iblk m c 1 t) (iblk m c 2 t) (iblk m c 3 t) (ix2 y0 y1) = idxVal m c (ix2 (tok t y0) y1) :=
    (out5_at _ _ _ _ y0 y1).trans (congrArg (fun s => idxOf s y1) (sim_blk m c t y0))
  refine Eq.trans ?_ q
  refine Eq.trans ?_ (congrFun (after0_5 m c t) _)
  rfl

theorem arr_pw : (dats m 0 c).arrAt 6 cfg0.N = pwVal m c := by
  refine (dats m 0 c).arrAt_eq_of_covers (6 : Fin 7) (pwVal m c) (by decide +kernel) fun t hf y => ?_
  obtain ⟨y0, y1, rfl⟩ : ∃ (r : Fin 256) (k : Fin 16), y = ix2 r k := split2 y
  have e : ((cfg0.win 6).blk t).view.emb (ix2 y0 y1) = ix2 (tok t y0) y1 := by
    obtain ⟨e0, e1⟩ := tr6 t
    funext a; apply Fin.ext
    match a with
    | ⟨0, _⟩ => show win0_6.index t (0 : Fin 2) * 256 + 1 * y0.val = t.val * 256 + y0.val; omega
    | ⟨1, _⟩ => show win0_6.index t (1 : Fin 2) * 16 + 1 * y1.val = y1.val; omega
  refine Eq.trans ?_ (congrArg (pwVal m c) e.symm)
  have q : @Eq EReal (out0_6 (F := Ideal) (iblk m c 0 t) (iblk m c 1 t) (iblk m c 2 t) (iblk m c 3 t) (ix2 y0 y1)) (pwVal m c (ix2 (tok t y0) y1)) :=
    (out6_at _ _ _ _ y0 y1).trans (congrArg (fun s => pwOf s y1) (sim_blk m c t y0))
  refine Eq.trans ?_ q
  refine Eq.trans ?_ (congrFun (after0_6 m c t) _)
  rfl

end Cert.RouteIdeal.Sck

end
-- ==== Proof.RouteRefValue.lean ====
/- What the routing reference computes over real arguments: the same similarities, their four largest per head and half, the four
   largest of the sixteen sums with their joint numbers, and the softmax of those four. -/
module

public import proofs.«01_k».proof.Proof.Gen.RouteReferenceIdeal.Run
public import proofs.«01_k».proof.Proof.RouteValue
public import Idealize.ShloMosaic.Lib.ReduceAll

@[expose] public section

noncomputable section

namespace Cert.RouteReferenceIdeal.Sck

open Cert.RouteReferenceIdeal Cert.RouteReferenceIdeal.Gen Cert.TopFour
open Idealize.ShloMosaic hiding ix1 ix2 ix3 ix4
open Idealize.ShloMosaic.TcCoe Idealize.SL.Sem
open Idealize.ShloMosaic.ValueIdx
open Cert.RouteIdeal.Sck (sim spot lin best allRow codeRow soft fst4 snd4 idxOf pwOf split2 ninf)
open scoped BigOperators

/-! ## The similarities -/

theorem row_col (A : FVec Ideal S2048x1024 .f32) (B : FVec Ideal S1024x4096 .f32) (t : Fin 2048) (e : Fin 4096) :
    @Eq EReal (Host.dotGeneral dot_S2048x1024_S1024x4096_S2048x4096_1_0_0_1_n_n none A B (ix2 t e)) (∑ k : Fin 1024, (A (ix2 t k) : EReal) * (B (ix2 k e) : EReal)) := by
  show FloatOps.dotGeneral _ none _ A B (ix2 t e) = _
  rw [Ideal.dotGeneral_apply, ← Equiv.sum_comp (contrEquiv1 dot_S2048x1024_S1024x4096_S2048x4096_1_0_0_1_n_n 1024 rfl rfl).symm]
  refine Finset.sum_congr rfl fun k _ => ?_
  have hk := contrEquiv1_symm_val dot_S2048x1024_S1024x4096_S2048x4096_1_0_0_1_n_n 1024 rfl rfl k
  have l : dot_S2048x1024_S1024x4096_S2048x4096_1_0_0_1_n_n.lhsIdx (ix2 t e) ((contrEquiv1 _ 1024 rfl rfl).symm k) = ix2 t k := by
    funext a; apply Fin.ext
    match a with
    | ⟨0, _⟩ => rfl
    | ⟨1, _⟩ => exact hk
  have r : dot_S2048x1024_S1024x4096_S2048x4096_1_0_0_1_n_n.rhsIdx (ix2 t e) ((contrEquiv1 _ 1024 rfl rfl).symm k) = ix2 k e := by
    funext a; apply Fin.ext
    match a with
    | ⟨0, _⟩ => exact hk
    | ⟨1, _⟩ => rfl
  rw [l, r]

theorem key_query (A : FVec Ideal S4x64x2x512 .f32) (B : FVec Ideal S2x2048x4x512 .f32) (p : Fin 2) (g : Fin 4) (j : Fin 64) (t : Fin 2048) :
    @Eq EReal (Host.dotGeneral dot_S4x64x2x512_S2x2048x4x512_S2x4x64x2048_3_3_1_1_20_02 none A B (ix4 p g j t)) (∑ k : Fin 512, (A (ix4 g j p k) : EReal) * (B (ix4 p t g k) : EReal)) := by
  show FloatOps.dotGeneral _ none _ A B (ix4 p g j t) = _
  rw [Ideal.dotGeneral_apply, ← Equiv.sum_comp (contrEquiv1 dot_S4x64x2x512_S2x2048x4x512_S2x4x64x2048_3_3_1_1_20_02 512 rfl rfl).symm]
  refine Finset.sum_congr rfl fun k _ => ?_
  have hk := contrEquiv1_symm_val dot_S4x64x2x512_S2x2048x4x512_S2x4x64x2048_3_3_1_1_20_02 512 rfl rfl k
  have l : dot_S4x64x2x512_S2x2048x4x512_S2x4x64x2048_3_3_1_1_20_02.lhsIdx (ix4 p g j t) ((contrEquiv1 _ 512 rfl rfl).symm k) = ix4 g j p k := by
    funext a; apply Fin.ext
    match a with
    | ⟨0, _⟩ => rfl
    | ⟨1, _⟩ => rfl
    | ⟨2, _⟩ => rfl
    | ⟨3, _⟩ => exact hk
  have r : dot_S4x64x2x512_S2x2048x4x512_S2x4x64x2048_3_3_1_1_20_02.rhsIdx (ix4 p g j t) ((contrEquiv1 _ 512 rfl rfl).symm k) = ix4 p t g k := by
    funext a; apply Fin.ext
    match a with
    | ⟨0, _⟩ => rfl
    | ⟨1, _⟩ => rfl
    | ⟨2, _⟩ => rfl
    | ⟨3, _⟩ => exact hk
  rw [l, r]

variable (h : FVec Ideal S2048x1024 .f32) (W : FVec Ideal S1024x4096 .f32) (K : FVec Ideal S4x64x2x512 .f32)

/-- The queries by half, token and head. -/
def queries : FVec Ideal S2x2048x4x512 .f32 :=
  transpose S2x2048x4x512 [1, 0, 2, 3] (shapeCast S2048x2x4x512 (Host.dotGeneral dot_S2048x1024_S1024x4096_S2048x4096_1_0_0_1_n_n none h W) shapeCasts_S2048x4096_S2048x2x4x512) transposes_S2048x2x4x512_S2x2048x4x512_1_0_2_3
/-- The similarities by half, token and head. -/
def sims : FVec Ideal S2x2048x4x64 .f32 :=
  transpose S2x2048x4x64 [0, 3, 1, 2] (Host.dotGeneral dot_S4x64x2x512_S2x2048x4x512_S2x4x64x2048_3_3_1_1_20_02 none K (queries h W)) transposes_S2x4x64x2048_S2x2048x4x64_0_3_1_2

theorem queries_at (p : Fin 2) (t : Fin 2048) (g : Fin 4) (k : Fin 512) :
    @Eq EReal (queries h W (ix4 p t g k)) (∑ d : Fin 1024, (h (ix2 t d) : EReal) * (W (ix2 d (spot p g k)) : EReal)) := by
  unfold queries
  refine Eq.trans (α := EReal) (transpose_apply _ _ _ (ix4 p t g k) (ix4 t p g k) fun b => ?_) ?_
  · match b with
    | ⟨0, _⟩ => rfl
    | ⟨1, _⟩ => rfl
    | ⟨2, _⟩ => rfl
    | ⟨3, _⟩ => rfl
  refine Eq.trans (α := EReal) (shapeCast_apply _ _ (ix4 t p g k) (ix2 t (spot p g k)) ?_) (row_col h W t _)
  rw [Shape.rowMajor_val_two, Shape.rowMajor_val_four]
  show t.val * 4096 + ((p.val * 4 + g.val) * 512 + k.val) = ((t.val * 2 + p.val) * 4 + g.val) * 512 + k.val
  omega

/-- The similarities of token `t`, from the arguments. -/
def simR (t : Fin 2048) : Fin 2 → Fin 4 → Fin 64 → EReal :=
  sim (fun d => h (ix2 t d)) (fun d e => W (ix2 d e)) (fun p g e j => K (ix4 g j p e))

theorem sims_at (p : Fin 2) (t : Fin 2048) (g : Fin 4) (j : Fin 64) : @Eq EReal (sims h W K (ix4 p t g j)) (simR h W K t p g j) := by
  unfold sims simR sim
  refine Eq.trans (α := EReal) (transpose_apply _ _ _ (ix4 p t g j) (ix4 p g j t) fun b => ?_) ?_
  · match b with
    | ⟨0, _⟩ => rfl
    | ⟨1, _⟩ => rfl
    | ⟨2, _⟩ => rfl
    | ⟨3, _⟩ => rfl
  refine (key_query K _ p g j t).trans (Finset.sum_congr rfl fun e _ => ?_)
  refine (congrArg (fun v : EReal => (K (ix4 g j p e) : EReal) * v) (queries_at h W p t g e)).trans ?_
  exact mul_comm (G := EReal) _ _

/-! ## Finite arguments -/

/-- A real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.sum {n : Nat} (f : Fin n → EReal) (hf : ∀ k, IsReal (f k)) : IsReal (∑ k, f k) :=
  Finset.sum_induction f IsReal (fun _ _ => IsReal.add) ⟨0, rfl⟩ fun k _ => hf k

theorem IsReal.ne_bot {x : EReal} (hx : IsReal x) : x ≠ ⊥ := by
  obtain ⟨a, rfl⟩ := hx; exact EReal.coe_ne_bot a

theorem simR_real (hh : ∀ i, IsReal (h i)) (hW : ∀ i, IsReal (W i)) (hK : ∀ i, IsReal (K i)) (t : Fin 2048) (p : Fin 2) (g : Fin 4) (j : Fin 64) :
    IsReal (simR h W K t p g j) :=
  IsReal.sum _ fun _ => (IsReal.sum _ fun _ => (hh _).mul (hW _)).mul (hK _)

theorem best_eq {n : Nat} (X : Fin (n + 1) → EReal) (hX : ∀ k, IsReal (X k)) (i : Nat) (hi : i < n + 1) : best X i = X (pick X i) :=
  left_pick X (fun k => (hX k).ne_bot) i hi

theorem best_real {n : Nat} (X : Fin (n + 1) → EReal) (hX : ∀ k, IsReal (X k)) (i : Nat) (hi : i < n + 1) : IsReal (best X i) := by
  rw [best_eq X hX i hi]; exact hX _

theorem allRow_real (X Y : Fin 64 → EReal) (hX : ∀ k, IsReal (X k)) (hY : ∀ k, IsReal (Y k)) (m : Fin 16) : IsReal (allRow X Y m) :=
  (best_real X hX _ (by have := (fst4 m).isLt; omega)).add (best_real Y hY _ (by have := (snd4 m).isLt; omega))

/-! ## The four largest -/

theorem sorted_pick {n k : Nat} (X : Fin (n + 1) → EReal) (hX : ∀ j, X j ≠ ⊥) (hk : k ≤ n + 1) (R : Fin (n + 1) → Fin (n + 1) → Bool)
    (hR : ∀ p q, R p q = (FloatOps.cmpfTotal (F := Ideal) (φ := .f32) .gt (X p) (X q) == 1#1)) (i : Fin k) : sortedFrom R (i.castLE hk) = pick X i.val := by
  rw [sortedFrom_gt X R fun p q => ?_]
  · exact sortedFrom_before X hX hk i
  · rw [hR]
    show (BitVec.ofBool (decide (X q < X p)) == 1#1) = decide (X q < X p)
    cases decide (X q < X p) <;> rfl

/-- The greater-than of the reference's four largest. -/
abbrev gt : Ideal .f32 → Ideal .f32 → BitVec 1 := FloatOps.cmpfTotal .gt

theorem top64 (x : FVec Ideal S2x2048x4x64 .f32) (p : Fin 2) (t : Fin 2048) (g i : Fin 4) (X : Fin 64 → EReal)
    (hx : ∀ j, @Eq EReal (x (ix4 p t g j)) (X j)) (hX : ∀ j, IsReal (X j)) :
    @Eq EReal ((Host.topK S2x2048x4x4 3 gt x sliceFits_S2x2048x4x64_S2x2048x4x4).1 (ix4 p t g i)) (best X i.val)
    ∧ (Host.topK S2x2048x4x4 3 gt x sliceFits_S2x2048x4x64_S2x2048x4x4).2 (ix4 p t g i) = BitVec.ofNat 32 (pick X i.val).val := by
  have hl : ∀ j : Fin 64, Shape.Idx.along (s := S2x2048x4x64) (ix4 p t g (i.castLE (by norm_num : 4 ≤ 64))) (3 : Fin 4) j = ix4 p t g j := fun j => by
    funext a
    match a with
    | ⟨0, _⟩ => rfl
    | ⟨1, _⟩ => rfl
    | ⟨2, _⟩ => rfl
    | ⟨3, _⟩ => rfl
  have hk : ∀ a : Fin 4, ((ix4 p t g (i.castLE (by norm_num : 4 ≤ 64)) : S2x2048x4x64.Idx) a).val = 0 + ((ix4 p t g i : S2x2048x4x4.Idx) a).val := fun a => by
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm
  have hs := sorted_pick X (fun j => (hX j).ne_bot) (by norm_num : 4 ≤ 64)
    (fun k k' => gt (x (Shape.Idx.along (s := S2x2048x4x64) (ix4 p t g (i.castLE (by norm_num : 4 ≤ 64))) (3 : Fin 4) k))
      (x (Shape.Idx.along (s := S2x2048x4x64) (ix4 p t g (i.castLE (by norm_num : 4 ≤ 64))) (3 : Fin 4) k')) == 1#1)
    (fun a b => by rw [hl, hl]; exact congrArg₂ (fun u v : EReal => (gt u v == 1#1)) (hx a) (hx b)) i
  constructor
  · unfold Host.topK
    dsimp only
    refine Eq.trans (α := EReal) (extractStridedSlice_apply (s := S2x2048x4x64) (t := S2x2048x4x4) (fun _ => 0) _ _ (ix4 p t g i) (ix4 p t g (i.castLE (by norm_num : 4 ≤ 64))) hk) ?_
    refine Eq.trans (α := EReal) (congrArg (fun v => x (Shape.Idx.along (s := S2x2048x4x64) (ix4 p t g (i.castLE (by norm_num : 4 ≤ 64))) (3 : Fin 4) v)) hs) ?_
    rw [best_eq X hX _ (by have := i.isLt; omega)]
    exact (congrArg x (hl _)).trans (hx _)
  · unfold Host.topK
    dsimp only
    refine (extractStridedSlice_apply (s := S2x2048x4x64) (t := S2x2048x4x4) (fun _ => 0) _ _ (ix4 p t g i) (ix4 p t g (i.castLE (by norm_num : 4 ≤ 64))) hk).trans ?_
    refine (congrArg (fun v => iotaInDim S2x2048x4x64 32 (3 : Fin 4) (Shape.Idx.along (s := S2x2048x4x64) (ix4 p t g (i.castLE (by norm_num : 4 ≤ 64))) (3 : Fin 4) v)) hs).trans ?_
    rw [hl]; rfl

theorem top16 (x : FVec Ideal S2048x4x16 .f32) (t : Fin 2048) (g i : Fin 4) (X : Fin 16 → EReal)
    (hx : ∀ j, @Eq EReal (x (ix3 t g j)) (X j)) (hX : ∀ j, IsReal (X j)) :
    @Eq EReal ((Host.topK S2048x4x4 2 gt x sliceFits_S2048x4x16_S2048x4x4).1 (ix3 t g i)) (best X i.val)
    ∧ (Host.topK S2048x4x4 2 gt x sliceFits_S2048x4x16_S2048x4x4).2 (ix3 t g i) = BitVec.ofNat 32 (pick X i.val).val := by
  have hl : ∀ j : Fin 16, Shape.Idx.along (s := S2048x4x16) (ix3 t g (i.castLE (by norm_num : 4 ≤ 16))) (2 : Fin 3) j = ix3 t g j := fun j => by
    funext a
    match a with
    | ⟨0, _⟩ => rfl
    | ⟨1, _⟩ => rfl
    | ⟨2, _⟩ => rfl
  have hk : ∀ a : Fin 3, ((ix3 t g (i.castLE (by norm_num : 4 ≤ 16)) : S2048x4x16.Idx) a).val = 0 + ((ix3 t g i : S2048x4x4.Idx) a).val := fun a => by
    match a with
    | ⟨0, _⟩ => exact (Nat.zero_add _).symm
    | ⟨1, _⟩ => exact (Nat.zero_add _).symm
    | ⟨2, _⟩ => exact (Nat.zero_add _).symm
  have hs := sorted_pick X (fun j => (hX j).ne_bot) (by norm_num : 4 ≤ 16)
    (fun k k' => gt (x (Shape.Idx.along (s := S2048x4x16) (ix3 t g (i.castLE (by norm_num : 4 ≤ 16))) (2 : Fin 3) k))
      (x (Shape.Idx.along (s := S2048x4x16) (ix3 t g (i.castLE (by norm_num : 4 ≤ 16))) (2 : Fin 3) k')) == 1#1)
    (fun a b => by rw [hl, hl]; exact congrArg₂ (fun u v : EReal => (gt u v == 1#1)) (hx a) (hx b)) i
  constructor
  · unfold Host.topK
    dsimp only
    refine Eq.trans (α := EReal) (extractStridedSlice_apply (s := S2048x4x16) (t := S2048x4x4) (fun _ => 0) _ _ (ix3 t g i) (ix3 t g (i.castLE (by norm_num : 4 ≤ 16))) hk) ?_
    refine Eq.trans (α := EReal) (congrArg (fun v => x (Shape.Idx.along (s := S2048x4x16) (ix3 t g (i.castLE (by norm_num : 4 ≤ 16))) (2 : Fin 3) v)) hs) ?_
    rw [best_eq X hX _ (by have := i.isLt; omega)]
    exact (congrArg x (hl _)).trans (hx _)
  · unfold Host.topK
    dsimp only
    refine (extractStridedSlice_apply (s := S2048x4x16) (t := S2048x4x4) (fun _ => 0) _ _ (ix3 t g i) (ix3 t g (i.castLE (by norm_num : 4 ≤ 16))) hk).trans ?_
    refine (congrArg (fun v => iotaInDim S2048x4x16 32 (2 : Fin 3) (Shape.Idx.along (s := S2048x4x16) (ix3 t g (i.castLE (by norm_num : 4 ≤ 16))) (2 : Fin 3) v)) hs).trans ?_
    rw [hl]; rfl

/-! ## The sixteen sums and joint numbers -/

/-- One half of the values found. -/
def halfV (v : FVec Ideal S2x2048x4x4 .f32) (o : Fin 4 → Nat) (ho : S2x2048x4x4.Slices o S1x2048x4x4) : FVec Ideal S2048x4x4 .f32 :=
  shapeCast S2048x4x4 (extractStridedSlice S1x2048x4x4 o v ho) shapeCasts_S1x2048x4x4_S2048x4x4
/-- One half of the places found. -/
def halfI (v : IVec S2x2048x4x4 32) (o : Fin 4 → Nat) (ho : S2x2048x4x4.Slices o S1x2048x4x4) : IVec S2048x4x4 32 :=
  shapeCast S2048x4x4 (extractStridedSlice S1x2048x4x4 o v ho) shapeCasts_S1x2048x4x4_S2048x4x4
/-- Every pair's first member. -/
def fstAll {α : Type} (v : S2048x4x4.Idx → α) : S2048x4x4x4.Idx → α :=
  broadcastInDim S2048x4x4x4 ![0, 1, 2, 3] bcast_S2048x4x4x1_S2048x4x4x4_0_1_2_3 (broadcastInDim S2048x4x4x1 ![0, 1, 2] bcast_S2048x4x4_S2048x4x4x1_0_1_2 v)
/-- Every pair's second member. -/
def sndAll {α : Type} (v : S2048x4x4.Idx → α) : S2048x4x4x4.Idx → α :=
  broadcastInDim S2048x4x4x4 ![0, 1, 2, 3] bcast_S2048x4x1x4_S2048x4x4x4_0_1_2_3 (broadcastInDim S2048x4x1x4 ![0, 1, 3] bcast_S2048x4x4_S2048x4x1x4_0_1_3 v)

theorem half_at {α : Type} (v : S2x2048x4x4.Idx → α) (o : Fin 4 → Nat) (ho : S2x2048x4x4.Slices o S1x2048x4x4) (p : Fin 2) (h0 : o 0 = p.val) (h1 : o 1 = 0) (h2 : o 2 = 0) (h3 : o 3 = 0)
    (t : Fin 2048) (g i : Fin 4) :
    shapeCast S2048x4x4 (extractStridedSlice S1x2048x4x4 o v ho) shapeCasts_S1x2048x4x4_S2048x4x4 (ix3 t g i) = v (ix4 p t g i) := by
  refine (shapeCast_1abc_abc_apply _ _ t g i).trans ?_
  refine extractStridedSlice_apply (s := S2x2048x4x4) (t := S1x2048x4x4) o v ho _ _ fun a => ?_
  match a with
  | ⟨0, _⟩ => show p.val = o 0 + 0; omega
  | ⟨1, _⟩ => show t.val = o 1 + t.val; omega
  | ⟨2, _⟩ => show g.val = o 2 + g.val; omega
  | ⟨3, _⟩ => show i.val = o 3 + i.val; omega

theorem fstAll_at {α : Type} (v : S2048x4x4.Idx → α) (t : Fin 2048) (g i j : Fin 4) : fstAll v (ix4 t g i j) = v (ix3 t g i) := by
  refine (broadcastInDim_apply _ _ _ (ix4 t g i j) (ix4 t g i (0 : Fin 1)) fun a => ?_).trans (broadcastInDim_apply _ _ _ (ix4 t g i (0 : Fin 1)) (ix3 t g i) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

theorem sndAll_at {α : Type} (v : S2048x4x4.Idx → α) (t : Fin 2048) (g i j : Fin 4) : sndAll v (ix4 t g i j) = v (ix3 t g j) := by
  refine (broadcastInDim_apply _ _ _ (ix4 t g i j) (ix4 t g (0 : Fin 1) j) fun a => ?_).trans (broadcastInDim_apply _ _ _ (ix4 t g (0 : Fin 1) j) (ix3 t g j) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

theorem flat_at {α : Type} (v : S2048x4x4x4.Idx → α) (t : Fin 2048) (g : Fin 4) (m : Fin 16) :
    shapeCast S2048x4x16 v shapeCasts_S2048x4x4x4_S2048x4x16 (ix3 t g m) = v (ix4 t g (fst4 m) (snd4 m)) := by
  refine shapeCast_apply v _ _ _ ?_
  rw [Shape.rowMajor_val_three, Shape.rowMajor_val_four]
  show ((t.val * 4 + g.val) * 4 + m.val / 4) * 4 + m.val % 4 = (t.val * 4 + g.val) * 16 + m.val
  omega

/-- The four largest similarities of each half, and their places. -/
def topV : FVec Ideal S2x2048x4x4 .f32 := (Host.topK S2x2048x4x4 3 gt (sims h W K) sliceFits_S2x2048x4x64_S2x2048x4x4).1
def topI : IVec S2x2048x4x4 32 := (Host.topK S2x2048x4x4 3 gt (sims h W K) sliceFits_S2x2048x4x64_S2x2048x4x4).2
/-- The sixteen sums. -/
def sums : FVec Ideal S2048x4x16 .f32 :=
  shapeCast S2048x4x16 (addf (fstAll (halfV (topV h W K) ![0, 0, 0, 0] slices_S2x2048x4x4_S1x2048x4x4_0_0_0_0)) (sndAll (halfV (topV h W K) ![1, 0, 0, 0] slices_S2x2048x4x4_S1x2048x4x4_1_0_0_0))) shapeCasts_S2048x4x4x4_S2048x4x16
/-- The sixteen joint numbers. -/
def codes : IVec S2048x4x16 32 :=
  shapeCast S2048x4x16 (addi (fstAll (muli (halfI (topI h W K) ![0, 0, 0, 0] slices_S2x2048x4x4_S1x2048x4x4_0_0_0_0) (broadcastInDim S2048x4x4 ![] bcast_S_S2048x4x4 (constantI S_ 32 64#32))))
    (sndAll (halfI (topI h W K) ![1, 0, 0, 0] slices_S2x2048x4x4_S1x2048x4x4_1_0_0_0))) shapeCasts_S2048x4x4x4_S2048x4x16
/-- The four largest sums, and their places. -/
def bestV : FVec Ideal S2048x4x4 .f32 := (Host.topK S2048x4x4 2 gt (sums h W K) sliceFits_S2048x4x16_S2048x4x4).1
def bestI : IVec S2048x4x4 32 := (Host.topK S2048x4x4 2 gt (sums h W K) sliceFits_S2048x4x16_S2048x4x4).2

section
variable (hh : ∀ i, IsReal (h i)) (hW : ∀ i, IsReal (W i)) (hK : ∀ i, IsReal (K i))
include hh hW hK

theorem top_at (p : Fin 2) (t : Fin 2048) (g i : Fin 4) :
    @Eq EReal (topV h W K (ix4 p t g i)) (best (simR h W K t p g) i.val) ∧ topI h W K (ix4 p t g i) = BitVec.ofNat 32 (pick (simR h W K t p g) i.val).val :=
  top64 (sims h W K) p t g i (simR h W K t p g) (fun j => sims_at h W K p t g j) fun j => simR_real h W K hh hW hK t p g j

theorem sums_at (t : Fin 2048) (g : Fin 4) (m : Fin 16) : @Eq EReal (sums h W K (ix3 t g m)) (allRow (simR h W K t 0 g) (simR h W K t 1 g) m) := by
  refine Eq.trans (α := EReal) (flat_at _ t g m) ?_
  have a : @Eq EReal (fstAll (halfV (topV h W K) ![0, 0, 0, 0] slices_S2x2048x4x4_S1x2048x4x4_0_0_0_0) (ix4 t g (fst4 m) (snd4 m))) (best (simR h W K t 0 g) (fst4 m).val) :=
    (fstAll_at _ t g _ _).trans ((half_at (topV h W K) _ _ 0 rfl rfl rfl rfl t g _).trans (top_at h W K hh hW hK 0 t g _).1)
  have b : @Eq EReal (sndAll (halfV (topV h W K) ![1, 0, 0, 0] slices_S2x2048x4x4_S1x2048x4x4_1_0_0_0) (ix4 t g (fst4 m) (snd4 m))) (best (simR h W K t 1 g) (snd4 m).val) :=
    (sndAll_at _ t g _ _).trans ((half_at (topV h W K) _ _ 1 rfl rfl rfl rfl t g _).trans (top_at h W K hh hW hK 1 t g _).1)
  exact congrArg₂ (fun u v : EReal => u + v) a b

theorem codes_at (t : Fin 2048) (g : Fin 4) (m : Fin 16) : codes h W K (ix3 t g m) = codeRow (simR h W K t 0 g) (simR h W K t 1 g) m := by
  refine (flat_at _ t g m).trans ?_
  have a : halfI (topI h W K) ![0, 0, 0, 0] slices_S2x2048x4x4_S1x2048x4x4_0_0_0_0 (ix3 t g (fst4 m)) = BitVec.ofNat 32 (pick (simR h W K t 0 g) (fst4 m).val).val :=
    (half_at (topI h W K) _ _ 0 rfl rfl rfl rfl t g _).trans (top_at h W K hh hW hK 0 t g _).2
  have b : sndAll (halfI (topI h W K) ![1, 0, 0, 0] slices_S2x2048x4x4_S1x2048x4x4_1_0_0_0) (ix4 t g (fst4 m) (snd4 m)) = BitVec.ofNat 32 (pick (simR h W K t 1 g) (snd4 m).val).val :=
    (sndAll_at _ t g _ _).trans ((half_at (topI h W K) _ _ 1 rfl rfl rfl rfl t g _).trans (top_at h W K hh hW hK 1 t g _).2)
  exact congrArg₂ (fun u v : BitVec 32 => u + v) ((fstAll_at _ t g _ _).trans (congrArg (fun u : BitVec 32 => u * 64#32) a)) b

theorem best_at (t : Fin 2048) (g i : Fin 4) :
    @Eq EReal (bestV h W K (ix3 t g i)) (best (allRow (simR h W K t 0 g) (simR h W K t 1 g)) i.val)
    ∧ bestI h W K (ix3 t g i) = BitVec.ofNat 32 (pick (allRow (simR h W K t 0 g) (simR h W K t 1 g)) i.val).val :=
  top16 (sums h W K) t g i _ (fun j => sums_at h W K hh hW hK t g j) fun j => allRow_real _ _ (simR_real h W K hh hW hK t 0 g) (simR_real h W K hh hW hK t 1 g) j
end

/-! ## The joint numbers taken -/

/-- The places after the wrapping of negative ones, with a last axis of one. -/
def wrapped (y : IVec S2048x4x4 32) : IVec S2048x4x4x1 32 :=
  shapeCast S2048x4x4x1 (select (cmpi .slt y (broadcastInDim S2048x4x4 ![] bcast_S_S2048x4x4 (constantI S_ 32 0#32))) (addi y (broadcastInDim S2048x4x4 ![] bcast_S_S2048x4x4 (constantI S_ 32 16#32))) y) shapeCasts_S2048x4x4_S2048x4x4x1
/-- Which places name one of the sixteen. -/
def named (y : IVec S2048x4x4x1 32) : IVec S2048x4x4 1 :=
  Host.reduce IntOp.andi (andi (cmpi .sge y (broadcastInDim S2048x4x4x1 ![] bcast_S_S2048x4x4x1 (constantI S_ 32 0#32)))
    (cmpi .sle y (broadcastInDim S2048x4x4x1 ![0, 1, 2, 3] bcast_S1x1x1x1_S2048x4x4x1_0_1_2_3 (broadcastInDim S1x1x1x1 ![3] bcast_S1_S1x1x1x1_3 (constantI S1 32 15#32))))) (constantI S_ 1 1#1) reducesTo_S2048x4x4x1_S2048x4x4_d3 h_S_
/-- What stands in `z` at the places `y`. -/
def took (z : IVec S2048x4x16 32) (y : IVec S2048x4x4 32) : IVec S2048x4x4 32 :=
  select (named (wrapped y)) (Host.gather gather_S2048x4x16_S2048x4x4x1_S2048x4x4_n_2_01_01_2_3_111 z (wrapped y)) (broadcastInDim S2048x4x4 ![] bcast_S_S2048x4x4 (constantI S_ 32 2147483648#32))

theorem small_toInt (v : BitVec 32) (h : v.toNat < 16) : v.toInt = (v.toNat : ℤ) := by
  rw [BitVec.toInt_eq_toNat_cond, if_pos (by omega)]

theorem wrapped_at (y : IVec S2048x4x4 32) (hy : ∀ i, (y i).toNat < 16) (i : S2048x4x4x1.Idx) : wrapped y i = y (ix3 (i 0) (i 1) (i 2)) := by
  unfold wrapped
  refine (shapeCast_apply _ _ i (ix3 (i 0) (i 1) (i 2)) ?_).trans ?_
  · have h3 : (i 3).val = 0 := by have : (i 3).val < 1 := (i 3).isLt; omega
    rw [Shape.rowMajor_val_three, Shape.rowMajor_val_four]
    show ((i 0).val * 4 + (i 1).val) * 4 + (i 2).val = _
    simp [h3]
  · have h : IntOp.cmpi .slt (y (ix3 (i 0) (i 1) (i 2))) 0#32 ≠ 1#1 := fun h => by
      have a := IntOp.cmpi_slt.1 h
      rw [small_toInt _ (hy _)] at a
      have c : (0#32 : BitVec 32).toInt = 0 := by decide
      omega
    show Scalar.select (IntOp.cmpi .slt (y (ix3 (i 0) (i 1) (i 2))) 0#32) _ (y (ix3 (i 0) (i 1) (i 2))) = _
    rw [eq_zero_of_ne_one h, select_zero]

theorem named_eq (y : IVec S2048x4x4x1 32) (hy : ∀ i, (y i).toNat < 16) (j : S2048x4x4.Idx) : named y j = 1#1 := by
  refine Host.reduce_andi_one _ _ _ _ _ rfl fun i => ?_
  have a : IntOp.cmpi .sge (y i) 0#32 = 1#1 := IntOp.cmpi_sge.2 (by
    rw [small_toInt _ (hy i)]
    have c : (0#32 : BitVec 32).toInt = 0 := by decide
    omega)
  have b : IntOp.cmpi .sle (y i) 15#32 = 1#1 := IntOp.cmpi_sle.2 (by
    rw [small_toInt _ (hy i)]
    have c : (15#32 : BitVec 32).toInt = 15 := by decide
    have := hy i
    omega)
  show IntOp.andi (IntOp.cmpi .sge (y i) 0#32) (IntOp.cmpi .sle (y i) 15#32) = 1#1
  rw [a, b]; rfl

/-- The element of `z` in token `t`'s row for head `g` at the place that `y` holds. -/
theorem gather_at (z : IVec S2048x4x16 32) (y : IVec S2048x4x4x1 32) (t : Fin 2048) (g i : Fin 4) (hy : (y (ix4 t g i (0 : Fin 1))).toNat < 16) :
    Host.gather gather_S2048x4x16_S2048x4x4x1_S2048x4x4_n_2_01_01_2_3_111 z y (ix3 t g i) = z (ix3 t g ⟨(y (ix4 t g i (0 : Fin 1))).toNat, hy⟩) := by
  unfold Host.gather
  refine congrArg z (funext fun a => Fin.ext ?_)
  show GatherDims.start gather_S2048x4x16_S2048x4x4x1_S2048x4x4_n_2_01_01_2_3_111 (ix3 t g i) y a + GatherDims.batchCoord gather_S2048x4x16_S2048x4x4x1_S2048x4x4_n_2_01_01_2_3_111 (ix3 t g i) a + GatherDims.offCoord gather_S2048x4x16_S2048x4x4x1_S2048x4x4_n_2_01_01_2_3_111 (ix3 t g i) a = _
  have ha : a = (0 : Fin 3) ∨ a = (1 : Fin 3) ∨ a = (2 : Fin 3) := (by decide : ∀ a : Fin 3, a = 0 ∨ a = 1 ∨ a = 2) a
  rcases ha with rfl | rfl | rfl
  · have hb : (0 : Fin 3) ∈ gather_S2048x4x16_S2048x4x4x1_S2048x4x4_n_2_01_01_2_3_111.operandBatchingDims := List.mem_cons_self
    rw [GatherDims.start_batching _ _ _ _ hb, GatherDims.offCoord_eq_zero _ _ _ fun h => ((GatherDims.mem_sKept _ _).1 h).2 hb]
    unfold GatherDims.batchCoord
    rw [dif_pos hb]
    simp only [Nat.zero_add, Nat.add_zero]
    rfl
  · have hb : (1 : Fin 3) ∈ gather_S2048x4x16_S2048x4x4x1_S2048x4x4_n_2_01_01_2_3_111.operandBatchingDims := List.mem_cons_of_mem _ List.mem_cons_self
    rw [GatherDims.start_batching _ _ _ _ hb, GatherDims.offCoord_eq_zero _ _ _ fun h => ((GatherDims.mem_sKept _ _).1 h).2 hb]
    unfold GatherDims.batchCoord
    rw [dif_pos hb]
    simp only [Nat.zero_add, Nat.add_zero]
    rfl
  · have hs : (2 : Fin 3) ∈ gather_S2048x4x16_S2048x4x4x1_S2048x4x4_n_2_01_01_2_3_111.startIndexMap := List.mem_singleton.2 rfl
    have hc : (2 : Fin 3) ∈ gather_S2048x4x16_S2048x4x4x1_S2048x4x4_n_2_01_01_2_3_111.collapsedSliceDims := List.mem_singleton.2 rfl
    have hn : (2 : Fin 3) ∉ gather_S2048x4x16_S2048x4x4x1_S2048x4x4_n_2_01_01_2_3_111.operandBatchingDims := (by decide : (2 : Fin 3) ∉ ([0, 1] : List (Fin 3)))
    rw [GatherDims.batchCoord_eq_zero _ _ _ hn, GatherDims.offCoord_eq_zero _ _ _ fun h => ((GatherDims.mem_sKept _ _).1 h).1 hc]
    unfold GatherDims.start
    rw [dif_pos hs]
    simp only [Nat.add_zero]
    have hm : ∀ v : BitVec 32, v.toNat < 16 → min v.toInt.toNat 15 = v.toNat := fun v hv => by rw [small_toInt v hv]; omega
    refine Eq.trans (congrArg (fun v : BitVec 32 => min v.toInt.toNat 15) (congrArg y (?_ : _ = ix4 t g i (0 : Fin 1)))) (hm _ hy)
    funext b
    match b with
    | ⟨0, _⟩ => rfl
    | ⟨1, _⟩ => rfl
    | ⟨2, _⟩ => rfl
    | ⟨3, _⟩ => rfl

theorem took_at (z : IVec S2048x4x16 32) (y : IVec S2048x4x4 32) (hy : ∀ i, (y i).toNat < 16) (t : Fin 2048) (g i : Fin 4) (k : Fin 16) (hk : y (ix3 t g i) = BitVec.ofNat 32 k.val) :
    took z y (ix3 t g i) = z (ix3 t g k) := by
  have hw : ∀ i, (wrapped y i).toNat < 16 := fun i => by rw [wrapped_at y hy]; exact hy _
  unfold took
  rw [select_apply, named_eq _ hw, select_one, gather_at z _ t g i (hw _)]
  refine congrArg (fun v => z (ix3 t g v)) (Fin.ext ?_)
  show (wrapped y (ix4 t g i (0 : Fin 1))).toNat = k.val
  rw [wrapped_at y hy]
  refine (congrArg BitVec.toNat hk).trans ?_
  rw [BitVec.toNat_ofNat]
  have := k.isLt
  omega

/-! ## The softmax -/

/-- Each row's largest value along the row. -/
def maxB (v : FVec Ideal S2048x4x4 .f32) : FVec Ideal S2048x4x4 .f32 :=
  broadcastInDim S2048x4x4 ![0, 1, 2] bcast_S2048x4x1_S2048x4x4_0_1_2 (broadcastInDim S2048x4x1 ![0, 1] bcast_S2048x4_S2048x4x1_0_1
    (maximumf (broadcastInDim S2048x4 ![] bcast_S_S2048x4 (constant S_ .f32 0xFF800000#32)) (Host.reduce FloatOps.maximumf v (constant S_ .f32 0xFF800000#32) reducesTo_S2048x4x4_S2048x4_d2 h_S_)))
/-- The exponentials. -/
def expo (v : FVec Ideal S2048x4x4 .f32) : FVec Ideal S2048x4x4 .f32 := Host.exp (subf v (maxB v))
/-- The softmax of each row. -/
def smax (v : FVec Ideal S2048x4x4 .f32) : FVec Ideal S2048x4x4 .f32 :=
  Host.divf (expo v) (broadcastInDim S2048x4x4 ![0, 1, 2] bcast_S2048x4x1_S2048x4x4_0_1_2 (broadcastInDim S2048x4x1 ![0, 1] bcast_S2048x4_S2048x4x1_0_1
    (Host.reduceAdd (expo v) (constant S_ .f32 0x00000000#32) reducesTo_S2048x4x4_S2048x4_d2 h_S_)))

theorem reds : S2048x4x4.Reduces [2] S2048x4 := by decide

theorem along_at {α : Type} (v : S2048x4.Idx → α) (t : Fin 2048) (g i : Fin 4) :
    broadcastInDim S2048x4x4 ![0, 1, 2] bcast_S2048x4x1_S2048x4x4_0_1_2 (broadcastInDim S2048x4x1 ![0, 1] bcast_S2048x4_S2048x4x1_0_1 v) (ix3 t g i) = v (ix2 t g) := by
  refine (broadcastInDim_apply _ _ _ (ix3 t g i) (ix3 t g (0 : Fin 1)) fun a => ?_).trans (broadcastInDim_apply _ _ _ (ix3 t g (0 : Fin 1)) (ix2 t g) fun a => ?_)
  · match a with
    | ⟨0, _⟩ => rfl
    | ⟨1, _⟩ => rfl
    | ⟨2, _⟩ => rfl
  · match a with
    | ⟨0, _⟩ => rfl
    | ⟨1, _⟩ => rfl

theorem lift_at (t : Fin 2048) (g i : Fin 4) : reds.lift (ix2 t g) i = ix3 t g i := by
  funext a; apply Fin.ext
  match a with
  | ⟨0, _⟩ => rfl
  | ⟨1, _⟩ => rfl
  | ⟨2, _⟩ => rfl

theorem maxB_at (v : FVec Ideal S2048x4x4 .f32) (t : Fin 2048) (g i : Fin 4) (w : Fin 4 → EReal) (hw : ∀ i, @Eq EReal (v (ix3 t g i)) (w i)) :
    @Eq EReal (maxB v (ix3 t g i)) (Finset.univ.fold max ⊥ w) := by
  unfold maxB
  refine Eq.trans (α := EReal) (along_at _ t g i) ?_
  have e : @Eq EReal (Host.reduce (FloatOps.maximumf (F := Ideal) (φ := .f32)) v (constant (F := Ideal) S_ .f32 0xFF800000#32) reducesTo_S2048x4x4_S2048x4_d2 h_S_ (ix2 t g)) (Finset.univ.fold max ⊥ w) := by
    refine Eq.trans (α := EReal) (Host.reduce_eq_fold_single (α := EReal) max v (constant S_ .f32 0xFF800000#32 : FVec Ideal S_ .f32) reducesTo_S2048x4x4_S2048x4_d2 reds h_S_ (ix2 t g)) ?_
    have e0 : ((constant S_ .f32 0xFF800000#32 : FVec Ideal S_ .f32) (Shape.Idx.first h_S_) : EReal) = ⊥ := ninf
    have e1 : (v ∘ reds.lift (ix2 t g) : Fin 4 → EReal) = w := funext fun i => (congrArg v (lift_at t g i)).trans (hw i)
    exact congrArg₂ (fun (b : EReal) (f : Fin 4 → EReal) => Finset.univ.fold max b f) e0 e1
  refine Eq.trans (α := EReal) (congrArg₂ (fun a b : EReal => max a b) ninf e) ?_
  exact max_eq_right bot_le

theorem expo_at (v : FVec Ideal S2048x4x4 .f32) (t : Fin 2048) (g i : Fin 4) (w : Fin 4 → EReal) (hw : ∀ i, @Eq EReal (v (ix3 t g i)) (w i)) :
    @Eq EReal (expo v (ix3 t g i)) (Ideal.exp (w i - Finset.univ.fold max ⊥ w)) :=
  congrArg₂ (fun a b : EReal => Ideal.exp (a - b)) (hw i) (maxB_at v t g i w hw)

theorem smax_at (v : FVec Ideal S2048x4x4 .f32) (t : Fin 2048) (g i : Fin 4) (w : Fin 4 → EReal) (hw : ∀ i, @Eq EReal (v (ix3 t g i)) (w i)) :
    @Eq EReal (smax v (ix3 t g i)) (soft w i) := by
  have e : @Eq EReal (broadcastInDim S2048x4x4 ![0, 1, 2] bcast_S2048x4x1_S2048x4x4_0_1_2 (broadcastInDim S2048x4x1 ![0, 1] bcast_S2048x4_S2048x4x1_0_1
      (Host.reduceAdd (expo v) (constant S_ .f32 0x00000000#32) reducesTo_S2048x4x4_S2048x4_d2 h_S_)) (ix3 t g i)) (∑ i, Ideal.exp (w i - Finset.univ.fold max ⊥ w)) := by
    refine Eq.trans (α := EReal) (along_at _ t g i) ?_
    refine Eq.trans (α := EReal) (Ideal.hostReduceAdd_single reducesTo_S2048x4x4_S2048x4_d2 reds (expo v) _ (ix2 t g)) ?_
    refine Eq.trans (α := EReal) (congrArg (fun b : EReal => b + _) Ideal.ofBits_zero_f32) ?_
    rw [zero_add]
    exact Finset.sum_congr rfl fun i _ => (congrArg (expo v) (lift_at t g i)).trans (expo_at v t g i w hw)
  exact congrArg₂ (fun a b : EReal => Ideal.div a b) (expo_at v t g i w hw) e

/-! ## The three results -/

theorem col_at {α : Type} (v : S2048x4x4.Idx → α) (t : Fin 2048) (m : Fin 16) : shapeCast S2048x16 v shapeCasts_S2048x4x4_S2048x16 (ix2 t m) = v (ix3 t (fst4 m) (snd4 m)) := by
  refine shapeCast_apply v _ _ _ ?_
  rw [Shape.rowMajor_val_two, Shape.rowMajor_val_three]
  show (t.val * 4 + m.val / 4) * 4 + m.val % 4 = t.val * 16 + m.val
  omega

theorem bestI_lt (hh : ∀ i, IsReal (h i)) (hW : ∀ i, IsReal (W i)) (hK : ∀ i, IsReal (K i)) (i : S2048x4x4.Idx) : (bestI h W K i).toNat < 16 := by
  obtain ⟨t, g, k, rfl⟩ : ∃ (t : Fin 2048) (g k : Fin 4), i = ix3 t g k := ⟨i 0, i 1, i 2, by
    funext a
    match a with
    | ⟨0, _⟩ => rfl
    | ⟨1, _⟩ => rfl
    | ⟨2, _⟩ => rfl⟩
  rw [(best_at h W K hh hW hK t g k).2, BitVec.toNat_ofNat]
  have := (pick (allRow (simR h W K t 0 g) (simR h W K t 1 g)) k.val).isLt
  omega

theorem idx_at (hh : ∀ i, IsReal (h i)) (hW : ∀ i, IsReal (W i)) (hK : ∀ i, IsReal (K i)) (t : Fin 2048) (m : Fin 16) :
    shapeCast S2048x16 (took (codes h W K) (bestI h W K)) shapeCasts_S2048x4x4_S2048x16 (ix2 t m) = idxOf (simR h W K t) m := by
  refine (col_at _ t m).trans ?_
  refine (took_at (codes h W K) (bestI h W K) (bestI_lt h W K hh hW hK) t (fst4 m) (snd4 m) _ (best_at h W K hh hW hK t (fst4 m) (snd4 m)).2).trans ?_
  exact codes_at h W K hh hW hK t (fst4 m) _

theorem pw_at (hh : ∀ i, IsReal (h i)) (hW : ∀ i, IsReal (W i)) (hK : ∀ i, IsReal (K i)) (t : Fin 2048) (m : Fin 16) :
    @Eq EReal (shapeCast S2048x16 (smax (bestV h W K)) shapeCasts_S2048x4x4_S2048x16 (ix2 t m)) (pwOf (simR h W K t) m) := by
  refine Eq.trans (α := EReal) (col_at _ t m) ?_
  exact smax_at (bestV h W K) t (fst4 m) (snd4 m) (fun i => best (allRow (simR h W K t 0 (fst4 m)) (simR h W K t 1 (fst4 m))) i.val) fun i => (best_at h W K hh hW hK t (fst4 m) i).1

theorem hid_at (U : FVec Ideal S4096x1024 .f32) (t : Fin 2048) (e : Fin 4096) :
    @Eq EReal (Host.dotGeneral dot_S2048x1024_S1024x4096_S2048x4096_1_0_0_1_n_n none h (transpose S1024x4096 [1, 0] U transposes_S4096x1024_S1024x4096_1_0) (ix2 t e))
      (lin (fun d => h (ix2 t d)) (fun d => U (ix2 e d))) := by
  refine (row_col h _ t e).trans (Finset.sum_congr rfl fun d _ => congrArg (fun v : EReal => (h (ix2 t d) : EReal) * v) ?_)
  refine transpose_apply (α := EReal) _ _ _ (ix2 d e) (ix2 e d) fun b => ?_
  match b with
  | ⟨0, _⟩ => rfl
  | ⟨1, _⟩ => rfl

section
variable (m : (ℓ : Loc nD τ sig) → Buf (Elt Ideal) ℓ) (d : Dev nD)

set_option maxRecDepth 8192 in
theorem res_idx : Value.res_out1 m d
    = shapeCast S2048x16 (took (codes (m ((d.tc : Thread nD τ).loc main_arg0)) (m ((d.tc : Thread nD τ).loc main_arg1)) (m ((d.tc : Thread nD τ).loc main_arg2)))
        (bestI (m ((d.tc : Thread nD τ).loc main_arg0)) (m ((d.tc : Thread nD τ).loc main_arg1)) (m ((d.tc : Thread nD τ).loc main_arg2)))) shapeCasts_S2048x4x4_S2048x16 := rfl

set_option maxRecDepth 8192 in
theorem res_pw : Value.res_out2 m d
    = shapeCast S2048x16 (smax (bestV (m ((d.tc : Thread nD τ).loc main_arg0)) (m ((d.tc : Thread nD τ).loc main_arg1)) (m ((d.tc : Thread nD τ).loc main_arg2)))) shapeCasts_S2048x4x4_S2048x16 := rfl
end

end Cert.RouteReferenceIdeal.Sck

end
-- ==== Proof.RouteSame.lean ====
/- The three results of the routing call are the reference's, where the hidden states, the query weights and the keys are finite. -/
module

public import proofs.«01_k».proof.Pre_finite
public import proofs.«01_k».proof.Proof.Range
public import proofs.«01_k».proof.Proof.RouteRefValue

@[expose] public section

noncomputable section

namespace Cert.RouteSame

open Idealize.ShloMosaic hiding ix1 ix2 ix3 ix4
open Idealize.ShloMosaic.TcCoe Idealize.SL.Sem
open Idealize.ShloMosaic.ValueIdx
open Cert.RouteReferenceIdeal Cert.RouteReferenceIdeal.Gen Cert.RouteReferenceIdeal.Sck

/-- All that `finite` says. -/
theorem all_of_finite [Cert.Pre_finite.Facts] (h : FVec Ideal S2048x1024 .f32) (W : FVec Ideal S1024x4096 .f32) (K : FVec Ideal S4x64x2x512 .f32)
    (U : FVec Ideal S4096x1024 .f32) (e : Cert.Pre_finite.fn (F := Ideal) h W K U = fun _ => 1#1) :
    (∀ i, IsReal (h i)) ∧ (∀ i, IsReal (W i)) ∧ ∀ i, IsReal (K i) := by
  have e0 := congrFun e (fun a => a.elim0)
  unfold Cert.Pre_finite.fn at e0
  have a := Cert.Range.and_one e0
  have b := Cert.Range.and_one a.1
  exact ⟨Cert.Range.real_of_all _ _ _ _ h _ b.1, Cert.Range.real_of_all _ _ _ _ W _ b.2, Cert.Range.real_of_all _ _ _ _ K _ a.2⟩

/-- The hidden values. -/
theorem hid_eq (m : (ℓ : Loc Cert.RouteIdeal.nD Cert.RouteIdeal.τ Cert.RouteIdeal.sig) → Buf (Elt Ideal) ℓ) (c : Dev nD)
    (h : FVec Ideal S2048x1024 .f32) (U : FVec Ideal S4096x1024 .f32)
    (e0 : h = m ((c.tc : Thread Cert.RouteIdeal.nD Cert.RouteIdeal.τ).loc Cert.RouteIdeal.main_arg0))
    (e3 : U = m ((c.tc : Thread Cert.RouteIdeal.nD Cert.RouteIdeal.τ).loc Cert.RouteIdeal.main_arg3)) :
    @Eq (FVec Ideal S2048x4096 .f32) (Host.dotGeneral dot_S2048x1024_S1024x4096_S2048x4096_1_0_0_1_n_n none h
      (transpose S1024x4096 [1, 0] U transposes_S4096x1024_S1024x4096_1_0)) (Cert.RouteIdeal.Sck.hidVal m c) := by
  subst e0 e3
  funext j
  obtain ⟨t, e, rfl⟩ := Cert.RouteIdeal.Sck.split2 j
  exact hid_at _ _ t e

section
variable (m : (ℓ : Loc Cert.RouteIdeal.nD Cert.RouteIdeal.τ Cert.RouteIdeal.sig) → Buf (Elt Ideal) ℓ)
  (m' : (ℓ : Loc nD τ sig) → Buf (Elt Ideal) ℓ) (c : Dev nD)
  (e0 : m' ((c.tc : Thread nD τ).loc main_arg0) = m ((c.tc : Thread Cert.RouteIdeal.nD Cert.RouteIdeal.τ).loc Cert.RouteIdeal.main_arg0))
  (e1 : m' ((c.tc : Thread nD τ).loc main_arg1) = m ((c.tc : Thread Cert.RouteIdeal.nD Cert.RouteIdeal.τ).loc Cert.RouteIdeal.main_arg1))
  (e2 : m' ((c.tc : Thread nD τ).loc main_arg2) = m ((c.tc : Thread Cert.RouteIdeal.nD Cert.RouteIdeal.τ).loc Cert.RouteIdeal.main_arg2))
variable (hf : (∀ i, IsReal (m' ((c.tc : Thread nD τ).loc main_arg0) i)) ∧ (∀ i, IsReal (m' ((c.tc : Thread nD τ).loc main_arg1) i))
  ∧ ∀ i, IsReal (m' ((c.tc : Thread nD τ).loc main_arg2) i))
include e0 e1 e2 hf

/-- The experts' numbers. -/
theorem idx_eq : Value.res_out1 m' c = Cert.RouteIdeal.Sck.idxVal m c := by
  obtain ⟨hh, hW, hK⟩ := hf
  rw [res_idx]
  funext j
  obtain ⟨t, k, rfl⟩ := Cert.RouteIdeal.Sck.split2 j
  refine (idx_at _ _ _ hh hW hK t k).trans ?_
  rw [e0, e1, e2]
  rfl

/-- The weights. -/
theorem pw_eq : Value.res_out2 m' c = Cert.RouteIdeal.Sck.pwVal m c := by
  obtain ⟨hh, hW, hK⟩ := hf
  rw [res_pw]
  funext j
  obtain ⟨t, k, rfl⟩ := Cert.RouteIdeal.Sck.split2 j
  refine Eq.trans (α := EReal) (pw_at _ _ _ hh hW hK t k) ?_
  rw [e0, e1, e2]
  rfl
end

end Cert.RouteSame

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.ReferenceIdeal
public import proofs.«01_k».proof.Proof.Gen.Pre_in_range
public import proofs.«01_k».proof.Proof.Gen.Pre_pre
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal.Run
public import proofs.«01_k».proof.Proof.Gen.Hidden
public import proofs.«01_k».proof.Proof.Gen.Hidden.Skeleton
public import proofs.«01_k».proof.Proof.Gen.Hidden.Launch
public import proofs.«01_k».proof.Proof.Gen.Hidden.Points
public import proofs.«01_k».proof.Proof.Gen.Hidden.Frame
public import proofs.«01_k».proof.Proof.Gen.HiddenIdeal
public import proofs.«01_k».proof.Proof.Gen.HiddenIdeal.Skeleton
public import proofs.«01_k».proof.Proof.Gen.HiddenIdeal.Launch
public import proofs.«01_k».proof.Proof.Gen.HiddenIdeal.Points
public import proofs.«01_k».proof.Proof.Gen.HiddenIdeal.Frame
public import proofs.«01_k».proof.Proof.Gen.HiddenIdeal.Value
public import proofs.«01_k».proof.Proof.Gen.HiddenReferenceIdeal
public import proofs.«01_k».proof.Proof.Gen.HiddenReferenceIdeal.Run
public import proofs.«01_k».proof.Proof.Gen.Pre_finite
public import proofs.«01_k».proof.Proof.Gen.RouteReferenceIdeal
public import proofs.«01_k».proof.Proof.Gen.RouteReferenceIdeal.Run
public import proofs.«01_k».proof.Proof.Gen.Route
public import proofs.«01_k».proof.Proof.Gen.Route.Skeleton
public import proofs.«01_k».proof.Proof.Gen.Route.Launch
public import proofs.«01_k».proof.Proof.Gen.Route.Points
public import proofs.«01_k».proof.Proof.Gen.Route.Frame
public import proofs.«01_k».proof.Proof.Gen.RouteIdeal
public import proofs.«01_k».proof.Proof.Gen.RouteIdeal.Skeleton
public import proofs.«01_k».proof.Proof.Gen.RouteIdeal.Launch
public import proofs.«01_k».proof.Proof.Gen.RouteIdeal.Points
public import proofs.«01_k».proof.Proof.Gen.RouteIdeal.Frame
public import proofs.«01_k».proof.Proof.Gen.RouteIdeal.Value
public import proofs.«01_k».proof.Proof.SckRun
public import proofs.«01_k».proof.Proof.IdealSckRun
public import proofs.«01_k».proof.Proof.Range
public import proofs.«01_k».proof.Proof.Product
public import proofs.«01_k».proof.Proof.RefValue
public import proofs.«01_k».proof.Proof.HiddenValue
public import proofs.«01_k».proof.Proof.RouteSame
public import Idealize.ShloMosaic.Lib.Quiescent
public import Idealize.ShloMosaic.Adequacy
public import Idealize.ShloMosaic.Init

@[expose] public section

noncomputable section

namespace Cert.Proof

open Idealize.ShloMosaic Idealize.SL.Sem

/-- The arguments' arrays, at the end. -/
theorem args {F : FTy → Type} [FloatOps F] {m : (ℓ : Loc Cert.Kernel.nD Cert.Kernel.τ Cert.Kernel.sig) → Buf (Elt F) ℓ}
    {r : PUnit × MemSt Cert.Kernel.nD Cert.Kernel.τ Cert.Kernel.sig (Elt F)} (h : Cert.Kernel.Sck.QC m r) (c : Dev Cert.Kernel.nD) :
    r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3) :=
  ⟨(h.1 c Cert.Kernel.Sck.a0' (by decide)).trans (Cert.Kernel.Sck.V3_off m c (by decide) (by decide) (by decide)),
    (h.1 c Cert.Kernel.Sck.a1' (by decide)).trans (Cert.Kernel.Sck.V3_off m c (by decide) (by decide) (by decide)),
    (h.1 c Cert.Kernel.Sck.a2' (by decide)).trans (Cert.Kernel.Sck.V3_off m c (by decide) (by decide) (by decide)),
    (h.1 c Cert.Kernel.Sck.a3' (by decide)).trans (Cert.Kernel.Sck.V3_off m c (by decide) (by decide) (by decide))⟩

/-- The arguments' arrays, at the end. -/
theorem idealArgs {F : FTy → Type} [FloatOps F] {m : (ℓ : Loc Cert.KernelIdeal.nD Cert.KernelIdeal.τ Cert.KernelIdeal.sig) → Buf (Elt F) ℓ}
    {r : PUnit × MemSt Cert.KernelIdeal.nD Cert.KernelIdeal.τ Cert.KernelIdeal.sig (Elt F)} (h : Cert.KernelIdeal.Sck.QC m r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) :=
  ⟨(h.1 c Cert.KernelIdeal.Sck.a0' (by decide)).trans (Cert.KernelIdeal.Sck.V3_off m c (by decide) (by decide) (by decide)),
    (h.1 c Cert.KernelIdeal.Sck.a1' (by decide)).trans (Cert.KernelIdeal.Sck.V3_off m c (by decide) (by decide) (by decide)),
    (h.1 c Cert.KernelIdeal.Sck.a2' (by decide)).trans (Cert.KernelIdeal.Sck.V3_off m c (by decide) (by decide) (by decide)),
    (h.1 c Cert.KernelIdeal.Sck.a3' (by decide)).trans (Cert.KernelIdeal.Sck.V3_off m c (by decide) (by decide) (by decide))⟩

theorem frame_kernel : Cert.quiescent_Kernel := fun m g h =>
  (θ_run _ _ _).mono (fun _ hr => ⟨args hr, hr.2⟩)
    (Cert.Kernel.Sck.run_main m g fun d j => Cert.Range.range_of_in_range _ _ _ _ (h d) j)

theorem frame_ideal : Cert.quiescent_KernelIdeal := fun m g h =>
  (θ_run _ _ _).mono (fun _ hr => ⟨idealArgs hr, hr.2⟩)
    (Cert.KernelIdeal.Sck.run_main m g fun d j => Cert.Range.range_of_in_range _ _ _ _ (h d) j)

theorem frame_ideal_pre : Cert.quiescent_KernelIdeal_pre_pre := fun m g h =>
  (θ_run _ _ _).mono (fun _ hr => ⟨idealArgs hr, hr.2⟩)
    (Cert.KernelIdeal.Sck.run_main m g fun d j => (Cert.Range.all_of_pre _ _ _ _ (h d)).1 j)

/-- The reference declares no semaphore. -/
theorem ref_sems : Cert.ReferenceIdeal.sig.nSem + Cert.ReferenceIdeal.sig.nDmaSem = 0 := rfl

theorem frame_ref : Cert.quiescent_ReferenceIdeal := fun m g _ =>
  (θ_run _ _ _).mono (fun r hr => ⟨fun c => (hr c).2, sem_eq_zero_of_no_sems ref_sems r.2⟩) (Cert.ReferenceIdeal.Value.run m g)

theorem frame_ref_pre : Cert.quiescent_ReferenceIdeal_pre_pre := fun m g _ => frame_ref m g trivial

/-- The kernel's result is the reference's, on every device. -/
theorem values_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (h : Cert.Pre_KernelIdeal_pre m)
    (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.res_main_v4 m' c = Cert.KernelIdeal.Sck.V3 m c Cert.KernelIdeal.Sck.o' := by
  obtain ⟨hx, hh, hp, hD⟩ := Cert.Range.all_of_pre _ _ _ _ (h c)
  choose hr hh using hh
  choose pr hp using hp
  choose Dr hD using hD
  have hx' : ∀ i, (m' ((c.tc : Thread Cert.ReferenceIdeal.nD Cert.ReferenceIdeal.τ).loc Cert.ReferenceIdeal.main_arg1) i : BitVec 32).toNat < 4096 := fun i => by
    rw [e1]; exact hx i
  have hY : ∀ i, ((truncf .bf16 (m ((SparseCore.T c).loc Cert.KernelIdeal.main_arg3) : FVec Ideal Cert.KernelIdeal.S4096x1024 .f32) Cert.KernelIdeal.Gen.bitsLt_bf16_f32 :
      FVec Ideal Cert.KernelIdeal.S4096x1024 .bf16) i : EReal) = ((Dr i : ℝ) : EReal) := fun i => hD i
  rw [Cert.KernelIdeal.Sck.V3_o]
  funext i
  have hi : i = ValueIdx.ix2 (n0 := 2048) (n1 := 1024) (i 0) (i 1) := by
    funext a
    match a with
    | ⟨0, _⟩ => rfl
    | ⟨1, _⟩ => rfl
  rw [hi]
  have p := Cert.KernelIdeal.Sck.product_at m c hr pr Dr hx (funext hh) (funext hp) _ hY (i 0) (i 1)
  refine (Cert.ReferenceIdeal.Combined.result_at m' c hr pr Dr hx' (e0.trans (funext hh)) (e2.trans (funext hp)) (e3.trans (funext hD)) (i 0) (i 1)).trans ?_
  refine Eq.trans ?_ p.symm
  refine Finset.sum_congr rfl fun k _ => ?_
  have e : ∀ u v : BitVec 32, u = v → ∀ (hu : u.toNat < 4096) (hv : v.toNat < 4096), (⟨u.toNat, hu⟩ : Fin 4096) = ⟨v.toNat, hv⟩ :=
    fun u v h _ _ => Fin.ext (congrArg BitVec.toNat h)
  rw [e _ _ (congrFun e1 _) (hx' _) (hx _)]

theorem same_values : Cert.algebraic_KernelIdeal_ReferenceIdeal_pre_pre := fun m g m' g' h ha => by
  refine ⟨fun c => Cert.KernelIdeal.Sck.V3 m c Cert.KernelIdeal.Sck.o', ?_, ?_⟩
  · refine (θ_run _ _ _).mono (fun r hr c => ⟨hr.1 c Cert.KernelIdeal.Sck.o' (by decide), idealArgs hr c⟩)
      (Cert.KernelIdeal.Sck.run_main m g fun d j => (Cert.Range.all_of_pre _ _ _ _ (h d)).1 j)
  · refine (θ_run _ _ _).mono (fun r hr c => ⟨(hr c).1.trans ?_, (hr c).2⟩) (Cert.ReferenceIdeal.Value.run m' g')
    obtain ⟨e0, e1, e2, e3⟩ := ha c
    exact values_eq m m' h c e0 e1 e2 e3

theorem frame_hidden : Cert.quiescent_Hidden := fun m g _ => Cert.Hidden.Gen.frame m g

theorem frame_hidden_ideal : Cert.quiescent_HiddenIdeal := fun m g _ => Cert.HiddenIdeal.Gen.frame m g

theorem hidden_ref_sems : Cert.HiddenReferenceIdeal.sig.nSem + Cert.HiddenReferenceIdeal.sig.nDmaSem = 0 := rfl

theorem frame_hidden_ref : Cert.quiescent_HiddenReferenceIdeal := fun m g _ =>
  (θ_run _ _ _).mono (fun r hr => ⟨fun c => (hr c).2, sem_eq_zero_of_no_sems hidden_ref_sems r.2⟩) (Cert.HiddenReferenceIdeal.Value.run m g)

theorem same_hidden : Cert.algebraic_HiddenIdeal_HiddenReferenceIdeal := fun m g m' g' _ ha => by
  refine ⟨fun c => Cert.HiddenIdeal.Sck.hVal m c, ?_, ?_⟩
  · exact (θ_run _ _ _).mono (fun r hr c => ⟨(hr c).1.trans (Cert.HiddenIdeal.Sck.arr_hidden m c), (hr c).2⟩) (Cert.HiddenIdeal.Value.run_blocks m g)
  · refine (θ_run _ _ _).mono (fun r hr c => ⟨(hr c).1.trans ?_, (hr c).2⟩) (Cert.HiddenReferenceIdeal.Value.run m' g')
    obtain ⟨e0, e1, e2⟩ := ha c
    rw [e0, e1, e2]
    exact Cert.HiddenReferenceIdeal.Sck.term_eq _ _ _

theorem frame_route : Cert.quiescent_Route := fun m g _ => Cert.Route.Gen.frame m g

theorem frame_route_ideal : Cert.quiescent_RouteIdeal := fun m g _ => Cert.RouteIdeal.Gen.frame m g

theorem frame_route_ideal_pre : Cert.quiescent_RouteIdeal_pre_finite := fun m g _ => Cert.RouteIdeal.Gen.frame m g

theorem route_ref_sems : Cert.RouteReferenceIdeal.sig.nSem + Cert.RouteReferenceIdeal.sig.nDmaSem = 0 := rfl

theorem frame_route_ref : Cert.quiescent_RouteReferenceIdeal := fun m g _ =>
  (θ_run _ _ _).mono (fun r hr => ⟨fun c => (hr c).2.2.2, sem_eq_zero_of_no_sems route_ref_sems r.2⟩) (Cert.RouteReferenceIdeal.Value.run m g)

theorem frame_route_ref_pre : Cert.quiescent_RouteReferenceIdeal_pre_finite := fun m g _ => frame_route_ref m g trivial

theorem same_route : Cert.algebraic_RouteIdeal_RouteReferenceIdeal_pre_finite := fun m g m' g' h ha => by
  refine ⟨fun c => Cert.RouteIdeal.Sck.hidVal m c, fun c => Cert.RouteIdeal.Sck.idxVal m c, fun c => Cert.RouteIdeal.Sck.pwVal m c, ?_, ?_⟩
  · exact (θ_run _ _ _).mono (fun r hr c => ⟨(hr c).1.trans (Cert.RouteIdeal.Sck.arr_hid m c), (hr c).2.1.trans (Cert.RouteIdeal.Sck.arr_idx m c),
      (hr c).2.2.1.trans (Cert.RouteIdeal.Sck.arr_pw m c), (hr c).2.2.2⟩) (Cert.RouteIdeal.Value.run_blocks m g)
  · refine (θ_run _ _ _).mono (fun r hr c => ?_) (Cert.RouteReferenceIdeal.Value.run m' g')
    obtain ⟨e0, e1, e2, e3⟩ := ha c
    have hf := Cert.RouteSame.all_of_finite _ _ _ _ (h c)
    rw [← e0, ← e1, ← e2] at hf
    exact ⟨(hr c).1.trans (Cert.RouteSame.hid_eq m c _ _ e0 e3), (hr c).2.1.trans (Cert.RouteSame.idx_eq m m' c e0 e1 e2 hf),
      (hr c).2.2.1.trans (Cert.RouteSame.pw_eq m m' c e0 e1 e2 hf), (hr c).2.2.2⟩

theorem claim : Cert.Claim :=
  ⟨Cert.Kernel.Gen.facts, Cert.KernelIdeal.Gen.facts, Cert.ReferenceIdeal.Gen.facts, Cert.Hidden.Gen.facts, Cert.HiddenIdeal.Gen.facts,
    Cert.HiddenReferenceIdeal.Gen.facts, Cert.Route.Gen.facts, Cert.RouteIdeal.Gen.facts, Cert.RouteReferenceIdeal.Gen.facts,
    Cert.Pre_in_range.Gen.facts, Cert.Pre_pre.Gen.facts, Cert.Pre_finite.Gen.facts,
    frame_kernel, frame_ideal, frame_ideal_pre, frame_ref, frame_ref_pre, frame_hidden, frame_hidden_ideal, frame_hidden_ref,
    frame_route, frame_route_ideal, frame_route_ideal_pre, frame_route_ref, frame_route_ref_pre,
    trivial, same_values, trivial, same_hidden, trivial, same_route⟩

end Cert.Proof

end
